-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def Pre_Pre (m : (ℓ : Loc Cert.Pre.nD Cert.Pre.τ Cert.Pre.sig) → Buf (Elt Bits) ℓ) : Prop :=
  True

def Pre_PreIdeal (m : (ℓ : Loc Cert.PreIdeal.nD Cert.PreIdeal.τ Cert.PreIdeal.sig) → Buf (Elt Ideal) ℓ) : Prop :=
  True

def Pre_PreRefIdeal (m : (ℓ : Loc Cert.PreRefIdeal.nD Cert.PreRefIdeal.τ Cert.PreRefIdeal.sig) → Buf (Elt Ideal) ℓ) : Prop :=
  True

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Pre [hPre : Cert.Pre.Facts] : Prop :=
  ∀ (m : (ℓ : Loc Cert.Pre.nD Cert.Pre.τ Cert.Pre.sig) → Buf (Elt Bits) ℓ) (g : Dev Cert.Pre.nD → PrngReg), Pre_Pre m →
    θ_run (Cert.Pre.defs (F := Bits)) (onTc (τ := Cert.Pre.τ) (Cert.Pre.main (F := Bits))) ⟨m, fun _ => 0, g⟩ (fun r => (∀ c : Dev Cert.Pre.nD,
      r.2.mem ((c.tc : Thread Cert.Pre.nD Cert.Pre.τ).loc Cert.Pre.main_arg0) = m ((c.tc : Thread Cert.Pre.nD Cert.Pre.τ).loc Cert.Pre.main_arg0)
      ∧ r.2.mem ((c.tc : Thread Cert.Pre.nD Cert.Pre.τ).loc Cert.Pre.main_arg1) = m ((c.tc : Thread Cert.Pre.nD Cert.Pre.τ).loc Cert.Pre.main_arg1)
      ∧ r.2.mem ((c.tc : Thread Cert.Pre.nD Cert.Pre.τ).loc Cert.Pre.main_arg2) = m ((c.tc : Thread Cert.Pre.nD Cert.Pre.τ).loc Cert.Pre.main_arg2)
      ∧ r.2.mem ((c.tc : Thread Cert.Pre.nD Cert.Pre.τ).loc Cert.Pre.main_arg3) = m ((c.tc : Thread Cert.Pre.nD Cert.Pre.τ).loc Cert.Pre.main_arg3)
      ∧ r.2.mem ((c.tc : Thread Cert.Pre.nD Cert.Pre.τ).loc Cert.Pre.main_arg4) = m ((c.tc : Thread Cert.Pre.nD Cert.Pre.τ).loc Cert.Pre.main_arg4))
      ∧ r.2.sem = fun _ => 0)

def quiescent_PreIdeal [hPreIdeal : Cert.PreIdeal.Facts] : Prop :=
  ∀ (m : (ℓ : Loc Cert.PreIdeal.nD Cert.PreIdeal.τ Cert.PreIdeal.sig) → Buf (Elt Ideal) ℓ) (g : Dev Cert.PreIdeal.nD → PrngReg), Pre_PreIdeal m →
    θ_run (Cert.PreIdeal.defs (F := Ideal)) (onTc (τ := Cert.PreIdeal.τ) (Cert.PreIdeal.main (F := Ideal))) ⟨m, fun _ => 0, g⟩ (fun r => (∀ c : Dev Cert.PreIdeal.nD,
      r.2.mem ((c.tc : Thread Cert.PreIdeal.nD Cert.PreIdeal.τ).loc Cert.PreIdeal.main_arg0) = m ((c.tc : Thread Cert.PreIdeal.nD Cert.PreIdeal.τ).loc Cert.PreIdeal.main_arg0)
      ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
      ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
      ∧ r.2.mem ((c.tc : Thread Cert.PreIdeal.nD Cert.PreIdeal.τ).loc Cert.PreIdeal.main_arg3) = m ((c.tc : Thread Cert.PreIdeal.nD Cert.PreIdeal.τ).loc Cert.PreIdeal.main_arg3)
      ∧ r.2.mem ((c.tc : Thread Cert.PreIdeal.nD Cert.PreIdeal.τ).loc Cert.PreIdeal.main_arg4) = m ((c.tc : Thread Cert.PreIdeal.nD Cert.PreIdeal.τ).loc Cert.PreIdeal.main_arg4))
      ∧ r.2.sem = fun _ => 0)

def quiescent_PreRefIdeal [hPreRefIdeal : Cert.PreRefIdeal.Facts] : Prop :=
  ∀ (m : (ℓ : Loc Cert.PreRefIdeal.nD Cert.PreRefIdeal.τ Cert.PreRefIdeal.sig) → Buf (Elt Ideal) ℓ) (g : Dev Cert.PreRefIdeal.nD → PrngReg), Pre_PreRefIdeal m →
    θ_run (Cert.PreRefIdeal.defs (F := Ideal)) (onTc (τ := Cert.PreRefIdeal.τ) (Cert.PreRefIdeal.main (F := Ideal))) ⟨m, fun _ => 0, g⟩ (fun r => (∀ c : Dev Cert.PreRefIdeal.nD,
      r.2.mem ((c.tc : Thread Cert.PreRefIdeal.nD Cert.PreRefIdeal.τ).loc Cert.PreRefIdeal.main_arg0) = m ((c.tc : Thread Cert.PreRefIdeal.nD Cert.PreRefIdeal.τ).loc Cert.PreRefIdeal.main_arg0)
      ∧ r.2.mem ((c.tc : Thread Cert.PreRefIdeal.nD Cert.PreRefIdeal.τ).loc Cert.PreRefIdeal.main_arg1) = m ((c.tc : Thread Cert.PreRefIdeal.nD Cert.PreRefIdeal.τ).loc Cert.PreRefIdeal.main_arg1)
      ∧ r.2.mem ((c.tc : Thread Cert.PreRefIdeal.nD Cert.PreRefIdeal.τ).loc Cert.PreRefIdeal.main_arg2) = m ((c.tc : Thread Cert.PreRefIdeal.nD Cert.PreRefIdeal.τ).loc Cert.PreRefIdeal.main_arg2)
      ∧ r.2.mem ((c.tc : Thread Cert.PreRefIdeal.nD Cert.PreRefIdeal.τ).loc Cert.PreRefIdeal.main_arg3) = m ((c.tc : Thread Cert.PreRefIdeal.nD Cert.PreRefIdeal.τ).loc Cert.PreRefIdeal.main_arg3)
      ∧ r.2.mem ((c.tc : Thread Cert.PreRefIdeal.nD Cert.PreRefIdeal.τ).loc Cert.PreRefIdeal.main_arg4) = m ((c.tc : Thread Cert.PreRefIdeal.nD Cert.PreRefIdeal.τ).loc Cert.PreRefIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Pre_PreIdeal : Prop :=
  True

def algebraic_PreIdeal_PreRefIdeal [hPreIdeal : Cert.PreIdeal.Facts] [hPreRefIdeal : Cert.PreRefIdeal.Facts] : Prop :=
  ∀ (m : (ℓ : Loc Cert.PreIdeal.nD Cert.PreIdeal.τ Cert.PreIdeal.sig) → Buf (Elt Ideal) ℓ) (g : Dev Cert.PreIdeal.nD → PrngReg)
    (m' : (ℓ : Loc Cert.PreRefIdeal.nD Cert.PreRefIdeal.τ Cert.PreRefIdeal.sig) → Buf (Elt Ideal) ℓ) (g' : Dev Cert.PreRefIdeal.nD → PrngReg), Pre_PreIdeal m →
    (∀ c : Dev Cert.PreIdeal.nD,
      m' ((c.tc : Thread Cert.PreRefIdeal.nD Cert.PreRefIdeal.τ).loc Cert.PreRefIdeal.main_arg0) = m ((c.tc : Thread Cert.PreIdeal.nD Cert.PreIdeal.τ).loc Cert.PreIdeal.main_arg0)
      ∧ m' ((c.tc : Thread Cert.PreRefIdeal.nD Cert.PreRefIdeal.τ).loc Cert.PreRefIdeal.main_arg1) = m ((c.tc : Thread Cert.PreIdeal.nD Cert.PreIdeal.τ).loc Cert.PreIdeal.main_arg1)
      ∧ m' ((c.tc : Thread Cert.PreRefIdeal.nD Cert.PreRefIdeal.τ).loc Cert.PreRefIdeal.main_arg2) = m ((c.tc : Thread Cert.PreIdeal.nD Cert.PreIdeal.τ).loc Cert.PreIdeal.main_arg2)
      ∧ m' ((c.tc : Thread Cert.PreRefIdeal.nD Cert.PreRefIdeal.τ).loc Cert.PreRefIdeal.main_arg3) = m ((c.tc : Thread Cert.PreIdeal.nD Cert.PreIdeal.τ).loc Cert.PreIdeal.main_arg3)
      ∧ m' ((c.tc : Thread Cert.PreRefIdeal.nD Cert.PreRefIdeal.τ).loc Cert.PreRefIdeal.main_arg4) = m ((c.tc : Thread Cert.PreIdeal.nD Cert.PreIdeal.τ).loc Cert.PreIdeal.main_arg4)) →
    ∃ (v0 : (c : Dev Cert.PreIdeal.nD) → Buf (Elt Ideal) ((c.tc : Thread Cert.PreIdeal.nD Cert.PreIdeal.τ).loc Cert.PreIdeal.main_v5_0)) (v1 : (c : Dev Cert.PreIdeal.nD) → Buf (Elt Ideal) ((c.tc : Thread Cert.PreIdeal.nD Cert.PreIdeal.τ).loc Cert.PreIdeal.main_v5_1)) (v2 : (c : Dev Cert.PreIdeal.nD) → Buf (Elt Ideal) ((c.tc : Thread Cert.PreIdeal.nD Cert.PreIdeal.τ).loc Cert.PreIdeal.main_v5_2)) (v3 : (c : Dev Cert.PreIdeal.nD) → Buf (Elt Ideal) ((c.tc : Thread Cert.PreIdeal.nD Cert.PreIdeal.τ).loc Cert.PreIdeal.main_v5_3)),
      θ_run (Cert.PreIdeal.defs (F := Ideal)) (onTc (τ := Cert.PreIdeal.τ) (Cert.PreIdeal.main (F := Ideal))) ⟨m, fun _ => 0, g⟩ (fun r => ∀ c : Dev Cert.PreIdeal.nD,
          r.2.mem ((c.tc : Thread Cert.PreIdeal.nD Cert.PreIdeal.τ).loc Cert.PreIdeal.main_v5_0) = v0 c
          ∧ r.2.mem ((c.tc : Thread Cert.PreIdeal.nD Cert.PreIdeal.τ).loc Cert.PreIdeal.main_v5_1) = v1 c
          ∧ r.2.mem ((c.tc : Thread Cert.PreIdeal.nD Cert.PreIdeal.τ).loc Cert.PreIdeal.main_v5_2) = v2 c
          ∧ r.2.mem ((c.tc : Thread Cert.PreIdeal.nD Cert.PreIdeal.τ).loc Cert.PreIdeal.main_v5_3) = v3 c
          ∧ r.2.mem ((c.tc : Thread Cert.PreIdeal.nD Cert.PreIdeal.τ).loc Cert.PreIdeal.main_arg0) = m ((c.tc : Thread Cert.PreIdeal.nD Cert.PreIdeal.τ).loc Cert.PreIdeal.main_arg0)
          ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
          ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
          ∧ r.2.mem ((c.tc : Thread Cert.PreIdeal.nD Cert.PreIdeal.τ).loc Cert.PreIdeal.main_arg3) = m ((c.tc : Thread Cert.PreIdeal.nD Cert.PreIdeal.τ).loc Cert.PreIdeal.main_arg3)
          ∧ r.2.mem ((c.tc : Thread Cert.PreIdeal.nD Cert.PreIdeal.τ).loc Cert.PreIdeal.main_arg4) = m ((c.tc : Thread Cert.PreIdeal.nD Cert.PreIdeal.τ).loc Cert.PreIdeal.main_arg4))
      ∧ θ_run (Cert.PreRefIdeal.defs (F := Ideal)) (onTc (τ := Cert.PreRefIdeal.τ) (Cert.PreRefIdeal.main (F := Ideal))) ⟨m', fun _ => 0, g'⟩ (fun r => ∀ c : Dev Cert.PreRefIdeal.nD,
          r.2.mem ((c.tc : Thread Cert.PreRefIdeal.nD Cert.PreRefIdeal.τ).loc Cert.PreRefIdeal.main_v53) = v0 c
          ∧ r.2.mem ((c.tc : Thread Cert.PreRefIdeal.nD Cert.PreRefIdeal.τ).loc Cert.PreRefIdeal.main_v54) = v1 c
          ∧ r.2.mem ((c.tc : Thread Cert.PreRefIdeal.nD Cert.PreRefIdeal.τ).loc Cert.PreRefIdeal.main_v55) = v2 c
          ∧ r.2.mem ((c.tc : Thread Cert.PreRefIdeal.nD Cert.PreRefIdeal.τ).loc Cert.PreRefIdeal.main_v56) = v3 c
          ∧ r.2.mem ((c.tc : Thread Cert.PreRefIdeal.nD Cert.PreRefIdeal.τ).loc Cert.PreRefIdeal.main_arg0) = m' ((c.tc : Thread Cert.PreRefIdeal.nD Cert.PreRefIdeal.τ).loc Cert.PreRefIdeal.main_arg0)
          ∧ r.2.mem ((c.tc : Thread Cert.PreRefIdeal.nD Cert.PreRefIdeal.τ).loc Cert.PreRefIdeal.main_arg1) = m' ((c.tc : Thread Cert.PreRefIdeal.nD Cert.PreRefIdeal.τ).loc Cert.PreRefIdeal.main_arg1)
          ∧ r.2.mem ((c.tc : Thread Cert.PreRefIdeal.nD Cert.PreRefIdeal.τ).loc Cert.PreRefIdeal.main_arg2) = m' ((c.tc : Thread Cert.PreRefIdeal.nD Cert.PreRefIdeal.τ).loc Cert.PreRefIdeal.main_arg2)
          ∧ r.2.mem ((c.tc : Thread Cert.PreRefIdeal.nD Cert.PreRefIdeal.τ).loc Cert.PreRefIdeal.main_arg3) = m' ((c.tc : Thread Cert.PreRefIdeal.nD Cert.PreRefIdeal.τ).loc Cert.PreRefIdeal.main_arg3)
          ∧ r.2.mem ((c.tc : Thread Cert.PreRefIdeal.nD Cert.PreRefIdeal.τ).loc Cert.PreRefIdeal.main_arg4) = m' ((c.tc : Thread Cert.PreRefIdeal.nD Cert.PreRefIdeal.τ).loc Cert.PreRefIdeal.main_arg4))

def Claim : Prop :=
  ∃ (hKernel : Cert.Kernel.Facts) (hKernelIdeal : Cert.KernelIdeal.Facts) (hReferenceIdeal : Cert.ReferenceIdeal.Facts) (hPre : Cert.Pre.Facts) (hPreIdeal : Cert.PreIdeal.Facts) (hPreRefIdeal : Cert.PreRefIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ quiescent_Pre (hPre := hPre)
    ∧ quiescent_PreIdeal (hPreIdeal := hPreIdeal)
    ∧ quiescent_PreRefIdeal (hPreRefIdeal := hPreRefIdeal)
    ∧ preserves_Kernel_KernelIdeal
    ∧ algebraic_KernelIdeal_ReferenceIdeal (hKernelIdeal := hKernelIdeal) (hReferenceIdeal := hReferenceIdeal) (hPre_in_range := hPre_in_range)
    ∧ preserves_Pre_PreIdeal
    ∧ algebraic_PreIdeal_PreRefIdeal (hPreIdeal := hPreIdeal) (hPreRefIdeal := hPreRefIdeal)
-- ==== Pre_in_range.lean ====
abbrev S216 : Shape := ⟨1, ![216]⟩
abbrev S55296 : Shape := ⟨1, ![55296]⟩
abbrev S49152x2048 : Shape := ⟨2, ![49152, 2048]⟩
abbrev S2x2048x4 : Shape := ⟨3, ![2, 2048, 4]⟩
abbrev S2x4 : Shape := ⟨2, ![2, 4]⟩
abbrev S2x2048x16 : Shape := ⟨3, ![2, 2048, 16]⟩
abbrev S2x16 : Shape := ⟨2, ![2, 16]⟩
abbrev S2x16x2048x512 : Shape := ⟨4, ![2, 16, 2048, 512]⟩
abbrev S2x16x512x2048 : Shape := ⟨4, ![2, 16, 512, 2048]⟩
abbrev S_ : Shape := ⟨0, ![]⟩

class Facts : Prop where
  bcast_S_S216 : S_.BroadcastsInDim S216 (![] : Fin 0 → Fin S216.rank)
  reducesTo_S216_S_d0 : S216.ReducesTo [0] S_
  h_S_ : 0 < S_.numel
  bcast_S_S55296 : S_.BroadcastsInDim S55296 (![] : Fin 0 → Fin S55296.rank)
  reducesTo_S55296_S_d0 : S55296.ReducesTo [0] S_

variable [Facts]

def fn_part1 {F : FTy → Type} [FloatOps F] (main_arg3 : IVec S55296 32) (main_v12 : IVec S_ 1) (main_v15 : IVec S_ 1) : IVec S_ 1 :=
  let main_v16 : IVec S_ 1 := andi main_v12 main_v15
  let main_c_7 : IVec S_ 32 := constantI S_ 32 0#32
  let main_v17 : IVec S55296 32 := broadcastInDim S55296 ![] bcast_S_S55296 main_c_7
  let main_v18 : IVec S55296 1 := cmpi .sge main_arg3 main_v17
  let main_c_8 : IVec S_ 32 := constantI S_ 32 49152#32
  let main_v19 : IVec S55296 32 := broadcastInDim S55296 ![] bcast_S_S55296 main_c_8
  let main_v20 : IVec S55296 1 := cmpi .slt main_arg3 main_v19
  let main_v21 : IVec S55296 1 := andi main_v18 main_v20
  let main_c_9 : IVec S_ 1 := constantI S_ 1 1#1
  let main_v22 : IVec S_ 1 := (fun x v => Host.reduce IntOp.andi x v reducesTo_S55296_S_d0 h_S_) main_v21 main_c_9
  let main_v23 : IVec S_ 1 := andi main_v16 main_v22
  main_v23

def fn {F : FTy → Type} [FloatOps F] (main_arg0 : IVec S216 32) (main_arg1 : IVec S216 32) (main_arg2 : IVec S216 32) (main_arg3 : IVec S55296 32) (main_arg4 : FVec F S49152x2048 .f32) (main_arg5 : FVec F S2x2048x4 .f32) (main_arg6 : FVec F S2x4 .f32) (main_arg7 : FVec F S2x2048x16 .f32) (main_arg8 : FVec F S2x16 .f32) (main_arg9 : FVec F S2x16x2048x512 .f32) (main_arg10 : FVec F S2x16x2048x512 .f32) (main_arg11 : FVec F S2x16x512x2048 .f32) : IVec S_ 1 :=
  let main_c : IVec S_ 32 := constantI S_ 32 0#32
  let main_v0 : IVec S216 32 := broadcastInDim S216 ![] bcast_S_S216 main_c
  let main_v1 : IVec S216 1 := cmpi .sge main_arg0 main_v0
  let main_c_0 : IVec S_ 32 := constantI S_ 32 16#32
  let main_v2 : IVec S216 32 := broadcastInDim S216 ![] bcast_S_S216 main_c_0
  let main_v3 : IVec S216 1 := cmpi .slt main_arg0 main_v2
  let main_v4 : IVec S216 1 := andi main_v1 main_v3
  let main_c_1 : IVec S_ 1 := constantI S_ 1 1#1
  let main_v5 : IVec S_ 1 := (fun x v => Host.reduce IntOp.andi x v reducesTo_S216_S_d0 h_S_) main_v4 main_c_1
  let main_c_2 : IVec S_ 32 := constantI S_ 32 0#32
  let main_v6 : IVec S216 32 := broadcastInDim S216 ![] bcast_S_S216 main_c_2
  let main_v7 : IVec S216 1 := cmpi .sge main_arg1 main_v6
  let main_c_3 : IVec S_ 32 := constantI S_ 32 16#32
  let main_v8 : IVec S216 32 := broadcastInDim S216 ![] bcast_S_S216 main_c_3
  let main_v9 : IVec S216 1 := cmpi .slt main_arg1 main_v8
  let main_v10 : IVec S216 1 := andi main_v7 main_v9
  let main_c_4 : IVec S_ 1 := constantI S_ 1 1#1
  let main_v11 : IVec S_ 1 := (fun x v => Host.reduce IntOp.andi x v reducesTo_S216_S_d0 h_S_) main_v10 main_c_4
  let main_v12 : IVec S_ 1 := andi main_v5 main_v11
  let main_c_5 : IVec S_ 32 := constantI S_ 32 0#32
  let main_v13 : IVec S216 32 := broadcastInDim S216 ![] bcast_S_S216 main_c_5
  let main_v14 : IVec S216 1 := cmpi .sge main_arg2 main_v13
  let main_c_6 : IVec S_ 1 := constantI S_ 1 1#1
  let main_v15 : IVec S_ 1 := (fun x v => Host.reduce IntOp.andi x v reducesTo_S216_S_d0 h_S_) main_v14 main_c_6
  fn_part1 (F := F) main_arg3 main_v12 main_v15
-- ==== Kernel.lean ====
abbrev S216 : Shape := ⟨1, ![216]⟩
abbrev S55296 : Shape := ⟨1, ![55296]⟩
abbrev S49152x2048 : Shape := ⟨2, ![49152, 2048]⟩
abbrev S2x2048x4 : Shape := ⟨3, ![2, 2048, 4]⟩
abbrev S2x4 : Shape := ⟨2, ![2, 4]⟩
abbrev S2x2048x16 : Shape := ⟨3, ![2, 2048, 16]⟩
abbrev S2x16 : Shape := ⟨2, ![2, 16]⟩
abbrev S2x16x2048x512 : Shape := ⟨4, ![2, 16, 2048, 512]⟩
abbrev S2x16x512x2048 : Shape := ⟨4, ![2, 16, 512, 2048]⟩
abbrev S2x16x2048x1024 : Shape := ⟨4, ![2, 16, 2048, 1024]⟩
abbrev S_ : Shape := ⟨0, ![]⟩
abbrev S2x2048x12 : Shape := ⟨3, ![2, 2048, 12]⟩
abbrev S2x2048x32 : Shape := ⟨3, ![2, 2048, 32]⟩
abbrev S2x2048x128 : Shape := ⟨3, ![2, 2048, 128]⟩
abbrev S2x12 : Shape := ⟨2, ![2, 12]⟩
abbrev S2x32 : Shape := ⟨2, ![2, 32]⟩
abbrev S2x128 : Shape := ⟨2, ![2, 128]⟩
abbrev S2x1x128 : Shape := ⟨3, ![2, 1, 128]⟩
abbrev S49152x16x128 : Shape := ⟨3, ![49152, 16, 128]⟩
abbrev S49152x1x128 : Shape := ⟨3, ![49152, 1, 128]⟩
abbrev S49152x17x128 : Shape := ⟨3, ![49152, 17, 128]⟩
abbrev S835584x128 : Shape := ⟨2, ![835584, 128]⟩
abbrev S940032x128 : Shape := ⟨2, ![940032, 128]⟩
abbrev S1x2048x128 : Shape := ⟨3, ![1, 2048, 128]⟩
abbrev S1x1x128 : Shape := ⟨3, ![1, 1, 128]⟩
abbrev S1x1x2048x1024 : Shape := ⟨4, ![1, 1, 2048, 1024]⟩
abbrev S1 : Shape := ⟨1, ![1]⟩
abbrev S1x1x512x2048 : Shape := ⟨4, ![1, 1, 512, 2048]⟩
abbrev S4352x128 : Shape := ⟨2, ![4352, 128]⟩
abbrev S2x4352x128 : Shape := ⟨3, ![2, 4352, 128]⟩
abbrev S2 : Shape := ⟨1, ![2]⟩
abbrev S1x4352x128 : Shape := ⟨3, ![1, 4352, 128]⟩
abbrev S17x128 : Shape := ⟨2, ![17, 128]⟩
abbrev S256x128 : Shape := ⟨2, ![256, 128]⟩
abbrev S256x2048 : Shape := ⟨2, ![256, 2048]⟩
abbrev S2048x128 : Shape := ⟨2, ![2048, 128]⟩
abbrev S1x128 : Shape := ⟨2, ![1, 128]⟩
abbrev S256 : Shape := ⟨1, ![256]⟩
abbrev S256x1 : Shape := ⟨2, ![256, 1]⟩
abbrev S2048x1024 : Shape := ⟨2, ![2048, 1024]⟩
abbrev S256x1024 : Shape := ⟨2, ![256, 1024]⟩
abbrev S256x512 : Shape := ⟨2, ![256, 512]⟩
abbrev S512x2048 : Shape := ⟨2, ![512, 2048]⟩
abbrev S55296x17x128 : Shape := ⟨3, ![55296, 17, 128]⟩
abbrev S55296x16x128 : Shape := ⟨3, ![55296, 16, 128]⟩
abbrev S55296x2048 : Shape := ⟨2, ![55296, 2048]⟩

abbrev nBuf : Space → Nat
  | .hbm => 34
  | .vmem => 13
  | .smem => 4
  | _ => 0

abbrev bufTy : (tb : Table) → Fin (tcTables nBuf tb) → BufTy
  | .hbm, ⟨0, _⟩ => ⟨S49152x2048, .f32⟩
  | .hbm, ⟨1, _⟩ => ⟨S2x2048x4, .f32⟩
  | .hbm, ⟨2, _⟩ => ⟨S2x4, .f32⟩
  | .hbm, ⟨3, _⟩ => ⟨S2x2048x16, .f32⟩
  | .hbm, ⟨4, _⟩ => ⟨S2x16, .f32⟩
  | .hbm, ⟨5, _⟩ => ⟨S2x16x2048x512, .f32⟩
  | .hbm, ⟨6, _⟩ => ⟨S2x16x2048x512, .f32⟩
  | .hbm, ⟨7, _⟩ => ⟨S2x16x512x2048, .f32⟩
  | .hbm, ⟨8, _⟩ => ⟨S2x16x2048x1024, .f32⟩
  | .hbm, ⟨9, _⟩ => ⟨S2x16x2048x1024, .bf16⟩
  | .hbm, ⟨10, _⟩ => ⟨S2x16x512x2048, .bf16⟩
  | .hbm, ⟨11, _⟩ => ⟨S_, .f32⟩
  | .hbm, ⟨12, _⟩ => ⟨S2x2048x12, .f32⟩
  | .hbm, ⟨13, _⟩ => ⟨S2x2048x32, .f32⟩
  | .hbm, ⟨14, _⟩ => ⟨S_, .i32⟩
  | .hbm, ⟨15, _⟩ => ⟨S_, .f32⟩
  | .hbm, ⟨16, _⟩ => ⟨S2x2048x128, .f32⟩
  | .hbm, ⟨17, _⟩ => ⟨S2x2048x128, .bf16⟩
  | .hbm, ⟨18, _⟩ => ⟨S_, .f32⟩
  | .hbm, ⟨19, _⟩ => ⟨S2x12, .f32⟩
  | .hbm, ⟨20, _⟩ => ⟨S2x32, .f32⟩
  | .hbm, ⟨21, _⟩ => ⟨S_, .i32⟩
  | .hbm, ⟨22, _⟩ => ⟨S_, .f32⟩
  | .hbm, ⟨23, _⟩ => ⟨S2x128, .f32⟩
  | .hbm, ⟨24, _⟩ => ⟨S2x1x128, .f32⟩
  | .hbm, ⟨25, _⟩ => ⟨S49152x16x128, .f32⟩
  | .hbm, ⟨26, _⟩ => ⟨S_, .f32⟩
  | .hbm, ⟨27, _⟩ => ⟨S49152x1x128, .f32⟩
  | .hbm, ⟨28, _⟩ => ⟨S49152x17x128, .f32⟩
  | .hbm, ⟨29, _⟩ => ⟨S835584x128, .f32⟩
  | .hbm, ⟨30, _⟩ => ⟨S940032x128, .f32⟩
  | .hbm, ⟨31, _⟩ => ⟨S55296x17x128, .f32⟩
  | .hbm, ⟨32, _⟩ => ⟨S55296x16x128, .f32⟩
  | .hbm, ⟨33, _⟩ => ⟨S55296x2048, .f32⟩
  | .local _ .vmem, ⟨0, _⟩ => ⟨S1x2048x128, .bf16⟩
  | .local _ .vmem, ⟨1, _⟩ => ⟨S1x1x128, .f32⟩
  | .local _ .vmem, ⟨2, _⟩ => ⟨S1x1x2048x1024, .bf16⟩
  | .local _ .vmem, ⟨3, _⟩ => ⟨S1x1x2048x1024, .bf16⟩
  | .local _ .vmem, ⟨4, _⟩ => ⟨S1x1x512x2048, .bf16⟩
  | .local _ .vmem, ⟨5, _⟩ => ⟨S1x1x512x2048, .bf16⟩
  | .local _ .vmem, ⟨6, _⟩ => ⟨S1x1x2048x1024, .bf16⟩
  | .local _ .vmem, ⟨7, _⟩ => ⟨S1x1x2048x1024, .bf16⟩
  | .local _ .vmem, ⟨8, _⟩ => ⟨S1x1x512x2048, .bf16⟩
  | .local _ .vmem, ⟨9, _⟩ => ⟨S1x1x512x2048, .bf16⟩
  | .local _ .vmem, ⟨10, _⟩ => ⟨S4352x128, .f32⟩
  | .local _ .vmem, ⟨11, _⟩ => ⟨S4352x128, .f32⟩
  | .local _ .vmem, ⟨12, _⟩ => ⟨S2x4352x128, .f32⟩
  | .local _ .smem, ⟨0, _⟩ => ⟨S216, .i32⟩
  | .local _ .smem, ⟨1, _⟩ => ⟨S216, .i32⟩
  | .local _ .smem, ⟨2, _⟩ => ⟨S216, .i32⟩
  | .local _ .smem, ⟨3, _⟩ => ⟨S55296, .i32⟩
  | _, _ => ⟨S49152x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg4 : Ref sig .tc := ⟨.hbm, 0, rfl⟩
abbrev main_arg5 : Ref sig .tc := ⟨.hbm, 1, rfl⟩
abbrev main_arg6 : Ref sig .tc := ⟨.hbm, 2, rfl⟩
abbrev main_arg7 : Ref sig .tc := ⟨.hbm, 3, rfl⟩
abbrev main_arg8 : Ref sig .tc := ⟨.hbm, 4, rfl⟩
abbrev main_arg9 : Ref sig .tc := ⟨.hbm, 5, rfl⟩
abbrev main_arg10 : Ref sig .tc := ⟨.hbm, 6, rfl⟩
abbrev main_arg11 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_c_1 : Ref sig .tc := ⟨.hbm, 21, rfl⟩
abbrev main_call1_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![216], ![false]⟩

abbrev pre0 : Pipeline.Prefetch sig := ⟨4, ![main_arg0.idx, main_arg1.idx, main_arg2.idx, main_arg3.idx], fun | 0 => main_arg0.names | 1 => main_arg1.names | 2 => main_arg2.names | 3 => main_arg3.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32_3 : BitVec 32 := 0#32
  let v12 : BitVec 1 := Scalar.cmpi .eq arg0 c0_i32_3
  let v13 : BitVec 32 := Scalar.extui v12
  let c0_i32_4 : BitVec 32 := 0#32
  let v14 : BitVec 1 := Scalar.cmpi .ne v13 c0_i32_4
  v14

def k0_off2 (i : grid0.Coords) : Fin 1 → Nat :=
  let arg0 : BitVec 32 := BitVec.ofNat 32 (i 0).val
  let v30 : Index := Scalar.indexCast arg0
  ![v30.toNat]
@[reducible] def k0_t1_loop : Scf.Loop 32 :=
  let c0_i32_15 : BitVec 32 := 0#32
  let c256_i32 : BitVec 32 := 256#32
  let v35 : BitVec 32 := Scalar.addi c0_i32_15 c256_i32
  let c1_i32_16 : BitVec 32 := 1#32
  ⟨c0_i32_15, v35, c1_i32_16⟩
def k0_off3 (i : grid0.Coords) (k0_t1 : Fin k0_t1_loop.trips) : Fin 1 → Nat :=
  let c0_i32_19 : BitVec 32 := 0#32
  let arg0 : BitVec 32 := BitVec.ofNat 32 (i 0).val
  let c256_i32_18 : BitVec 32 := 256#32
  let v36 : BitVec 32 := Scalar.muli arg0 c256_i32_18
  let v37 : BitVec 32 := Scalar.addi c0_i32_19 v36
  let c0_i32_15 : BitVec 32 := 0#32
  let c1_i32_16 : BitVec 32 := 1#32
  let arg15 : BitVec 32 := Scf.iv c0_i32_15 c1_i32_16 k0_t1
  let v38 : BitVec 32 := Scalar.addi v37 arg15
  let v39 : Index := Scalar.indexCast v38
  ![v39.toNat]
def k0_off4 (i : grid0.Coords) : Fin 1 → Nat :=
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  ![v11.toNat]
def k0_off5 (i : grid0.Coords) : Fin 3 → Nat :=
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_21 : BitVec 32 := 0#32
  let c0_i32_22 : BitVec 32 := 0#32
  ![v11.toNat, 0, 0]
def k0_off6 (k0_t1 : Fin k0_t1_loop.trips) : Fin 2 → Nat :=
  let c0_i32_15 : BitVec 32 := 0#32
  let c1_i32_16 : BitVec 32 := 1#32
  let arg15 : BitVec 32 := Scf.iv c0_i32_15 c1_i32_16 k0_t1
  let c17_i32_20 : BitVec 32 := 17#32
  let v42 : BitVec 32 := Scalar.muli arg15 c17_i32_20
  let c0_i32_23 : BitVec 32 := 0#32
  ![v42.toNat, 0]
def k0_off7 (v40 : BitVec 32) : Fin 2 → Nat :=
  let c17_i32 : BitVec 32 := 17#32
  let v41 : BitVec 32 := Scalar.muli v40 c17_i32
  let c0_i32_24 : BitVec 32 := 0#32
  ![v41.toNat, 0]
def k0_cond2 (v31 : BitVec 32) : BitVec 1 :=
  let c0_i32_13 : BitVec 32 := 0#32
  let v32 : BitVec 1 := Scalar.cmpi .sgt v31 c0_i32_13
  let v33 : BitVec 32 := Scalar.extui v32
  let c0_i32_14 : BitVec 32 := 0#32
  let v34 : BitVec 1 := Scalar.cmpi .ne v33 c0_i32_14
  v34

def k0_chk1 (i : grid0.Coords) (v31 : BitVec 32) (v40 : BitVec 32) : Prop :=
  (∀ (k0_h1 : k0_cond1 i = 1#1), ∀ (k0_h2 : k0_cond2 v31 = 1#1), ∀ a, (k0_off7 v40) a + S17x128.size a ≤ S835584x128.size a)
theorem k0_off7_inb : ∀ (i : grid0.Coords) (v31 : BitVec 32) (v40 : BitVec 32) (k0_hw1 : k0_chk1 i v31 v40), ∀ (k0_h1 : k0_cond1 i = 1#1), ∀ (k0_h2 : k0_cond2 v31 = 1#1), ∀ a, (k0_off7 v40) a + S17x128.size a ≤ S835584x128.size a := fun i v31 v40 k0_hw1 k0_h1 k0_h2 => k0_hw1 k0_h1 k0_h2

def k0_cond3 (i : grid0.Coords) : BitVec 1 :=
  let arg0 : BitVec 32 := BitVec.ofNat 32 (i 0).val
  let c1_i32_5 : BitVec 32 := 1#32
  let v15 : BitVec 32 := Scalar.addi arg0 c1_i32_5
  let c216_i32 : BitVec 32 := 216#32
  let v16 : BitVec 1 := Scalar.cmpi .slt v15 c216_i32
  let v17 : BitVec 32 := Scalar.extui v16
  let c0_i32_6 : BitVec 32 := 0#32
  let v18 : BitVec 1 := Scalar.cmpi .ne v17 c0_i32_6
  v18

def k0_off8 (i : grid0.Coords) : Fin 1 → Nat :=
  let arg0 : BitVec 32 := BitVec.ofNat 32 (i 0).val
  let c1_i32_13 : BitVec 32 := 1#32
  let v30 : BitVec 32 := Scalar.addi arg0 c1_i32_13
  let v32 : Index := Scalar.indexCast v30
  ![v32.toNat]
@[reducible] def k0_t2_loop : Scf.Loop 32 :=
  let c0_i32_17 : BitVec 32 := 0#32
  let c256_i32 : BitVec 32 := 256#32
  let v37 : BitVec 32 := Scalar.addi c0_i32_17 c256_i32
  let c1_i32_18 : BitVec 32 := 1#32
  ⟨c0_i32_17, v37, c1_i32_18⟩
def k0_off9 (i : grid0.Coords) (k0_t2 : Fin k0_t2_loop.trips) : Fin 1 → Nat :=
  let c0_i32_21 : BitVec 32 := 0#32
  let arg0 : BitVec 32 := BitVec.ofNat 32 (i 0).val
  let c1_i32_13 : BitVec 32 := 1#32
  let v30 : BitVec 32 := Scalar.addi arg0 c1_i32_13
  let c256_i32_20 : BitVec 32 := 256#32
  let v38 : BitVec 32 := Scalar.muli v30 c256_i32_20
  let v39 : BitVec 32 := Scalar.addi c0_i32_21 v38
  let c0_i32_17 : BitVec 32 := 0#32
  let c1_i32_18 : BitVec 32 := 1#32
  let arg15 : BitVec 32 := Scf.iv c0_i32_17 c1_i32_18 k0_t2
  let v40 : BitVec 32 := Scalar.addi v39 arg15
  let v41 : Index := Scalar.indexCast v40
  ![v41.toNat]
def k0_off10 (i : grid0.Coords) : Fin 1 → Nat :=
  let c1_i32_14 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v31 : BitVec 32 := Scalar.subi c1_i32_14 v11
  ![v31.toNat]
def k0_off11 (i : grid0.Coords) : Fin 3 → Nat :=
  let c1_i32_14 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v31 : BitVec 32 := Scalar.subi c1_i32_14 v11
  let c0_i32_23 : BitVec 32 := 0#32
  let c0_i32_24 : BitVec 32 := 0#32
  ![v31.toNat, 0, 0]
def k0_off12 (k0_t2 : Fin k0_t2_loop.trips) : Fin 2 → Nat :=
  let c0_i32_17 : BitVec 32 := 0#32
  let c1_i32_18 : BitVec 32 := 1#32
  let arg15 : BitVec 32 := Scf.iv c0_i32_17 c1_i32_18 k0_t2
  let c17_i32_22 : BitVec 32 := 17#32
  let v44 : BitVec 32 := Scalar.muli arg15 c17_i32_22
  let c0_i32_25 : BitVec 32 := 0#32
  ![v44.toNat, 0]
def k0_off13 (v42 : BitVec 32) : Fin 2 → Nat :=
  let c17_i32 : BitVec 32 := 17#32
  let v43 : BitVec 32 := Scalar.muli v42 c17_i32
  let c0_i32_26 : BitVec 32 := 0#32
  ![v43.toNat, 0]
def k0_cond4 (v33 : BitVec 32) : BitVec 1 :=
  let c0_i32_15 : BitVec 32 := 0#32
  let v34 : BitVec 1 := Scalar.cmpi .sgt v33 c0_i32_15
  let v35 : BitVec 32 := Scalar.extui v34
  let c0_i32_16 : BitVec 32 := 0#32
  let v36 : BitVec 1 := Scalar.cmpi .ne v35 c0_i32_16
  v36

def k0_chk2 (i : grid0.Coords) (v33 : BitVec 32) (v42 : BitVec 32) : Prop :=
  (∀ (k0_h3 : k0_cond3 i = 1#1), ∀ (k0_h4 : k0_cond4 v33 = 1#1), ∀ a, (k0_off13 v42) a + S17x128.size a ≤ S835584x128.size a)
theorem k0_off13_inb : ∀ (i : grid0.Coords) (v33 : BitVec 32) (v42 : BitVec 32) (k0_hw2 : k0_chk2 i v33 v42), ∀ (k0_h3 : k0_cond3 i = 1#1), ∀ (k0_h4 : k0_cond4 v33 = 1#1), ∀ a, (k0_off13 v42) a + S17x128.size a ≤ S835584x128.size a := fun i v33 v42 k0_hw2 k0_h3 k0_h4 => k0_hw2 k0_h3 k0_h4

@[reducible] def k0_t3_loop : Scf.Loop 32 :=
  let c0_i32_13 : BitVec 32 := 0#32
  let c256_i32 : BitVec 32 := 256#32
  let v30 : BitVec 32 := Scalar.addi c0_i32_13 c256_i32
  let c1_i32_14 : BitVec 32 := 1#32
  ⟨c0_i32_13, v30, c1_i32_14⟩
def k0_off14 (i : grid0.Coords) : Fin 1 → Nat :=
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  ![v11.toNat]
def k0_off15 (i : grid0.Coords) : Fin 3 → Nat :=
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_15 : BitVec 32 := 0#32
  let c0_i32_16 : BitVec 32 := 0#32
  ![v11.toNat, 0, 0]
def k0_off16 (i : grid0.Coords) : Fin 3 → Nat :=
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_13 : BitVec 32 := 0#32
  let c0_i32_14 : BitVec 32 := 0#32
  ![v11.toNat, 0, 0]
def k0_off17 (i : grid0.Coords) : Fin 1 → Nat :=
  let arg0 : BitVec 32 := BitVec.ofNat 32 (i 0).val
  let v80 : Index := Scalar.indexCast arg0
  ![v80.toNat]
def k0_cond6 (v1 : BitVec 32) : BitVec 1 :=
  let c0_i32_9 : BitVec 32 := 0#32
  let v24 : BitVec 1 := Scalar.cmpi .sgt v1 c0_i32_9
  let v25 : BitVec 32 := Scalar.extui v24
  let c0_i32_10 : BitVec 32 := 0#32
  let v26 : BitVec 1 := Scalar.cmpi .ne v25 c0_i32_10
  v26

def k0_cond7 (v1 : BitVec 32) : BitVec 1 :=
  let c0_i32_11 : BitVec 32 := 0#32
  let v27 : BitVec 1 := Scalar.cmpi .eq v1 c0_i32_11
  let v28 : BitVec 32 := Scalar.extui v27
  let c0_i32_12 : BitVec 32 := 0#32
  let v29 : BitVec 1 := Scalar.cmpi .ne v28 c0_i32_12
  v29

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (k0_off1_inb : ∀ i : grid0.Coords, ∀ a, (k0_off1 i) a + S1.size a ≤ S216.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S216) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S216.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S216) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (k0_off1_inb : ∀ i : grid0.Coords, ∀ a, (k0_off1 i) a + S1.size a ≤ S216.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S216) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_6 (k0_off1_inb : ∀ i : grid0.Coords, ∀ a, (k0_off1 i) a + S1.size a ≤ S216.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S216) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2048x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4352x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S216 : Shape := ⟨1, ![216]⟩
abbrev S55296 : Shape := ⟨1, ![55296]⟩
abbrev S49152x2048 : Shape := ⟨2, ![49152, 2048]⟩
abbrev S2x2048x4 : Shape := ⟨3, ![2, 2048, 4]⟩
abbrev S2x4 : Shape := ⟨2, ![2, 4]⟩
abbrev S2x2048x16 : Shape := ⟨3, ![2, 2048, 16]⟩
abbrev S2x16 : Shape := ⟨2, ![2, 16]⟩
abbrev S2x16x2048x512 : Shape := ⟨4, ![2, 16, 2048, 512]⟩
abbrev S2x16x512x2048 : Shape := ⟨4, ![2, 16, 512, 2048]⟩
abbrev S216x256 : Shape := ⟨2, ![216, 256]⟩
abbrev S55296x1 : Shape := ⟨2, ![55296, 1]⟩
abbrev S55296x2048 : Shape := ⟨2, ![55296, 2048]⟩
abbrev S_ : Shape := ⟨0, ![]⟩
abbrev S1x2048x4 : Shape := ⟨3, ![1, 2048, 4]⟩
abbrev S2048x4 : Shape := ⟨2, ![2048, 4]⟩
abbrev S55296x4 : Shape := ⟨2, ![55296, 4]⟩
abbrev S1x4 : Shape := ⟨2, ![1, 4]⟩
abbrev S4 : Shape := ⟨1, ![4]⟩
abbrev S55296x1x1 : Shape := ⟨3, ![55296, 1, 1]⟩
abbrev S1x2048x16 : Shape := ⟨3, ![1, 2048, 16]⟩
abbrev S2048x16 : Shape := ⟨2, ![2048, 16]⟩
abbrev S55296x16 : Shape := ⟨2, ![55296, 16]⟩
abbrev S1x16 : Shape := ⟨2, ![1, 16]⟩
abbrev S16 : Shape := ⟨1, ![16]⟩
abbrev S55296x4x4 : Shape := ⟨3, ![55296, 4, 4]⟩
abbrev S55296x4x1 : Shape := ⟨3, ![55296, 4, 1]⟩
abbrev S1x16x2048x512 : Shape := ⟨4, ![1, 16, 2048, 512]⟩
abbrev S16x2048x512 : Shape := ⟨3, ![16, 2048, 512]⟩
abbrev S55296x16x512 : Shape := ⟨3, ![55296, 16, 512]⟩
abbrev S1x16x512x2048 : Shape := ⟨4, ![1, 16, 512, 2048]⟩
abbrev S16x512x2048 : Shape := ⟨3, ![16, 512, 2048]⟩
abbrev S16x55296x2048 : Shape := ⟨3, ![16, 55296, 2048]⟩
abbrev S16x1x1 : Shape := ⟨3, ![16, 1, 1]⟩
abbrev S1x55296x1 : Shape := ⟨3, ![1, 55296, 1]⟩
abbrev S16x55296x1 : Shape := ⟨3, ![16, 55296, 1]⟩

abbrev nBuf : Space → Nat
  | .hbm => 203
  | .vmem => 0
  | .smem => 0
  | _ => 0

abbrev hbmTy0_0 (i : Nat) : BufTy := match i % 128 with
  | 0 => ⟨S216, .i32⟩
  | 1 => ⟨S216, .i32⟩
  | 2 => ⟨S216, .i32⟩
  | 3 => ⟨S55296, .i32⟩
  | 4 => ⟨S49152x2048, .f32⟩
  | 5 => ⟨S2x2048x4, .f32⟩
  | 6 => ⟨S2x4, .f32⟩
  | 7 => ⟨S2x2048x16, .f32⟩
  | 8 => ⟨S2x16, .f32⟩
  | 9 => ⟨S2x16x2048x512, .f32⟩
  | 10 => ⟨S2x16x2048x512, .f32⟩
  | 11 => ⟨S2x16x512x2048, .f32⟩
  | 12 => ⟨S216x256, .i32⟩
  | 13 => ⟨S55296, .i32⟩
  | 14 => ⟨S216x256, .i32⟩
  | 15 => ⟨S55296, .i32⟩
  | 16 => ⟨S216x256, .i32⟩
  | 17 => ⟨S55296, .i32⟩
  | 18 => ⟨S55296x1, .i32⟩
  | 19 => ⟨S55296x2048, .f32⟩
  | 20 => ⟨S_, .i32⟩
  | 21 => ⟨S_, .i32⟩
  | 22 => ⟨S55296, .i32⟩
  | 23 => ⟨S55296, .i32⟩
  | 24 => ⟨S55296, .i32⟩
  | 25 => ⟨S_, .i32⟩
  | 26 => ⟨S55296, .i32⟩
  | 27 => ⟨S55296, .i1⟩
  | 28 => ⟨S55296, .i32⟩
  | 29 => ⟨S55296, .i32⟩
  | 30 => ⟨S_, .i32⟩
  | 31 => ⟨S55296, .i32⟩
  | 32 => ⟨S55296, .i1⟩
  | 33 => ⟨S55296, .i1⟩
  | 34 => ⟨S_, .i32⟩
  | 35 => ⟨S55296, .i32⟩
  | 36 => ⟨S55296, .i32⟩
  | 37 => ⟨S55296, .i32⟩
  | 38 => ⟨S1x2048x4, .f32⟩
  | 39 => ⟨S2048x4, .f32⟩
  | 40 => ⟨S55296x4, .f32⟩
  | 41 => ⟨S1x4, .f32⟩
  | 42 => ⟨S4, .f32⟩
  | 43 => ⟨S1x4, .f32⟩
  | 44 => ⟨S55296x4, .f32⟩
  | 45 => ⟨S55296x4, .f32⟩
  | 46 => ⟨S_, .f32⟩
  | 47 => ⟨S55296, .f32⟩
  | 48 => ⟨S_, .f32⟩
  | 49 => ⟨S55296, .f32⟩
  | 50 => ⟨S55296, .f32⟩
  | 51 => ⟨S55296x1, .f32⟩
  | 52 => ⟨S55296x4, .f32⟩
  | 53 => ⟨S55296x4, .f32⟩
  | 54 => ⟨S55296x4, .f32⟩
  | 55 => ⟨S_, .f32⟩
  | 56 => ⟨S55296, .f32⟩
  | 57 => ⟨S55296x1, .f32⟩
  | 58 => ⟨S55296x4, .f32⟩
  | 59 => ⟨S55296x4, .f32⟩
  | 60 => ⟨S55296x1, .i32⟩
  | 61 => ⟨S_, .i32⟩
  | 62 => ⟨S55296x1, .i32⟩
  | 63 => ⟨S55296x1, .i1⟩
  | 64 => ⟨S_, .i32⟩
  | 65 => ⟨S55296x1, .i32⟩
  | 66 => ⟨S55296x1, .i32⟩
  | 67 => ⟨S55296x1, .i32⟩
  | 68 => ⟨S55296x1x1, .i32⟩
  | 69 => ⟨S55296x1, .f32⟩
  | 70 => ⟨S1x2048x16, .f32⟩
  | 71 => ⟨S2048x16, .f32⟩
  | 72 => ⟨S55296x16, .f32⟩
  | 73 => ⟨S1x16, .f32⟩
  | 74 => ⟨S16, .f32⟩
  | 75 => ⟨S1x16, .f32⟩
  | 76 => ⟨S55296x16, .f32⟩
  | 77 => ⟨S55296x16, .f32⟩
  | 78 => ⟨S55296x4x4, .f32⟩
  | 79 => ⟨S_, .f32⟩
  | 80 => ⟨S55296x4, .f32⟩
  | 81 => ⟨S_, .f32⟩
  | 82 => ⟨S55296x4, .f32⟩
  | 83 => ⟨S55296x4, .f32⟩
  | 84 => ⟨S55296x4x1, .f32⟩
  | 85 => ⟨S55296x4x4, .f32⟩
  | 86 => ⟨S55296x4x4, .f32⟩
  | 87 => ⟨S55296x4x4, .f32⟩
  | 88 => ⟨S_, .f32⟩
  | 89 => ⟨S55296x4, .f32⟩
  | 90 => ⟨S55296x4x1, .f32⟩
  | 91 => ⟨S55296x4x4, .f32⟩
  | 92 => ⟨S55296x4x4, .f32⟩
  | 93 => ⟨S55296x16, .f32⟩
  | 94 => ⟨S55296x1, .i32⟩
  | 95 => ⟨S_, .i32⟩
  | 96 => ⟨S55296x1, .i32⟩
  | 97 => ⟨S55296x1, .i1⟩
  | 98 => ⟨S_, .i32⟩
  | 99 => ⟨S55296x1, .i32⟩
  | 100 => ⟨S55296x1, .i32⟩
  | 101 => ⟨S55296x1, .i32⟩
  | 102 => ⟨S55296x1x1, .i32⟩
  | 103 => ⟨S55296x1, .f32⟩
  | 104 => ⟨S_, .i32⟩
  | 105 => ⟨S55296, .i32⟩
  | 106 => ⟨S55296, .i32⟩
  | 107 => ⟨S_, .i32⟩
  | 108 => ⟨S_, .i32⟩
  | 109 => ⟨S_, .i32⟩
  | 110 => ⟨S_, .i1⟩
  | 111 => ⟨S_, .i32⟩
  | 112 => ⟨S_, .i32⟩
  | 113 => ⟨S55296, .i32⟩
  | 114 => ⟨S55296, .i32⟩
  | 115 => ⟨S_, .i32⟩
  | 116 => ⟨S55296, .i32⟩
  | 117 => ⟨S55296, .i1⟩
  | 118 => ⟨S_, .i32⟩
  | 119 => ⟨S55296, .i32⟩
  | 120 => ⟨S55296, .i1⟩
  | 121 => ⟨S_, .i32⟩
  | 122 => ⟨S_, .i1⟩
  | 123 => ⟨S55296, .i1⟩
  | 124 => ⟨S55296, .i1⟩
  | 125 => ⟨S55296, .i1⟩
  | 126 => ⟨S55296, .i32⟩
  | 127 => ⟨S55296, .i32⟩
  | _ => ⟨S216, .i32⟩

abbrev hbmTy0_1 (i : Nat) : BufTy := match i % 128 with
  | 0 => ⟨S55296, .i32⟩
  | 1 => ⟨S55296, .i32⟩
  | 2 => ⟨S55296x1, .i32⟩
  | 3 => ⟨S_, .i32⟩
  | 4 => ⟨S55296x1, .i32⟩
  | 5 => ⟨S55296x1, .i1⟩
  | 6 => ⟨S_, .i32⟩
  | 7 => ⟨S55296x1, .i32⟩
  | 8 => ⟨S55296x1, .i32⟩
  | 9 => ⟨S55296x1, .i32⟩
  | 10 => ⟨S55296x1x1, .i32⟩
  | 11 => ⟨S55296x1, .f32⟩
  | 12 => ⟨S55296x1, .f32⟩
  | 13 => ⟨S55296x1, .f32⟩
  | 14 => ⟨S55296x1, .f32⟩
  | 15 => ⟨S55296x1, .f32⟩
  | 16 => ⟨S55296x1, .f32⟩
  | 17 => ⟨S55296x1, .f32⟩
  | 18 => ⟨S1x16x2048x512, .f32⟩
  | 19 => ⟨S16x2048x512, .f32⟩
  | 20 => ⟨S55296x16x512, .f32⟩
  | 21 => ⟨S55296x16x512, .f32⟩
  | 22 => ⟨S55296x16x512, .f32⟩
  | 23 => ⟨S_, .f32⟩
  | 24 => ⟨S55296x16x512, .f32⟩
  | 25 => ⟨S55296x16x512, .f32⟩
  | 26 => ⟨S_, .f32⟩
  | 27 => ⟨S55296x16x512, .f32⟩
  | 28 => ⟨S55296x16x512, .f32⟩
  | 29 => ⟨S55296x16x512, .f32⟩
  | 30 => ⟨S1x16x2048x512, .f32⟩
  | 31 => ⟨S16x2048x512, .f32⟩
  | 32 => ⟨S55296x16x512, .f32⟩
  | 33 => ⟨S55296x16x512, .f32⟩
  | 34 => ⟨S1x16x512x2048, .f32⟩
  | 35 => ⟨S16x512x2048, .f32⟩
  | 36 => ⟨S16x55296x2048, .f32⟩
  | 37 => ⟨S16, .i32⟩
  | 38 => ⟨S16x1x1, .i32⟩
  | 39 => ⟨S55296x1, .i32⟩
  | 40 => ⟨S1x55296x1, .i32⟩
  | 41 => ⟨S16x55296x1, .i32⟩
  | 42 => ⟨S16x55296x1, .i32⟩
  | 43 => ⟨S16x55296x1, .i1⟩
  | 44 => ⟨S_, .f32⟩
  | 45 => ⟨S_, .f32⟩
  | 46 => ⟨S16x55296x1, .f32⟩
  | 47 => ⟨S16x55296x1, .f32⟩
  | 48 => ⟨S16x55296x1, .f32⟩
  | 49 => ⟨S16x55296x2048, .f32⟩
  | 50 => ⟨S16x55296x2048, .f32⟩
  | 51 => ⟨S55296x1, .i32⟩
  | 52 => ⟨S1x55296x1, .i32⟩
  | 53 => ⟨S16x55296x1, .i32⟩
  | 54 => ⟨S16x55296x1, .i32⟩
  | 55 => ⟨S16x55296x1, .i1⟩
  | 56 => ⟨S_, .f32⟩
  | 57 => ⟨S_, .f32⟩
  | 58 => ⟨S16x55296x1, .f32⟩
  | 59 => ⟨S16x55296x1, .f32⟩
  | 60 => ⟨S16x55296x1, .f32⟩
  | 61 => ⟨S16x55296x2048, .f32⟩
  | 62 => ⟨S16x55296x2048, .f32⟩
  | 63 => ⟨S16x55296x2048, .f32⟩
  | 64 => ⟨S_, .f32⟩
  | 65 => ⟨S55296x2048, .f32⟩
  | 66 => ⟨S55296x1, .i32⟩
  | 67 => ⟨S_, .i32⟩
  | 68 => ⟨S55296x1, .i32⟩
  | 69 => ⟨S55296x1, .i1⟩
  | 70 => ⟨S_, .f32⟩
  | 71 => ⟨S_, .f32⟩
  | 72 => ⟨S55296x2048, .i1⟩
  | 73 => ⟨S55296x2048, .f32⟩
  | 74 => ⟨S55296x2048, .f32⟩
  | _ => ⟨S216, .i32⟩

abbrev hbmTy (i : Nat) : BufTy := match i / 128 with
  | 0 => hbmTy0_0 i
  | 1 => hbmTy0_1 i
  | _ => ⟨S216, .i32⟩

abbrev bufTy : (tb : Table) → Fin (tcTables nBuf tb) → BufTy
  | .hbm, ⟨i, _⟩ => hbmTy i
  | _, _ => ⟨S216, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_call0_v0 : Ref sig .tc := ⟨.hbm, 18, rfl⟩
abbrev main_v6 : Ref sig .tc := ⟨.hbm, 19, rfl⟩
abbrev main_c : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_v6 : Ref sig .tc := ⟨.hbm, 27, rfl⟩
abbrev main_call1_v7 : Ref sig .tc := ⟨.hbm, 28, rfl⟩
abbrev main_call1_v8 : Ref sig .tc := ⟨.hbm, 29, rfl⟩
abbrev main_call1_c : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_0 : Ref sig .tc := ⟨.hbm, 34, rfl⟩
abbrev main_call1_v12 : Ref sig .tc := ⟨.hbm, 35, rfl⟩
abbrev main_call1_v13 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_cst : Ref sig .tc := ⟨.hbm, 46, rfl⟩
abbrev main_v16 : Ref sig .tc := ⟨.hbm, 47, rfl⟩
abbrev main_cst_0 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_cst_1 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_call2_c : Ref sig .tc := ⟨.hbm, 61, rfl⟩
abbrev main_call2_v0 : Ref sig .tc := ⟨.hbm, 62, rfl⟩
abbrev main_call2_v1 : Ref sig .tc := ⟨.hbm, 63, rfl⟩
abbrev main_call2_c_0 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_v5 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_cst_2 : Ref sig .tc := ⟨.hbm, 79, rfl⟩
abbrev main_v38 : Ref sig .tc := ⟨.hbm, 80, rfl⟩
abbrev main_cst_3 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_cst_4 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_call3_c : Ref sig .tc := ⟨.hbm, 95, rfl⟩
abbrev main_call3_v0 : Ref sig .tc := ⟨.hbm, 96, rfl⟩
abbrev main_call3_v1 : Ref sig .tc := ⟨.hbm, 97, rfl⟩
abbrev main_call3_c_0 : Ref sig .tc := ⟨.hbm, 98, rfl⟩
abbrev main_call3_v2 : Ref sig .tc := ⟨.hbm, 99, rfl⟩
abbrev main_call3_v3 : Ref sig .tc := ⟨.hbm, 100, rfl⟩
abbrev main_call3_v4 : Ref sig .tc := ⟨.hbm, 101, rfl⟩
abbrev main_call3_v5 : Ref sig .tc := ⟨.hbm, 102, rfl⟩
abbrev main_v51 : Ref sig .tc := ⟨.hbm, 103, rfl⟩
abbrev main_c_5 : Ref sig .tc := ⟨.hbm, 104, rfl⟩
abbrev main_v52 : Ref sig .tc := ⟨.hbm, 105, rfl⟩
abbrev main_v53 : Ref sig .tc := ⟨.hbm, 106, rfl⟩
abbrev main_c_6 : Ref sig .tc := ⟨.hbm, 107, rfl⟩
abbrev main_call4_v0 : Ref sig .tc := ⟨.hbm, 108, rfl⟩
abbrev main_call4_c : Ref sig .tc := ⟨.hbm, 109, rfl⟩
abbrev main_call4_v1 : Ref sig .tc := ⟨.hbm, 110, rfl⟩
abbrev main_call4_c_0 : Ref sig .tc := ⟨.hbm, 111, rfl⟩
abbrev main_call4_v2 : Ref sig .tc := ⟨.hbm, 112, rfl⟩
abbrev main_call4_v3 : Ref sig .tc := ⟨.hbm, 113, rfl⟩
abbrev main_call4_v4 : Ref sig .tc := ⟨.hbm, 114, rfl⟩
abbrev main_call4_c_1 : Ref sig .tc := ⟨.hbm, 115, rfl⟩
abbrev main_call4_v5 : Ref sig .tc := ⟨.hbm, 116, rfl⟩
abbrev main_call4_v6 : Ref sig .tc := ⟨.hbm, 117, rfl⟩
abbrev main_call4_c_2 : Ref sig .tc := ⟨.hbm, 118, rfl⟩
abbrev main_call4_v7 : Ref sig .tc := ⟨.hbm, 119, rfl⟩
abbrev main_call4_v8 : Ref sig .tc := ⟨.hbm, 120, rfl⟩
abbrev main_call4_c_3 : Ref sig .tc := ⟨.hbm, 121, rfl⟩
abbrev main_call4_v9 : Ref sig .tc := ⟨.hbm, 122, rfl⟩
abbrev main_call4_v10 : Ref sig .tc := ⟨.hbm, 123, rfl⟩
abbrev main_call4_v11 : Ref sig .tc := ⟨.hbm, 124, rfl⟩
abbrev main_call4_v12 : Ref sig .tc := ⟨.hbm, 125, rfl⟩
abbrev main_call4_v13 : Ref sig .tc := ⟨.hbm, 126, rfl⟩
abbrev main_call4_v14 : Ref sig .tc := ⟨.hbm, 127, rfl⟩
abbrev main_v54 : Ref sig .tc := ⟨.hbm, 128, rfl⟩
abbrev main_v55 : Ref sig .tc := ⟨.hbm, 129, rfl⟩
abbrev main_v56 : Ref sig .tc := ⟨.hbm, 130, rfl⟩
abbrev main_call5_c : Ref sig .tc := ⟨.hbm, 131, rfl⟩
abbrev main_call5_v0 : Ref sig .tc := ⟨.hbm, 132, rfl⟩
abbrev main_call5_v1 : Ref sig .tc := ⟨.hbm, 133, rfl⟩
abbrev main_call5_c_0 : Ref sig .tc := ⟨.hbm, 134, rfl⟩
abbrev main_call5_v2 : Ref sig .tc := ⟨.hbm, 135, rfl⟩
abbrev main_call5_v3 : Ref sig .tc := ⟨.hbm, 136, rfl⟩
abbrev main_call5_v4 : Ref sig .tc := ⟨.hbm, 137, rfl⟩
abbrev main_call5_v5 : Ref sig .tc := ⟨.hbm, 138, rfl⟩
abbrev main_v57 : Ref sig .tc := ⟨.hbm, 139, rfl⟩
abbrev main_v58 : Ref sig .tc := ⟨.hbm, 140, rfl⟩
abbrev main_v59 : Ref sig .tc := ⟨.hbm, 141, rfl⟩
abbrev main_v60 : Ref sig .tc := ⟨.hbm, 142, rfl⟩
abbrev main_v61 : Ref sig .tc := ⟨.hbm, 143, rfl⟩
abbrev main_v62 : Ref sig .tc := ⟨.hbm, 144, rfl⟩
abbrev main_v63 : Ref sig .tc := ⟨.hbm, 145, rfl⟩
abbrev main_v64 : Ref sig .tc := ⟨.hbm, 146, rfl⟩
abbrev main_v65 : Ref sig .tc := ⟨.hbm, 147, rfl⟩
abbrev main_v66 : Ref sig .tc := ⟨.hbm, 148, rfl⟩
abbrev main_call6_v0 : Ref sig .tc := ⟨.hbm, 149, rfl⟩
abbrev main_call6_v1 : Ref sig .tc := ⟨.hbm, 150, rfl⟩
abbrev main_call6_cst : Ref sig .tc := ⟨.hbm, 151, rfl⟩
abbrev main_call6_v2 : Ref sig .tc := ⟨.hbm, 152, rfl⟩
abbrev main_call6_v3 : Ref sig .tc := ⟨.hbm, 153, rfl⟩
abbrev main_call6_cst_0 : Ref sig .tc := ⟨.hbm, 154, rfl⟩
abbrev main_call6_v4 : Ref sig .tc := ⟨.hbm, 155, rfl⟩
abbrev main_call6_v5 : Ref sig .tc := ⟨.hbm, 156, rfl⟩
abbrev main_v67 : Ref sig .tc := ⟨.hbm, 157, rfl⟩
abbrev main_v68 : Ref sig .tc := ⟨.hbm, 158, rfl⟩
abbrev main_v69 : Ref sig .tc := ⟨.hbm, 159, rfl⟩
abbrev main_v70 : Ref sig .tc := ⟨.hbm, 160, rfl⟩
abbrev main_v71 : Ref sig .tc := ⟨.hbm, 161, rfl⟩
abbrev main_v72 : Ref sig .tc := ⟨.hbm, 162, rfl⟩
abbrev main_v73 : Ref sig .tc := ⟨.hbm, 163, rfl⟩
abbrev main_v74 : Ref sig .tc := ⟨.hbm, 164, rfl⟩
abbrev main_v75 : Ref sig .tc := ⟨.hbm, 165, rfl⟩
abbrev main_v76 : Ref sig .tc := ⟨.hbm, 166, rfl⟩
abbrev main_v77 : Ref sig .tc := ⟨.hbm, 167, rfl⟩
abbrev main_v78 : Ref sig .tc := ⟨.hbm, 168, rfl⟩
abbrev main_v79 : Ref sig .tc := ⟨.hbm, 169, rfl⟩
abbrev main_v80 : Ref sig .tc := ⟨.hbm, 170, rfl⟩
abbrev main_v81 : Ref sig .tc := ⟨.hbm, 171, rfl⟩
abbrev main_cst_7 : Ref sig .tc := ⟨.hbm, 172, rfl⟩
abbrev main_call7_v0 : Ref sig .tc := ⟨.hbm, 173, rfl⟩
abbrev main_call7_v1 : Ref sig .tc := ⟨.hbm, 174, rfl⟩
abbrev main_call7_v2 : Ref sig .tc := ⟨.hbm, 175, rfl⟩
abbrev main_v82 : Ref sig .tc := ⟨.hbm, 176, rfl⟩
abbrev main_v83 : Ref sig .tc := ⟨.hbm, 177, rfl⟩
abbrev main_v84 : Ref sig .tc := ⟨.hbm, 178, rfl⟩
abbrev main_v85 : Ref sig .tc := ⟨.hbm, 179, rfl⟩
abbrev main_v86 : Ref sig .tc := ⟨.hbm, 180, rfl⟩
abbrev main_v87 : Ref sig .tc := ⟨.hbm, 181, rfl⟩
abbrev main_v88 : Ref sig .tc := ⟨.hbm, 182, rfl⟩
abbrev main_v89 : Ref sig .tc := ⟨.hbm, 183, rfl⟩
abbrev main_cst_8 : Ref sig .tc := ⟨.hbm, 184, rfl⟩
abbrev main_call8_v0 : Ref sig .tc := ⟨.hbm, 185, rfl⟩
abbrev main_call8_v1 : Ref sig .tc := ⟨.hbm, 186, rfl⟩
abbrev main_call8_v2 : Ref sig .tc := ⟨.hbm, 187, rfl⟩
abbrev main_v90 : Ref sig .tc := ⟨.hbm, 188, rfl⟩
abbrev main_v91 : Ref sig .tc := ⟨.hbm, 189, rfl⟩
abbrev main_v92 : Ref sig .tc := ⟨.hbm, 190, rfl⟩
abbrev main_v93 : Ref sig .tc := ⟨.hbm, 191, rfl⟩
abbrev main_cst_9 : Ref sig .tc := ⟨.hbm, 192, rfl⟩
abbrev main_v94 : Ref sig .tc := ⟨.hbm, 193, rfl⟩
abbrev main_v95 : Ref sig .tc := ⟨.hbm, 194, rfl⟩
abbrev main_c_10 : Ref sig .tc := ⟨.hbm, 195, rfl⟩
abbrev main_v96 : Ref sig .tc := ⟨.hbm, 196, rfl⟩
abbrev main_v97 : Ref sig .tc := ⟨.hbm, 197, rfl⟩
abbrev main_cst_11 : Ref sig .tc := ⟨.hbm, 198, rfl⟩
abbrev main_call9_v0 : Ref sig .tc := ⟨.hbm, 199, rfl⟩
abbrev main_call9_v1 : Ref sig .tc := ⟨.hbm, 200, rfl⟩
abbrev main_call9_v2 : Ref sig .tc := ⟨.hbm, 201, rfl⟩
abbrev main_v98 : Ref sig .tc := ⟨.hbm, 202, rfl⟩

abbrev nD : Nat := 1
abbrev τ : Topo := Topo.v7x

variable {F : FTy → Type} [FloatOps F]
-- ==== Pre.lean ====
abbrev S1x16384x2048 : Shape := ⟨3, ![1, 16384, 2048]⟩
abbrev S4x8192x2048 : Shape := ⟨3, ![4, 8192, 2048]⟩
abbrev S2x8x12288 : Shape := ⟨3, ![2, 8, 12288]⟩
abbrev S2x2048 : Shape := ⟨2, ![2, 2048]⟩
abbrev S2x2048x4096 : Shape := ⟨3, ![2, 2048, 4096]⟩
abbrev S16384x2048 : Shape := ⟨2, ![16384, 2048]⟩
abbrev S32768x2048 : Shape := ⟨2, ![32768, 2048]⟩
abbrev S2x8x1x12288 : Shape := ⟨4, ![2, 8, 1, 12288]⟩
abbrev S2x1x2048 : Shape := ⟨3, ![2, 1, 2048]⟩
abbrev S49152x512 : Shape := ⟨2, ![49152, 512]⟩
abbrev S49152x1024 : Shape := ⟨2, ![49152, 1024]⟩
abbrev S256x2048 : Shape := ⟨2, ![256, 2048]⟩
abbrev S1x1x1x12288 : Shape := ⟨4, ![1, 1, 1, 12288]⟩
abbrev S1x1x2048 : Shape := ⟨3, ![1, 1, 2048]⟩
abbrev S1x2048x4096 : Shape := ⟨3, ![1, 2048, 4096]⟩
abbrev S256x512 : Shape := ⟨2, ![256, 512]⟩
abbrev S256x1024 : Shape := ⟨2, ![256, 1024]⟩
abbrev S1x2048 : Shape := ⟨2, ![1, 2048]⟩
abbrev S1x1x1x2048 : Shape := ⟨4, ![1, 1, 1, 2048]⟩
abbrev S256 : Shape := ⟨1, ![256]⟩
abbrev S256x1 : Shape := ⟨2, ![256, 1]⟩
abbrev S1x2048x1024 : Shape := ⟨3, ![1, 2048, 1024]⟩
abbrev S2048x1024 : Shape := ⟨2, ![2048, 1024]⟩
abbrev S1x2048x512 : Shape := ⟨3, ![1, 2048, 512]⟩
abbrev S2048x512 : Shape := ⟨2, ![2048, 512]⟩
abbrev S1x2048x1536 : Shape := ⟨3, ![1, 2048, 1536]⟩
abbrev S2048x1536 : Shape := ⟨2, ![2048, 1536]⟩
abbrev S256x1536 : Shape := ⟨2, ![256, 1536]⟩

abbrev nBuf : Space → Nat
  | .hbm => 14
  | .vmem => 16
  | .smem => 0
  | _ => 0

abbrev bufTy : (tb : Table) → Fin (tcTables nBuf tb) → BufTy
  | .hbm, ⟨0, _⟩ => ⟨S1x16384x2048, .f32⟩
  | .hbm, ⟨1, _⟩ => ⟨S4x8192x2048, .f32⟩
  | .hbm, ⟨2, _⟩ => ⟨S2x8x12288, .f32⟩
  | .hbm, ⟨3, _⟩ => ⟨S2x2048, .f32⟩
  | .hbm, ⟨4, _⟩ => ⟨S2x2048x4096, .f32⟩
  | .hbm, ⟨5, _⟩ => ⟨S16384x2048, .f32⟩
  | .hbm, ⟨6, _⟩ => ⟨S32768x2048, .f32⟩
  | .hbm, ⟨7, _⟩ => ⟨S2x8x1x12288, .f32⟩
  | .hbm, ⟨8, _⟩ => ⟨S2x1x2048, .f32⟩
  | .hbm, ⟨9, _⟩ => ⟨S2x2048x4096, .bf16⟩
  | .hbm, ⟨10, _⟩ => ⟨S49152x512, .bf16⟩
  | .hbm, ⟨11, _⟩ => ⟨S49152x1024, .bf16⟩
  | .hbm, ⟨12, _⟩ => ⟨S49152x512, .bf16⟩
  | .hbm, ⟨13, _⟩ => ⟨S49152x1024, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x1x1x12288, .f32⟩
  | .local _ .vmem, ⟨5, _⟩ => ⟨S1x1x1x12288, .f32⟩
  | .local _ .vmem, ⟨6, _⟩ => ⟨S1x1x2048, .f32⟩
  | .local _ .vmem, ⟨7, _⟩ => ⟨S1x2048x4096, .bf16⟩
  | .local _ .vmem, ⟨8, _⟩ => ⟨S256x512, .bf16⟩
  | .local _ .vmem, ⟨9, _⟩ => ⟨S256x512, .bf16⟩
  | .local _ .vmem, ⟨10, _⟩ => ⟨S256x1024, .bf16⟩
  | .local _ .vmem, ⟨11, _⟩ => ⟨S256x1024, .bf16⟩
  | .local _ .vmem, ⟨12, _⟩ => ⟨S256x512, .bf16⟩
  | .local _ .vmem, ⟨13, _⟩ => ⟨S256x512, .bf16⟩
  | .local _ .vmem, ⟨14, _⟩ => ⟨S256x1024, .bf16⟩
  | .local _ .vmem, ⟨15, _⟩ => ⟨S256x1024, .bf16⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![192], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let c127_i32 : BitVec 32 := 127#32
  let v1 : BitVec 32 := Scalar.maxsi c0_i32 v0
  let v2 : BitVec 32 := Scalar.minsi c127_i32 v1
  let c0_i32_0 : BitVec 32 := 0#32
  let c0_i32_1 : BitVec 32 := 0#32
  ![v2.toNat, c0_i32_0.toNat]

def cc0_transform_2 (i : grid0.Coords) : Fin 4 → Nat :=
  let arg0 : BitVec 32 := BitVec.ofNat 32 (i 0).val
  let c64_i32 : BitVec 32 := 64#32
  let v0 : BitVec 1 := Scalar.cmpi .slt arg0 c64_i32
  let c64_i32_0 : BitVec 32 := 64#32
  let v1 : BitVec 32 := Scalar.subi arg0 c64_i32_0
  let c32_i32 : BitVec 32 := 32#32
  let v2 : BitVec 32 := Scalar.divsi v1 c32_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  let c0_i32_10 : BitVec 32 := 0#32
  ![c0_i32_7.toNat, v20.toNat, c0_i32_8.toNat, c0_i32_9.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x12288 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== PreRefIdeal.lean ====
abbrev S1x16384x2048 : Shape := ⟨3, ![1, 16384, 2048]⟩
abbrev S4x8192x2048 : Shape := ⟨3, ![4, 8192, 2048]⟩
abbrev S2x8x12288 : Shape := ⟨3, ![2, 8, 12288]⟩
abbrev S2x2048 : Shape := ⟨2, ![2, 2048]⟩
abbrev S2x2048x4096 : Shape := ⟨3, ![2, 2048, 4096]⟩
abbrev S16384x2048 : Shape := ⟨2, ![16384, 2048]⟩
abbrev S32768x2048 : Shape := ⟨2, ![32768, 2048]⟩
abbrev S49152x2048 : Shape := ⟨2, ![49152, 2048]⟩
abbrev S1x1x12288 : Shape := ⟨3, ![1, 1, 12288]⟩
abbrev S1x12288 : Shape := ⟨2, ![1, 12288]⟩
abbrev S16384x12288 : Shape := ⟨2, ![16384, 12288]⟩
abbrev S1x4x12288 : Shape := ⟨3, ![1, 4, 12288]⟩
abbrev S4x12288 : Shape := ⟨2, ![4, 12288]⟩
abbrev S4x8192x12288 : Shape := ⟨3, ![4, 8192, 12288]⟩
abbrev S32768x12288 : Shape := ⟨2, ![32768, 12288]⟩
abbrev S49152x12288 : Shape := ⟨2, ![49152, 12288]⟩
abbrev S_ : Shape := ⟨0, ![]⟩
abbrev S49152 : Shape := ⟨1, ![49152]⟩
abbrev S49152x1 : Shape := ⟨2, ![49152, 1]⟩
abbrev S1x2048 : Shape := ⟨2, ![1, 2048]⟩
abbrev S2048 : Shape := ⟨1, ![2048]⟩
abbrev S1x2048x4096 : Shape := ⟨3, ![1, 2048, 4096]⟩
abbrev S2048x4096 : Shape := ⟨2, ![2048, 4096]⟩
abbrev S49152x4096 : Shape := ⟨2, ![49152, 4096]⟩
abbrev S49152x512 : Shape := ⟨2, ![49152, 512]⟩
abbrev S49152x1024 : Shape := ⟨2, ![49152, 1024]⟩

abbrev nBuf : Space → Nat
  | .hbm => 69
  | .vmem => 0
  | .smem => 0
  | _ => 0

abbrev bufTy : (tb : Table) → Fin (tcTables nBuf tb) → BufTy
  | .hbm, ⟨0, _⟩ => ⟨S1x16384x2048, .f32⟩
  | .hbm, ⟨1, _⟩ => ⟨S4x8192x2048, .f32⟩
  | .hbm, ⟨2, _⟩ => ⟨S2x8x12288, .f32⟩
  | .hbm, ⟨3, _⟩ => ⟨S2x2048, .f32⟩
  | .hbm, ⟨4, _⟩ => ⟨S2x2048x4096, .f32⟩
  | .hbm, ⟨5, _⟩ => ⟨S16384x2048, .f32⟩
  | .hbm, ⟨6, _⟩ => ⟨S32768x2048, .f32⟩
  | .hbm, ⟨7, _⟩ => ⟨S49152x2048, .f32⟩
  | .hbm, ⟨8, _⟩ => ⟨S1x1x12288, .f32⟩
  | .hbm, ⟨9, _⟩ => ⟨S1x12288, .f32⟩
  | .hbm, ⟨10, _⟩ => ⟨S16384x12288, .f32⟩
  | .hbm, ⟨11, _⟩ => ⟨S1x4x12288, .f32⟩
  | .hbm, ⟨12, _⟩ => ⟨S4x12288, .f32⟩
  | .hbm, ⟨13, _⟩ => ⟨S4x8192x12288, .f32⟩
  | .hbm, ⟨14, _⟩ => ⟨S32768x12288, .f32⟩
  | .hbm, ⟨15, _⟩ => ⟨S49152x12288, .f32⟩
  | .hbm, ⟨16, _⟩ => ⟨S49152x2048, .f32⟩
  | .hbm, ⟨17, _⟩ => ⟨S_, .f32⟩
  | .hbm, ⟨18, _⟩ => ⟨S49152, .f32⟩
  | .hbm, ⟨19, _⟩ => ⟨S49152x1, .f32⟩
  | .hbm, ⟨20, _⟩ => ⟨S_, .f32⟩
  | .hbm, ⟨21, _⟩ => ⟨S49152x1, .f32⟩
  | .hbm, ⟨22, _⟩ => ⟨S49152x1, .f32⟩
  | .hbm, ⟨23, _⟩ => ⟨S_, .f32⟩
  | .hbm, ⟨24, _⟩ => ⟨S49152x1, .f32⟩
  | .hbm, ⟨25, _⟩ => ⟨S49152x1, .f32⟩
  | .hbm, ⟨26, _⟩ => ⟨S49152x1, .f32⟩
  | .hbm, ⟨27, _⟩ => ⟨S49152x2048, .f32⟩
  | .hbm, ⟨28, _⟩ => ⟨S49152x2048, .f32⟩
  | .hbm, ⟨29, _⟩ => ⟨S1x2048, .f32⟩
  | .hbm, ⟨30, _⟩ => ⟨S2048, .f32⟩
  | .hbm, ⟨31, _⟩ => ⟨S1x2048, .f32⟩
  | .hbm, ⟨32, _⟩ => ⟨S49152x2048, .f32⟩
  | .hbm, ⟨33, _⟩ => ⟨S49152x2048, .f32⟩
  | .hbm, ⟨34, _⟩ => ⟨S49152x2048, .f32⟩
  | .hbm, ⟨35, _⟩ => ⟨S_, .f32⟩
  | .hbm, ⟨36, _⟩ => ⟨S49152x2048, .f32⟩
  | .hbm, ⟨37, _⟩ => ⟨S49152x2048, .f32⟩
  | .hbm, ⟨38, _⟩ => ⟨S49152x2048, .f32⟩
  | .hbm, ⟨39, _⟩ => ⟨S49152x2048, .f32⟩
  | .hbm, ⟨40, _⟩ => ⟨S49152x2048, .f32⟩
  | .hbm, ⟨41, _⟩ => ⟨S1x2048x4096, .f32⟩
  | .hbm, ⟨42, _⟩ => ⟨S2048x4096, .f32⟩
  | .hbm, ⟨43, _⟩ => ⟨S49152x4096, .f32⟩
  | .hbm, ⟨44, _⟩ => ⟨S49152x512, .f32⟩
  | .hbm, ⟨45, _⟩ => ⟨S49152x512, .f32⟩
  | .hbm, ⟨46, _⟩ => ⟨S49152x1024, .f32⟩
  | .hbm, ⟨47, _⟩ => ⟨S49152x512, .f32⟩
  | .hbm, ⟨48, _⟩ => ⟨S49152x512, .f32⟩
  | .hbm, ⟨49, _⟩ => ⟨S49152x512, .f32⟩
  | .hbm, ⟨50, _⟩ => ⟨S49152x512, .f32⟩
  | .hbm, ⟨51, _⟩ => ⟨S49152x512, .f32⟩
  | .hbm, ⟨52, _⟩ => ⟨S49152x512, .f32⟩
  | .hbm, ⟨53, _⟩ => ⟨S_, .f32⟩
  | .hbm, ⟨54, _⟩ => ⟨S49152x512, .f32⟩
  | .hbm, ⟨55, _⟩ => ⟨S49152x512, .f32⟩
  | .hbm, ⟨56, _⟩ => ⟨S_, .f32⟩
  | .hbm, ⟨57, _⟩ => ⟨S49152x512, .f32⟩
  | .hbm, ⟨58, _⟩ => ⟨S49152x512, .f32⟩
  | .hbm, ⟨59, _⟩ => ⟨S49152x512, .f32⟩
  | .hbm, ⟨60, _⟩ => ⟨S_, .f32⟩
  | .hbm, ⟨61, _⟩ => ⟨S49152x1024, .f32⟩
  | .hbm, ⟨62, _⟩ => ⟨S49152x1024, .f32⟩
  | .hbm, ⟨63, _⟩ => ⟨S49152x512, .f32⟩
  | .hbm, ⟨64, _⟩ => ⟨S49152x1024, .f32⟩
  | .hbm, ⟨65, _⟩ => ⟨S49152x512, .bf16⟩
  | .hbm, ⟨66, _⟩ => ⟨S49152x1024, .bf16⟩
  | .hbm, ⟨67, _⟩ => ⟨S49152x512, .bf16⟩
  | .hbm, ⟨68, _⟩ => ⟨S49152x1024, .bf16⟩
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_3 : Ref sig .tc := ⟨.hbm, 53, rfl⟩
abbrev main_v44 : Ref sig .tc := ⟨.hbm, 54, rfl⟩
abbrev main_v45 : Ref sig .tc := ⟨.hbm, 55, rfl⟩
abbrev main_cst_4 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_5 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩

abbrev nD : Nat := 1
abbrev τ : Topo := Topo.v7x

variable {F : FTy → Type} [FloatOps F]
-- ==== Proof.Geom.lean ====
/-
  Hand-written, untrusted. The places the kernel's transfers touch: which rows of the packed token array a gathered row
  is read from, which rows of the two-slot scratch it lands in, and what it leaves there.
-/
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.FrameSuffix
public import Idealize.ShloMosaic.Lib.Pipeline.FrameBody
public import Idealize.ShloMosaic.Lib.Batch
public import Idealize.ShloMosaic.Lib.Ring
public import Idealize.ShloMosaic.Lib.Tactic
public import Idealize.ShloMosaic.Lib.WordCmp
public import Idealize.ShloMosaic.Lib.ValueLayout

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

/-! ## The printed offsets, closed -/

theorem off4_eq : ∀ i : grid0.Coords, k0_off4 i = ![(i 0).val % 2] := by decide +kernel
theorem off5_eq : ∀ i : grid0.Coords, k0_off5 i = ![(i 0).val % 2, 0, 0] := by decide +kernel
theorem off10_eq : ∀ i : grid0.Coords, k0_off10 i = ![((i 0).val + 1) % 2] := by decide +kernel
theorem off11_eq : ∀ i : grid0.Coords, k0_off11 i = ![((i 0).val + 1) % 2, 0, 0] := by decide +kernel
theorem off14_eq : ∀ i : grid0.Coords, k0_off14 i = ![(i 0).val % 2] := by decide +kernel
theorem off15_eq : ∀ i : grid0.Coords, k0_off15 i = ![(i 0).val % 2, 0, 0] := by decide +kernel
theorem off16_eq : ∀ i : grid0.Coords, k0_off16 i = ![(i 0).val % 2, 0, 0] := by decide +kernel
theorem cond1_iff : ∀ i : grid0.Coords, k0_cond1 i = 1#1 ↔ (i 0).val = 0 := by decide +kernel
theorem cond3_iff : ∀ i : grid0.Coords, k0_cond3 i = 1#1 ↔ (i 0).val + 1 < 216 := by decide +kernel
theorem trips1 : k0_t1_loop.trips = 256 := by decide +kernel
theorem trips2 : k0_t2_loop.trips = 256 := by decide +kernel
theorem trips3 : k0_t3_loop.trips = 256 := by decide +kernel
theorem coord_val : ∀ t : Fin grid0.N, ((grid0.coords t) 0).val = t.val := by decide +kernel

theorem mul17 (v : BitVec 32) (h : v.toNat < 49152) : (v * 17#32).toNat = 17 * v.toNat := by
  rw [BitVec.toNat_mul]; simp; omega

theorem off7_eq (v : BitVec 32) (h : v.toNat < 49152) : k0_off7 v = ![17 * v.toNat, 0] := by
  unfold k0_off7
  dsimp only
  rw [show (Scalar.muli v 17#32).toNat = 17 * v.toNat from mul17 v h]

theorem off13_eq (v : BitVec 32) (h : v.toNat < 49152) : k0_off13 v = ![17 * v.toNat, 0] := off7_eq v h

/-! ## The memrefs -/

/-- The packed row group a transfer reads. -/
def srcM (o : Fin 2 → ℕ) (h : ∀ a, o a + S17x128.size a ≤ S835584x128.size a) : Memref sig .tc .hbm S17x128 .f32 :=
  (Memref.whole main_v14).slice (Rect.unit (s := S835584x128) o S17x128.size h) (fun _ => rfl)

/-- A slot of the scratch. -/
def slotM (o : Fin 3 → ℕ) (h : ∀ a, o a + S1x4352x128.size a ≤ S2x4352x128.size a) : Memref sig .tc .vmem S4352x128 .f32 :=
  ((Memref.whole cc0_scratch0).slice (Rect.unit (s := S2x4352x128) o S1x4352x128.size h) (fun _ => rfl)).squeeze S4352x128 squeezes_S1x4352x128_S4352x128

/-- The row group of a slot a transfer writes. -/
def dstM (o : Fin 3 → ℕ) (h : ∀ a, o a + S1x4352x128.size a ≤ S2x4352x128.size a) (o' : Fin 2 → ℕ)
    (h' : ∀ a, o' a + S17x128.size a ≤ S4352x128.size a) : Memref sig .tc .vmem S17x128 .f32 :=
  (slotM o h).slice (Rect.unit (s := S4352x128) o' S17x128.size h') (fun _ => rfl)

/-- The DMA semaphore of a slot. -/
def semM (o : Fin 1 → ℕ) (h : ∀ a, o a + S1.size a ≤ S2.size a) : DmaSem sig :=
  ((cc0_scratch1.slice (Rect.unit (s := S2) o S1.size h)).squeeze S_ squeezes_S1_S_).sem

theorem semM_eq (s : ℕ) (hs : s < 2) (o : Fin 1 → ℕ) (h : ∀ a, o a + S1.size a ≤ S2.size a) (ho : o = ![s]) :
    (SemLoc.dma (semM o h) : SemLoc sig) = SemLoc.dma ⟨12 + s, by change 12 + s < 14; omega⟩ := by
  subst ho
  have hr : ∀ x : S2.Idx, (S2.rowMajor x).val = (x 0).val := by decide
  unfold semM
  rw [SemArray.sem, SemArray.ix_squeeze, SemArray.ix_slice]
  congr 1
  apply Fin.ext
  show 12 + (S2.rowMajor _).val = 12 + s
  rw [hr, Rect.emb_apply]
  show 12 + (s + 1 * _) = 12 + s
  have : ∀ z : Fin 1, 12 + (s + 1 * z.val) = 12 + s := by intro z; omega
  exact this _

def srcset (r : ℕ) : Finset (S835584x128.Idx) := Finset.univ.filter fun y => 17 * r ≤ (y 0).val ∧ (y 0).val < 17 * r + 17
def slotset (s : ℕ) : Finset (S2x4352x128.Idx) := Finset.univ.filter fun y => (y 0).val = s
def rowset (s k : ℕ) : Finset (S2x4352x128.Idx) :=
  Finset.univ.filter fun y => (y 0).val = s ∧ 17 * k ≤ (y 1).val ∧ (y 1).val < 17 * k + 17

theorem srcM_emb (o h) (z : S17x128.Idx) : (srcM o h).view.emb z = (Rect.unit (s := S835584x128) o S17x128.size h).emb z := rfl
theorem dstM_emb (o h o' h') (z : S17x128.Idx) : (dstM o h o' h').view.emb z
    = (Rect.unit (s := S2x4352x128) o S1x4352x128.size h).emb
        (Shape.reshapeEquiv squeezes_S1x4352x128_S4352x128.numel_eq ((Rect.unit (s := S4352x128) o' S17x128.size h').emb z)) := rfl
theorem slotM_emb (o h) (z : S4352x128.Idx) : (slotM o h).view.emb z
    = (Rect.unit (s := S2x4352x128) o S1x4352x128.size h).emb
        (Shape.reshapeEquiv squeezes_S1x4352x128_S4352x128.numel_eq z) := rfl
theorem ix2_eta (z : S4352x128.Idx) : z = ValueIdx.ix2 (z 0) (z 1) := by
  funext a; fin_cases a <;> rfl
theorem reshape_slot (z : S4352x128.Idx) : Shape.reshapeEquiv squeezes_S1x4352x128_S4352x128.numel_eq z
    = ValueIdx.ix3 (⟨0, Nat.one_pos⟩ : Fin 1) (z 0) (z 1) := by
  conv_lhs => rw [ix2_eta z]
  exact ValueIdx.reshapeEquiv_ix2_1ab _ _ _

theorem mem_srcset (r : ℕ) (y : S835584x128.Idx) : y ∈ srcset r ↔ 17 * r ≤ (y 0).val ∧ (y 0).val < 17 * r + 17 := by
  simp [srcset]
theorem mem_slotset (s : ℕ) (y : S2x4352x128.Idx) : y ∈ slotset s ↔ (y 0).val = s := by simp [slotset]
theorem mem_rowset (s k : ℕ) (y : S2x4352x128.Idx) :
    y ∈ rowset s k ↔ (y 0).val = s ∧ 17 * k ≤ (y 1).val ∧ (y 1).val < 17 * k + 17 := by simp [rowset]

theorem srcM_set (r : ℕ) (o h) (ho : o = ![17 * r, 0]) : (srcM o h).view.set = srcset r := by
  subst ho
  refine Finset.ext fun (y : S835584x128.Idx) => Iff.trans ?_ (mem_srcset r y).symm
  constructor
  · intro hy
    obtain ⟨z, -, rfl⟩ := Finset.mem_map.mp hy
    have : (z 0).val < 17 := (z 0).isLt
    show 17 * r ≤ 17 * r + 1 * (z 0).val ∧ 17 * r + 1 * (z 0).val < 17 * r + 17
    omega
  · rintro ⟨h1, h2⟩
    have h3 : (y 1).val < 128 := (y 1).isLt
    refine Finset.mem_map.mpr ⟨ValueIdx.ix2 (⟨(y 0).val - 17 * r, by omega⟩ : Fin 17) (⟨(y 1).val, h3⟩ : Fin 128), Finset.mem_univ _, ?_⟩
    funext a; apply Fin.ext
    match a with
    | ⟨0, _⟩ => show 17 * r + 1 * ((y 0).val - 17 * r) = (y 0).val; omega
    | ⟨1, _⟩ => show 0 + 1 * (y 1).val = (y 1).val; omega

theorem slotM_val (s : ℕ) (o h) (ho : o = ![s, 0, 0]) (z : S4352x128.Idx) (hs : s < 2) :
    ((slotM o h).view.emb z : S2x4352x128.Idx) = ValueIdx.ix3 (⟨s, hs⟩ : Fin 2) (z 0) (z 1) := by
  subst ho
  rw [slotM_emb, reshape_slot]
  funext a; apply Fin.ext
  match a with
  | ⟨0, _⟩ => rfl
  | ⟨1, _⟩ => show 0 + 1 * (z 0).val = (z 0).val; omega
  | ⟨2, _⟩ => show 0 + 1 * (z 1).val = (z 1).val; omega

theorem slotM_set (s : ℕ) (o h) (ho : o = ![s, 0, 0]) (hs : s < 2) : (slotM o h).view.set = slotset s := by
  refine Finset.ext fun (y : S2x4352x128.Idx) => Iff.trans ?_ (mem_slotset s y).symm
  constructor
  · intro hy
    obtain ⟨z, -, rfl⟩ := Finset.mem_map.mp hy
    rw [slotM_val s o h ho z hs]
  · intro h1
    refine Finset.mem_map.mpr ⟨ValueIdx.ix2 (⟨(y 1).val, (y 1).isLt⟩ : Fin 4352) (⟨(y 2).val, (y 2).isLt⟩ : Fin 128), Finset.mem_univ _, ?_⟩
    rw [slotM_val s o h ho _ hs]
    funext a; apply Fin.ext
    match a with
    | ⟨0, _⟩ => exact h1.symm
    | ⟨1, _⟩ => rfl
    | ⟨2, _⟩ => rfl

theorem dstM_val (s k : ℕ) (o h o' h') (ho : o = ![s, 0, 0]) (ho' : o' = ![17 * k, 0]) (hs : s < 2) (hk : k < 256) (z : S17x128.Idx) :
    ((dstM o h o' h').view.emb z : S2x4352x128.Idx)
      = ValueIdx.ix3 (⟨s, hs⟩ : Fin 2) (⟨17 * k + (z 0).val, by have : (z 0).val < 17 := (z 0).isLt; omega⟩ : Fin 4352) (z 1) := by
  subst ho'
  show ((slotM o h).view.emb ((Rect.unit (s := S4352x128) ![17 * k, 0] S17x128.size h').emb z) : S2x4352x128.Idx) = _
  rw [slotM_val s o h ho _ hs]
  funext a; apply Fin.ext
  match a with
  | ⟨0, _⟩ => rfl
  | ⟨1, _⟩ => show 17 * k + 1 * (z 0).val = 17 * k + (z 0).val; omega
  | ⟨2, _⟩ => show 0 + 1 * (z 1).val = (z 1).val; omega

theorem dstM_set (s k : ℕ) (o h o' h') (ho : o = ![s, 0, 0]) (ho' : o' = ![17 * k, 0]) (hs : s < 2) (hk : k < 256) :
    (dstM o h o' h').view.set = rowset s k := by
  refine Finset.ext fun (y : S2x4352x128.Idx) => Iff.trans ?_ (mem_rowset s k y).symm
  constructor
  · intro hy
    obtain ⟨z, -, rfl⟩ := Finset.mem_map.mp hy
    rw [dstM_val s k o h o' h' ho ho' hs hk z]
    have : (z 0).val < 17 := (z 0).isLt
    exact ⟨rfl, Nat.le_add_right _ _, Nat.add_lt_add_left this _⟩
  · rintro ⟨h0, h1, h2⟩
    refine Finset.mem_map.mpr ⟨ValueIdx.ix2 (⟨(y 1).val - 17 * k, by omega⟩ : Fin 17) (⟨(y 2).val, (y 2).isLt⟩ : Fin 128), Finset.mem_univ _, ?_⟩
    rw [dstM_val s k o h o' h' ho ho' hs hk]
    funext a; apply Fin.ext
    match a with
    | ⟨0, _⟩ => exact h0.symm
    | ⟨1, _⟩ => show 17 * k + ((y 1).val - 17 * k) = (y 1).val; omega
    | ⟨2, _⟩ => rfl

/-! ## What the transfers leave -/

variable {F : FTy → Type}

/-- What one slot of the scratch holds once its transfers landed: row group `k` holds the packed rows of token `rows k`. -/
def landed (fh : S835584x128.Idx → Elt F .f32) (rows : ℕ → ℕ) (y : S2x4352x128.Idx) : Elt F .f32 :=
  fh (ValueIdx.ix2 (⟨(17 * rows ((y 1).val / 17) + (y 1).val % 17) % 835584, Nat.mod_lt _ (by decide)⟩ : Fin 835584) (⟨(y 2).val, (y 2).isLt⟩ : Fin 128))

theorem landed_eq (fh : S835584x128.Idx → Elt F .f32) (fd : S2x4352x128.Idx → Elt F .f32) (rows : ℕ → ℕ) (s k : ℕ) (o h o' h' o7 h7)
    (ho : o = ![s, 0, 0]) (ho' : o' = ![17 * k, 0]) (ho7 : o7 = ![17 * rows k, 0]) (hs : s < 2) (hk : k < 256) (hr : rows k < 49152)
    (y : S2x4352x128.Idx) (hy : y ∈ rowset s k) :
    (dstM o h o' h').view.write (Elt F) fd ((srcM o7 h7).view.read (Elt F) fh) Finset.univ y = landed fh rows y := by
  rw [← dstM_set s k o h o' h' ho ho' hs hk] at hy
  obtain ⟨z, -, rfl⟩ := Finset.mem_map.mp hy
  refine (View.write_emb_of_mem (Val := Elt F) (v := (dstM o h o' h').view) _ _ (Finset.mem_univ z)).trans ?_
  subst ho7
  have hz : (z 0).val < 17 := (z 0).isLt
  have key : ∀ w : S2x4352x128.Idx, (w 1).val = 17 * k + (z 0).val → (w 2).val = (z 1).val →
      fh ((Rect.unit (s := S835584x128) ![17 * rows k, 0] S17x128.size h7).emb z) = landed fh rows w := by
    intro w e1 e2
    rw [landed]
    congr 1
    funext a; apply Fin.ext
    match a with
    | ⟨0, _⟩ =>
      show 17 * rows k + 1 * (z 0).val = (17 * rows ((w 1).val / 17) + (w 1).val % 17) % 835584
      rw [e1, show (17 * k + (z 0).val) / 17 = k by omega, show (17 * k + (z 0).val) % 17 = (z 0).val by omega]
      rw [Nat.mod_eq_of_lt (by omega)]; omega
    | ⟨1, _⟩ =>
      show 0 + 1 * (z 1).val = (w 2).val
      rw [e2]; omega
  have e := dstM_val s k o h o' h' ho ho' hs hk z
  exact key _ (congrArg (fun w : S2x4352x128.Idx => (w 1).val) e) (congrArg (fun w : S2x4352x128.Idx => (w 2).val) e)

theorem slotset_rows (s : ℕ) (hs : s < 2) : (Finset.univ : Finset (Fin 256)).biUnion (fun k => rowset s k.val) = slotset s := by
  ext y
  simp only [Finset.mem_biUnion, Finset.mem_univ, true_and, mem_rowset, mem_slotset]
  constructor
  · rintro ⟨k, h, -⟩; exact h
  · intro h
    have : (y 1).val < 4352 := (y 1).isLt
    exact ⟨⟨(y 1).val / 17, by omega⟩, h, by simp only; omega, by simp only; omega⟩

theorem rowset_disj (s : ℕ) : ∀ i ∈ (Finset.univ : Finset (Fin 256)), ∀ j ∈ (Finset.univ : Finset (Fin 256)), i ≠ j → Disjoint (rowset s i.val) (rowset s j.val) := by
  intro i _ j _ hij
  rw [Finset.disjoint_left]
  intro y h1 h2
  rw [mem_rowset] at h1 h2
  exact hij (Fin.ext (by omega))

theorem slotset_compl : (Finset.univ : Finset S2x4352x128.Idx) = slotset 0 ∪ slotset 1 := by
  ext y
  simp only [Finset.mem_univ, Finset.mem_union, mem_slotset, true_iff]
  have : (y 0).val < 2 := (y 0).isLt
  omega
theorem slotset_disj : Disjoint (slotset 0) (slotset 1) := by
  rw [Finset.disjoint_left]
  intro y h1 h2
  rw [mem_slotset] at h1 h2
  omega

end Cert.KernelIdeal.Hand
-- ==== Proof.Flight.lean ====
/-
  Hand-written, untrusted. The kernel's two-slot gather as a batch per slot: a tile's 256 row transfers are issued on the
  slot's semaphore while the other slot is computed on, stay in flight from one grid point to the next, and are drained by
  256 waits. The loops that issue and drain them, each with its invariant.
-/
module

public import proofs.«01_k».proof.Proof.Geom

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F] [∀ e, Nonempty (Elt F e)]

local notation "𝕄" => MT nD τ sig Unit (Elt F) ℕ (Pipeline.UD sig nD τ) ℕ

local notation "EC" => (countersEmb (U := Pipeline.UD sig nD τ))

/-- The packed token array's buffer, the scratch's, and the gather table's. -/
abbrev lh (c : Dev nD) := ((c : Thread nD τ).loc main_v14)
abbrev ls (c : Dev nD) := ((c : Thread nD τ).loc cc0_scratch0)

/-- The share of the token array transfer `k` of slot `s` reads through. -/
def tok (s k : ℕ) : PosShare TreeShare := Transfers.shareTokN fullShare (256 * s + k)

/-- What transfer `k` of slot `s` delivers. -/
def D (c : Dev nD) (fh : S835584x128.Idx → Elt F .f32) (rows : ℕ → ℕ) (s : ℕ) (k : Fin 256) : sProp 𝕄 :=
  iprop((ls c ↦[rowset s k.val]{fullShare} landed fh rows) ∗ (lh c ↦[srcset (rows k.val)]{tok s k.val} fh))

instance (c : Dev nD) (fh : S835584x128.Idx → Elt F .f32) (rows : ℕ → ℕ) (s : ℕ) (k : Fin 256) :
    Storable (upEmb : UEmb _ 𝕄) (D c fh rows s k) := by unfold D; infer_instance

/-- The units one row transfer signals. -/
def NN : ℕ := (dstM ![0, 0, 0] (by decide) ![0, 0] (by decide)).view.dmaCredit
theorem NN_pos : 0 < NN := View.dmaCredit_pos _ (by decide)
theorem NN_amount (o h o' h' sm) : (dstM o h o' h').view.amount (.dma sm) = NN := rfl

def semAt (s : ℕ) : DmaSem sig := ⟨12 + s % 2, by change 12 + s % 2 < 14; omega⟩

/-- Slot `s`'s batch with `j` transfers issued and `u` units waited for. -/
abbrev Bt (c : Dev nD) (fh : S835584x128.Idx → Elt F .f32) (rows : ℕ → ℕ) (s j u : ℕ) : sProp 𝕄 :=
  Transfers.Batch EC (c : Thread nD τ) (.dma (semAt s)) () NN (D c fh rows s) j u

/-- The parts of a slot not yet lent, from transfer `j` on. -/
def unlent (c : Dev nD) (fh : S835584x128.Idx → Elt F .f32) (fd : S2x4352x128.Idx → Elt F .f32) (s j : ℕ) : sProp 𝕄 :=
  bigSep (Ring.rangeSet 256 j 256) fun k => iprop((ls c ↦[rowset s k.val]{fullShare} fd) ∗ (lh c ↦{tok s k.val} fh))

/-- What the transfers issued so far leave of their shares of the token array. -/
def leftover (c : Dev nD) (fh : S835584x128.Idx → Elt F .f32) (rows : ℕ → ℕ) (s j : ℕ) : sProp 𝕄 :=
  bigSep (Ring.rangeSet 256 0 j) fun k => (lh c ↦[Finset.univ \ srcset (rows k.val)]{tok s k.val} fh)

/-- A slot while its transfers are issued. -/
def issuing (c : Dev nD) (fh : S835584x128.Idx → Elt F .f32) (rows : ℕ → ℕ) (s j : ℕ) : sProp 𝕄 :=
  iprop((∃ fd, unlent c fh fd s j) ∗ Bt c fh rows s j 0 ∗ leftover c fh rows s j)

/-- One transfer issued: the slot's next row group and the next share are lent. -/
theorem issue_step (c : Dev nD) (fh : S835584x128.Idx → Elt F .f32) (rows : ℕ → ℕ) (s j : ℕ) (hs : s < 2) (hj : j < 256)
    (hr : rows j < 49152)
    (o4 h4) (o : Fin 3 → ℕ) (h) (o' : Fin 2 → ℕ) (h') (o7 : Fin 2 → ℕ) (h7)
    (ho4 : o4 = ![s]) (ho : o = ![s, 0, 0]) (ho' : o' = ![17 * j, 0]) (ho7 : o7 = ![17 * rows j, 0])
    {via : ReadAs (Elt F) S17x128 .f32 S17x128 .f32} (hvia : ∀ x, via.apply x = x)
    {α : Type} {hsrc hdst hsem} {k : PUnit → Prog (TpuEff nD τ sig (Elt F) Λ₀ .tc) α} {Q : α → sProp 𝕄} :
    issuing c fh rows s j
      ⊢ iprop((issuing c fh rows s (j + 1) -∗ wp frame (wpE (defs₀ (F := F)) Variants.none (c : Thread nD τ) none) Set.univ (k ⟨⟩) Q)
        -∗ wp frame (wpE (defs₀ (F := F)) Variants.none (c : Thread nD τ) none) Set.univ
            (.op (.enqueueDmaAs (srcM o7 h7) (.here (dstM o h o' h')) via (.dma (semM o4 h4)) hsrc hdst hsem) k) Q) := by
  have hsem' : semM o4 h4 = semAt s := by
    have := semM_eq s hs o4 h4 ho4
    have h2 : s % 2 = s := Nat.mod_eq_of_lt hs
    injection this with this
    rw [this]; unfold semAt; congr 2; omega
  revert hsem; rw [hsem']; intro hsem
  have hset := srcM_set (rows j) o7 h7 ho7
  have hdset := dstM_set s j o h o' h' ho ho' hs hj
  unfold issuing unlent
  unfold leftover
  iintro ⟨⟨%fd, HU⟩, HB, HL⟩ Hk
  ihave HU := (Entails.of_eq (Ring.bigSep_rangeSet_head (NB := 256) (lo := j) (hi := 256) hj hj)) $$ HU
  icases HU with ⟨⟨Hd, Hs⟩, HU⟩
  ihave Hs := (pointsTo_split_subset (ℓ := lh c) (Finset.subset_univ (srcset (rows j)))).1 $$ Hs
  icases Hs with ⟨Hs, Hr⟩
  iapply (Transfers.wp_dmaBatch EC Variants.none (c : Thread nD τ) none (src := srcM o7 h7) (dst := dstM o h o' h') (via := via) (sm := .dma (semAt s))
    (q := tok s j) (fs := fh) (Sd := rowset s j) (fd := fd) (D := D c fh rows s) (j := j) (u := 0) () NN (NN_amount o h o' h' (semAt s)) (subset_of_eq hdset) hj (by omega) ?_) $$ [Hs Hd HB]
  · unfold D
    rw [hset, hvia]
    rw [show ((dstM o h o' h').view.loc (c : Thread nD τ) ↦[rowset s j]{fullShare} (dstM o h o' h').view.write (Elt F) fd ((srcM o7 h7).view.read (Elt F) fh) Finset.univ : sProp 𝕄)
        = (ls c ↦[rowset s j]{fullShare} landed fh rows) from
      pointsTo_congr fun y hy => landed_eq fh fd rows s j o h o' h' o7 h7 ho ho' ho7 hs hj hr y hy]
    exact .rfl
  · rw [hset]
    isplitl [Hs]; · iexact Hs
    isplitl [Hd]; · iexact Hd
    iexact HB
  iintro HB
  iapply Hk
  isplitl [HU]; · iexists fd; iexact HU
  isplitl [HB]; · iexact HB
  iapply (Entails.of_eq (Ring.bigSep_rangeSet_last (NB := 256) (lo := 0) (hi := j + 1) (by omega) (by omega)).symm)
  isplitl [Hr]; · iexact Hr
  iexact HL

/-- The gather table. -/
abbrev tb3 : Memref sig .tc .smem S55296 .i32 := Memref.whole main_arg3
/-- Word `n` of the gather table. -/
def word (T3 : S55296.Idx → BitVec 32) (n : ℕ) : BitVec 32 := T3 (ValueIdx.ix1 (⟨n % 55296, Nat.mod_lt _ (by decide)⟩ : Fin 55296))
/-- The token rows tile `t` gathers. -/
def rows (T3 : S55296.Idx → BitVec 32) (t k : ℕ) : ℕ := (word T3 (256 * t + k)).toNat

theorem read_word (T3 : S55296.Idx → BitVec 32) (n : ℕ) (hn : n < 55296) (o : Fin 1 → ℕ) (h) (ho : o = ![n])
    (x : (Rect.unit (s := S55296) o S1.size h).shape.Idx) :
    View.readAt (Elt F) (Memref.whole main_arg3 : Memref sig .tc .smem S55296 .i32).view (Rect.unit (s := S55296) o S1.size h).toLoadRect T3 x = word T3 n := by
  subst ho
  unfold word
  show T3 _ = T3 _
  congr 1
  funext a; apply Fin.ext
  match a with
  | ⟨0, _⟩ =>
    show n + 1 * (x 0).val = n % 55296
    have : (x 0).val < 1 := (x 0).isLt
    rw [Nat.mod_eq_of_lt hn]; omega

section
variable (c : Dev nD) (i : grid0.Coords) (fh : S835584x128.Idx → Elt F .f32) (T3 : S55296.Idx → BitVec 32)
  (hT : ∀ x, (T3 x).toNat < 49152) {q : PosShare TreeShare}
  (arg1 : Memref sig .tc .smem S216 .i32) (harg1 : arg1.IsWhole) (arg2 : Memref sig .tc .smem S216 .i32) (harg2 : arg2.IsWhole)
  (arg3 : Memref sig .tc .smem S216 .i32) (harg3 : arg3.IsWhole)
  (arg6 : Memref sig .tc .vmem S1x2048x128 .bf16) (harg6 : arg6.IsWhole) (arg7 : Memref sig .tc .vmem S1x1x128 .f32) (harg7 : arg7.IsWhole)
  (arg8 : Memref sig .tc .vmem S1x1x2048x1024 .bf16) (harg8 : arg8.IsWhole) (arg9 : Memref sig .tc .vmem S1x1x512x2048 .bf16) (harg9 : arg9.IsWhole)
  (arg10 : Memref sig .tc .vmem S1x1x2048x1024 .bf16) (harg10 : arg10.IsWhole) (arg11 : Memref sig .tc .vmem S1x1x512x2048 .bf16) (harg11 : arg11.IsWhole)
  (arg12 : Memref sig .tc .vmem S4352x128 .f32) (harg12 : arg12.IsWhole)

theorem chk_of (v : BitVec 32) (h : v.toNat < 49152) : ∀ a, k0_off7 v a + S17x128.size a ≤ S835584x128.size a := by
  rw [off7_eq v h]
  intro a
  match a with
  | ⟨0, _⟩ => show 17 * v.toNat + 17 ≤ 835584; omega
  | ⟨1, _⟩ => show 0 + 128 ≤ 128; omega

include hT in
theorem t1_step (k0_h1 : k0_cond1 i = 1#1) (v31 : Elt F .i32) (k0_h2 : k0_cond2 v31 = 1#1) (k : Fin k0_t1_loop.trips) :
    iprop((tb3.view.loc (c : Thread nD τ) ↦{q} T3) ∗ issuing c fh (rows T3 (i 0).val) ((i 0).val % 2) k.val)
      ⊢ wp frame (wpE (defs₀ (F := F)) Variants.none (c : Thread nD τ) none) Set.univ
          (k0_t1_body i arg1 harg1 arg2 harg2 arg3 harg3 (Memref.whole main_arg3) (Memref.isWhole_whole _) (Memref.whole main_v14) (Memref.isWhole_whole _)
            arg6 harg6 arg7 harg7 arg8 harg8 arg9 harg9 arg10 harg10 arg11 harg11 arg12 harg12 (Memref.whole cc0_scratch0) (Memref.isWhole_whole _) cc0_scratch1 k0_h1 v31 k0_h2 k ())
          (fun _ => iprop((tb3.view.loc (c : Thread nD τ) ↦{q} T3) ∗ issuing c fh (rows T3 (i 0).val) ((i 0).val % 2) (k.val + 1))) := by
  have hk : k.val < 256 := lt_of_lt_of_eq k.isLt trips1
  have hi : (i 0).val < 216 := (i 0).isLt
  unfold k0_t1_body
  dsimp only
  iintro ⟨HT, HI⟩
  sl_exec
  sl_step
  have hv : View.readAt (Elt F) (Memref.whole main_arg3 : Memref sig .tc .smem S55296 .i32).view (Rect.unit (s := S55296) (k0_off3 i k) S1.size (k0_off3_inb i k k0_h1)).toLoadRect T3
      (Shape.Idx.first (show 0 < (Rect.unit (s := S55296) (k0_off3 i k) S1.size (k0_off3_inb i k k0_h1)).shape.numel from Nat.one_pos)) = word T3 (256 * (i 0).val + k.val) :=
    read_word (F := F) T3 (256 * (i 0).val + k.val) (by omega) _ _ (k0_off3_eq i k) _
  generalize View.readAt (Elt F) (Memref.whole main_arg3 : Memref sig .tc .smem S55296 .i32).view _ T3 _ = v40 at hv ⊢
  have hvl : v40.toNat < 49152 := by rw [hv]; exact hT _
  sl_step
  dsimp only
  iapply (wp_assume Variants.none (c : Thread nD τ) none Set.univ (show k0_chk1 i v31 v40 from fun _ _ => chk_of v40 hvl))
  iapply (issue_step c fh (rows T3 (i 0).val) ((i 0).val % 2) k.val (Nat.mod_lt _ (by decide)) hk (hT _) (k0_off4 i) (k0_off4_inb i k0_h1) (k0_off5 i) (k0_off5_inb i k0_h1)
     (k0_off6 k) (k0_off6_inb i k k0_h1) (k0_off7 v40) (chk_of v40 hvl) (off4_eq i) (off5_eq i) (k0_off6_eq k) (by rw [off7_eq v40 hvl, hv]; rfl) (fun _ => rfl)) $$ HI
  iintro HI
  dsimp only [Prog.bind]
  sl_step
  isplitl [HT]; · iexact HT
  iexact HI

include hT in
theorem t2_step (k0_h3 : k0_cond3 i = 1#1) (v33 : Elt F .i32) (k0_h4 : k0_cond4 v33 = 1#1) (k : Fin k0_t2_loop.trips) :
    iprop((tb3.view.loc (c : Thread nD τ) ↦{q} T3) ∗ issuing c fh (rows T3 ((i 0).val + 1)) (((i 0).val + 1) % 2) k.val)
      ⊢ wp frame (wpE (defs₀ (F := F)) Variants.none (c : Thread nD τ) none) Set.univ
          (k0_t2_body i arg1 harg1 arg2 harg2 arg3 harg3 (Memref.whole main_arg3) (Memref.isWhole_whole _) (Memref.whole main_v14) (Memref.isWhole_whole _)
            arg6 harg6 arg7 harg7 arg8 harg8 arg9 harg9 arg10 harg10 arg11 harg11 arg12 harg12 (Memref.whole cc0_scratch0) (Memref.isWhole_whole _) cc0_scratch1 k0_h3 v33 k0_h4 k ())
          (fun _ => iprop((tb3.view.loc (c : Thread nD τ) ↦{q} T3) ∗ issuing c fh (rows T3 ((i 0).val + 1)) (((i 0).val + 1) % 2) (k.val + 1))) := by
  have hk : k.val < 256 := lt_of_lt_of_eq k.isLt trips2
  have hi : (i 0).val + 1 < 216 := (cond3_iff i).mp k0_h3
  unfold k0_t2_body
  dsimp only
  iintro ⟨HT, HI⟩
  sl_exec
  sl_step
  have hv : View.readAt (Elt F) (Memref.whole main_arg3 : Memref sig .tc .smem S55296 .i32).view (Rect.unit (s := S55296) (k0_off9 i k) S1.size (k0_off9_inb i k k0_h3)).toLoadRect T3
      (Shape.Idx.first (show 0 < (Rect.unit (s := S55296) (k0_off9 i k) S1.size (k0_off9_inb i k k0_h3)).shape.numel from Nat.one_pos)) = word T3 (256 * ((i 0).val + 1) + k.val) :=
    read_word (F := F) T3 (256 * ((i 0).val + 1) + k.val) (by omega) _ _ ((k0_off9_eq i k).trans (by congr 1; omega)) _
  generalize View.readAt (Elt F) (Memref.whole main_arg3 : Memref sig .tc .smem S55296 .i32).view _ T3 _ = v42 at hv ⊢
  have hvl : v42.toNat < 49152 := by rw [hv]; exact hT _
  sl_step
  dsimp only
  iapply (wp_assume Variants.none (c : Thread nD τ) none Set.univ (show k0_chk2 i v33 v42 from fun _ _ => chk_of v42 hvl))
  iapply (issue_step c fh (rows T3 ((i 0).val + 1)) (((i 0).val + 1) % 2) k.val (Nat.mod_lt _ (by decide)) hk (hT _) (k0_off10 i) (k0_off10_inb i k0_h3) (k0_off11 i) (k0_off11_inb i k0_h3)
     (k0_off12 k) (k0_off12_inb i k k0_h3) (k0_off13 v42) (chk_of v42 hvl) (off10_eq i) (off11_eq i) (k0_off12_eq k) (by rw [off13_eq v42 hvl, hv]; rfl) (fun _ => rfl)) $$ HI
  iintro HI
  dsimp only [Prog.bind]
  sl_step
  isplitl [HT]; · iexact HT
  iexact HI

/-- A slot's batch being drained: `k` waits done. -/
def draining (c : Dev nD) (fh : S835584x128.Idx → Elt F .f32) (rows : ℕ → ℕ) (s k : ℕ) : sProp 𝕄 :=
  iprop((∃ W : Waits sig Unit, owes (c : Thread nD τ) 0 W) ∗
    (if k < 256 then Bt c fh rows s 256 (k * NN)
     else iprop(bigSep Finset.univ (D c fh rows s) ∗ semVal ((c : Thread nD τ), .dma (semAt s)) 0)))

theorem semM_semAt (s : ℕ) (hs : s < 2) (o4 h4) (ho4 : o4 = ![s]) : semM o4 h4 = semAt s := by
  have := semM_eq s hs o4 h4 ho4
  have h2 : s % 2 = s := Nat.mod_eq_of_lt hs
  injection this with this
  rw [this]; unfold semAt; congr 2; omega

theorem wait_step (c : Dev nD) (fh : S835584x128.Idx → Elt F .f32) (rows : ℕ → ℕ) (s j : ℕ) (hs : s < 2) (hj : j < 256)
    (o4 h4) (o : Fin 3 → ℕ) (h) (o' : Fin 2 → ℕ) (h') (o7 : Fin 2 → ℕ) (h7) (ho4 : o4 = ![s])
    {α : Type} {hsrc hdst} {k : PUnit → Prog (TpuEff nD τ sig (Elt F) Λ₀ .tc) α} {Q : α → sProp 𝕄} :
    draining c fh rows s j
      ⊢ iprop((draining c fh rows s (j + 1) -∗ wp frame (wpE (defs₀ (F := F)) Variants.none (c : Thread nD τ) none) Set.univ (k ⟨⟩) Q)
        -∗ wp frame (wpE (defs₀ (F := F)) Variants.none (c : Thread nD τ) none) Set.univ
            (.op (.waitDma2 (semM o4 h4) (srcM o7 h7) (dstM o h o' h') hsrc hdst) k) Q) := by
  rw [semM_semAt s hs o4 h4 ho4]
  have hN : (dstM o h o' h').view.dmaCredit = NN := rfl
  unfold draining
  rw [if_pos hj]
  iintro ⟨⟨%W, HW⟩, HB⟩ Hk
  by_cases hl : j + 1 < 256
  · rw [if_pos hl]
    iapply (Transfers.wp_waitBatch EC Variants.none (c : Thread nD τ) none (D := D c fh rows s) (u := j * NN) () hN (by have := NN_pos; nlinarith)) $$ [HB HW]
    · isplitl [HB]; · iexact HB
      iexact HW
    iintro ⟨HB, HW⟩
    iapply Hk
    isplitl [HW]; · iexists _; iexact HW
    rw [show (j + 1) * NN = j * NN + NN by ring]
    iexact HB
  · rw [if_neg hl]
    iapply (Transfers.wp_waitBatchLast EC Variants.none (c : Thread nD τ) none (D := D c fh rows s) (u := j * NN) () hN NN_pos
      (by obtain rfl : j = 255 := by omega
          ring)) $$ [HB HW]
    · isplitl [HB]; · iexact HB
      iexact HW
    iintro ⟨HB, HS, HW⟩
    iapply Hk
    isplitl [HW]; · iexists _; iexact HW
    isplitl [HB]; · iexact HB
    iexact HS

theorem t3_step (k : Fin k0_t3_loop.trips) (rws : ℕ → ℕ) :
    draining c fh rws ((i 0).val % 2) k.val
      ⊢ wp frame (wpE (defs₀ (F := F)) Variants.none (c : Thread nD τ) none) Set.univ
          (k0_t3_body i arg1 harg1 arg2 harg2 arg3 harg3 (Memref.whole main_arg3) (Memref.isWhole_whole _) (Memref.whole main_v14) (Memref.isWhole_whole _)
            arg6 harg6 arg7 harg7 arg8 harg8 arg9 harg9 arg10 harg10 arg11 harg11 arg12 harg12 (Memref.whole cc0_scratch0) (Memref.isWhole_whole _) cc0_scratch1 k ())
          (fun _ => draining c fh rws ((i 0).val % 2) (k.val + 1)) := by
  have hk : k.val < 256 := lt_of_lt_of_eq k.isLt trips3
  unfold k0_t3_body
  dsimp only
  iintro HI
  iapply (wait_step c fh rws ((i 0).val % 2) k.val (Nat.mod_lt _ (by decide)) hk (k0_off14 i) (k0_off14_inb i) (k0_off15 i) (k0_off15_inb i)
     ![0, 0] inb_S4352x128_S17x128_0_0 ![0, 0] inb_S835584x128_S17x128_0_0 (off14_eq i)) $$ HI
  iintro HI
  dsimp only [Prog.bind]
  sl_step
  iexact HI

include hT in
theorem t1_run (k0_h1 : k0_cond1 i = 1#1) (v31 : Elt F .i32) (k0_h2 : k0_cond2 v31 = 1#1) :
    iprop((tb3.view.loc (c : Thread nD τ) ↦{q} T3) ∗ issuing c fh (rows T3 (i 0).val) ((i 0).val % 2) 0)
      ⊢ wp frame (wpE (defs₀ (F := F)) Variants.none (c : Thread nD τ) none) Set.univ
          (Scf.Loop.for k0_t1_loop (k0_t1_ok i k0_h1) ⟨⟩ (k0_t1_body i arg1 harg1 arg2 harg2 arg3 harg3 (Memref.whole main_arg3) (Memref.isWhole_whole _) (Memref.whole main_v14) (Memref.isWhole_whole _)
            arg6 harg6 arg7 harg7 arg8 harg8 arg9 harg9 arg10 harg10 arg11 harg11 arg12 harg12 (Memref.whole cc0_scratch0) (Memref.isWhole_whole _) cc0_scratch1 k0_h1 v31 k0_h2))
          (fun _ => iprop((tb3.view.loc (c : Thread nD τ) ↦{q} T3) ∗ issuing c fh (rows T3 (i 0).val) ((i 0).val % 2) 256)) := by
  refine BIBase.Entails.trans ?_ (Scf.wp_for _ _ _ _ _ _ _ _ _ (fun k _ => iprop((tb3.view.loc (c : Thread nD τ) ↦{q} T3) ∗ issuing c fh (rows T3 (i 0).val) ((i 0).val % 2) k))
    (fun k acc => t1_step c i fh T3 hT arg1 harg1 arg2 harg2 arg3 harg3 arg6 harg6 arg7 harg7 arg8 harg8 arg9 harg9 arg10 harg10 arg11 harg11 arg12 harg12 k0_h1 v31 k0_h2 k))
  iintro H
  isplitl [H]; · iexact H
  iintro %acc H
  rw [show Scf.trips (k0_t1_loop).lb (k0_t1_loop).ub (k0_t1_loop).st = 256 from trips1]
  all_goals iexact H

include hT in
theorem t2_run (k0_h3 : k0_cond3 i = 1#1) (v33 : Elt F .i32) (k0_h4 : k0_cond4 v33 = 1#1) :
    iprop((tb3.view.loc (c : Thread nD τ) ↦{q} T3) ∗ issuing c fh (rows T3 ((i 0).val + 1)) (((i 0).val + 1) % 2) 0)
      ⊢ wp frame (wpE (defs₀ (F := F)) Variants.none (c : Thread nD τ) none) Set.univ
          (Scf.Loop.for k0_t2_loop (k0_t2_ok i k0_h3) ⟨⟩ (k0_t2_body i arg1 harg1 arg2 harg2 arg3 harg3 (Memref.whole main_arg3) (Memref.isWhole_whole _) (Memref.whole main_v14) (Memref.isWhole_whole _)
            arg6 harg6 arg7 harg7 arg8 harg8 arg9 harg9 arg10 harg10 arg11 harg11 arg12 harg12 (Memref.whole cc0_scratch0) (Memref.isWhole_whole _) cc0_scratch1 k0_h3 v33 k0_h4))
          (fun _ => iprop((tb3.view.loc (c : Thread nD τ) ↦{q} T3) ∗ issuing c fh (rows T3 ((i 0).val + 1)) (((i 0).val + 1) % 2) 256)) := by
  refine BIBase.Entails.trans ?_ (Scf.wp_for _ _ _ _ _ _ _ _ _ (fun k _ => iprop((tb3.view.loc (c : Thread nD τ) ↦{q} T3) ∗ issuing c fh (rows T3 ((i 0).val + 1)) (((i 0).val + 1) % 2) k))
    (fun k acc => t2_step c i fh T3 hT arg1 harg1 arg2 harg2 arg3 harg3 arg6 harg6 arg7 harg7 arg8 harg8 arg9 harg9 arg10 harg10 arg11 harg11 arg12 harg12 k0_h3 v33 k0_h4 k))
  iintro H
  isplitl [H]; · iexact H
  iintro %acc H
  rw [show Scf.trips (k0_t2_loop).lb (k0_t2_loop).ub (k0_t2_loop).st = 256 from trips2]
  all_goals iexact H

theorem t3_run (rws : ℕ → ℕ) :
    draining c fh rws ((i 0).val % 2) 0
      ⊢ wp frame (wpE (defs₀ (F := F)) Variants.none (c : Thread nD τ) none) Set.univ
          (Scf.Loop.for k0_t3_loop k0_t3_ok ⟨⟩ (k0_t3_body i arg1 harg1 arg2 harg2 arg3 harg3 (Memref.whole main_arg3) (Memref.isWhole_whole _) (Memref.whole main_v14) (Memref.isWhole_whole _)
            arg6 harg6 arg7 harg7 arg8 harg8 arg9 harg9 arg10 harg10 arg11 harg11 arg12 harg12 (Memref.whole cc0_scratch0) (Memref.isWhole_whole _) cc0_scratch1))
          (fun _ => draining c fh rws ((i 0).val % 2) 256) := by
  refine BIBase.Entails.trans ?_ (Scf.wp_for _ _ _ _ _ _ _ _ _ (fun k _ => draining c fh rws ((i 0).val % 2) k)
    (fun k acc => t3_step c i fh arg1 harg1 arg2 harg2 arg3 harg3 arg6 harg6 arg7 harg7 arg8 harg8 arg9 harg9 arg10 harg10 arg11 harg11 arg12 harg12 k rws))
  iintro H
  isplitl [H]; · iexact H
  iintro %acc H
  rw [show Scf.trips (k0_t3_loop).lb (k0_t3_loop).ub (k0_t3_loop).st = 256 from trips3]
  all_goals iexact H

end

/-! ## A slot between the loops -/

/-- The shares of the token array slot `s`'s transfers read through, all home. -/
def toks (c : Dev nD) (fh : S835584x128.Idx → Elt F .f32) (s : ℕ) : sProp 𝕄 :=
  bigSep (Finset.univ : Finset (Fin 256)) fun k => (lh c ↦{tok s k.val} fh)

/-- A slot with nothing in flight, at contents `fd`. -/
def idleAt (c : Dev nD) (fh : S835584x128.Idx → Elt F .f32) (s : ℕ) (fd : S2x4352x128.Idx → Elt F .f32) : sProp 𝕄 :=
  iprop(semVal ((c : Thread nD τ), .dma (semAt s)) 0 ∗ (ls c ↦[slotset s]{fullShare} fd) ∗ toks c fh s)
/-- A slot with nothing in flight. -/
def idle (c : Dev nD) (fh : S835584x128.Idx → Elt F .f32) (s : ℕ) : sProp 𝕄 := iprop(∃ fd, idleAt c fh s fd)
/-- A slot with all its transfers in flight. -/
def flight (c : Dev nD) (fh : S835584x128.Idx → Elt F .f32) (rows : ℕ → ℕ) (s : ℕ) : sProp 𝕄 :=
  iprop(Bt c fh rows s 256 0 ∗ leftover c fh rows s 256)

theorem issuing_start (c : Dev nD) (fh : S835584x128.Idx → Elt F .f32) (rows : ℕ → ℕ) (s : ℕ) (hs : s < 2) :
    idle c fh s ⊢ |={Set.univ}=> issuing c fh rows s 0 := by
  unfold idle idleAt issuing toks
  iintro ⟨%fd, HS, Hd, HT⟩
  imod (Transfers.batch_alloc' (Lvl := ℕ) EC (c : Thread nD τ) () NN (D c fh rows s) (sm := .dma (semAt s)) (E := Set.univ)) $$ HS with HB
  imodintro
  isplitl [Hd HT]
  · iexists fd
    unfold unlent
    rw [Ring.rangeSet_univ, BI.bigSep_sep']
    isplitl [Hd]
    · iapply (Entails.of_eq (show (ls c ↦[slotset s]{fullShare} fd : sProp 𝕄) = bigSep Finset.univ fun k : Fin 256 => (ls c ↦[rowset s k.val]{fullShare} fd) by
        rw [← slotset_rows s hs, pointsTo_biUnion _ _ (rowset_disj s)]))
      iexact Hd
    iexact HT
  isplitl [HB]; · iexact HB
  unfold leftover
  rw [Ring.bigSep_rangeSet_empty le_rfl]
  iempintro

theorem issuing_done (c : Dev nD) (fh : S835584x128.Idx → Elt F .f32) (rows : ℕ → ℕ) (s : ℕ) :
    issuing c fh rows s 256 ⊢ flight c fh rows s := by
  unfold issuing flight
  iintro ⟨⟨%fd, H⟩, HB, HL⟩
  isplitl [HB]; · iexact HB
  iexact HL

theorem drained (c : Dev nD) (fh : S835584x128.Idx → Elt F .f32) (rows : ℕ → ℕ) (s : ℕ) (hs : s < 2) :
    iprop(draining c fh rows s 256 ∗ leftover c fh rows s 256)
      ⊢ iprop((∃ W : Waits sig Unit, owes (c : Thread nD τ) 0 W) ∗ idleAt c fh s (landed fh rows)) := by
  unfold draining idleAt leftover toks
  have hD : bigSep Finset.univ (D c fh rows s) = (iprop((bigSep Finset.univ fun k : Fin 256 => (ls c ↦[rowset s k.val]{fullShare} landed fh rows))
      ∗ bigSep Finset.univ fun k : Fin 256 => (lh c ↦[srcset (rows k.val)]{tok s k.val} fh)) : sProp 𝕄) := BI.bigSep_sep' _ _ _
  rw [if_neg (lt_irrefl 256), Ring.rangeSet_univ, hD, ← slotset_rows s hs, pointsTo_biUnion _ _ (rowset_disj s)]
  iintro ⟨⟨HW, ⟨Hd, Ht⟩, HS⟩, HL⟩
  isplitl [HW]; · iexact HW
  isplitl [HS]; · iexact HS
  isplitl [Hd]; · iexact Hd
  rw [show (fun k : Fin 256 => (lh c ↦{tok s k.val} fh : sProp 𝕄)) = fun k : Fin 256 => iprop((lh c ↦[srcset (rows k.val)]{tok s k.val} fh) ∗ (lh c ↦[Finset.univ \ srcset (rows k.val)]{tok s k.val} fh)) from
    funext fun k => Entails.antisymm (pointsTo_split_subset (ℓ := lh c) (Finset.subset_univ (srcset (rows k.val)))).1 (pointsTo_split_subset (ℓ := lh c) (Finset.subset_univ (srcset (rows k.val)))).2,
    BI.bigSep_sep']
  isplitl [Ht]; · iexact Ht
  iexact HL

theorem drain_start (c : Dev nD) (fh : S835584x128.Idx → Elt F .f32) (rows : ℕ → ℕ) (s : ℕ) :
    iprop((∃ W : Waits sig Unit, owes (c : Thread nD τ) 0 W) ∗ Bt c fh rows s 256 0) ⊢ draining c fh rows s 0 := by
  unfold draining
  rw [if_pos (by decide), Nat.zero_mul]
  all_goals exact .rfl

end Cert.KernelIdeal.Hand
-- ==== Proof.Body.lean ====
/-
  Hand-written, untrusted. The kernel's body at one grid point: the branches that issue and drain the gathers, and the
  computation between them.
-/
module

public import proofs.«01_k».proof.Proof.Flight

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F] [∀ e, Nonempty (Elt F e)]

local notation "𝕄" => MT nD τ sig Unit (Elt F) ℕ (Pipeline.UD sig nD τ) ℕ
local notation "EC" => (countersEmb (U := Pipeline.UD sig nD τ))

abbrev tb0 : Memref sig .tc .smem S216 .i32 := Memref.whole main_arg0
abbrev tb1 : Memref sig .tc .smem S216 .i32 := Memref.whole main_arg1
abbrev tb2 : Memref sig .tc .smem S216 .i32 := Memref.whole main_arg2

/-- Word `n` of a tile table. -/
def tword (T : S216.Idx → BitVec 32) (n : ℕ) : BitVec 32 := T (ValueIdx.ix1 (⟨n % 216, Nat.mod_lt _ (by decide)⟩ : Fin 216))

theorem read_tword (T : S216.Idx → BitVec 32) (n : ℕ) (hn : n < 216) (o : Fin 1 → ℕ) (h) (ho : o = ![n])
    (x : (Rect.unit (s := S216) o S1.size h).shape.Idx) :
    T ((Rect.unit (s := S216) o S1.size h).toLoadRect.idx x) = tword T n := by
  subst ho
  unfold tword
  congr 1
  funext a; apply Fin.ext
  match a with
  | ⟨0, _⟩ =>
    show n + 1 * (x 0).val = n % 216
    have hx : (x 0).val < 1 := (x 0).isLt
    rw [Nat.mod_eq_of_lt hn]; omega

/-- The floored quotient of an expert's number by four, as the kernel's scalar unit computes it. -/
def quo4 (e : BitVec 32) : BitVec 32 :=
  Scalar.select (Scalar.andi
    (Scalar.cmpi .ne (Scalar.subi (Scalar.extui (Scalar.cmpi .sgt e 0#32)) (Scalar.extui (Scalar.cmpi .slt e 0#32)))
      (Scalar.subi (Scalar.extui (Scalar.cmpi .sgt 4#32 0#32)) (Scalar.extui (Scalar.cmpi .slt 4#32 0#32))))
    (Scalar.cmpi .ne (Scalar.remsi e 4#32) 0#32)) (Scalar.subi (Scalar.divsi e 4#32) 1#32) (Scalar.divsi e 4#32)
/-- The divisor of the floored remainder. -/
def div4 : BitVec 32 := Scalar.select (Scalar.cmpi .eq 4#32 0#32) 1#32 4#32
/-- The floored remainder. -/
def rem4 (e : BitVec 32) : BitVec 32 :=
  Scalar.select (Scalar.andi
    (Scalar.xori (Scalar.cmpi .slt (Scalar.remsi e div4) 0#32) (Scalar.cmpi .slt div4 0#32))
    (Scalar.cmpi .ne (Scalar.remsi e div4) 0#32)) (Scalar.addi (Scalar.remsi e div4) div4) (Scalar.remsi e div4)

/-- The strided box of a packed tile's column block `c`: rows `c`, `c + 17`, …. -/
abbrev box (o : Fin 2 → ℕ) (h : ∀ a, S256x128.size a = 0 ∨ o a + (![17, 1] : Fin 2 → Nat) a * (S256x128.size a - 1) < S4352x128.size a) : LoadRect S4352x128 :=
  ⟨o, S256x128.size, ![17, 1], h⟩
/-- What the box reads of a packed tile. -/
abbrev boxOf (X : S4352x128.Idx → Elt F .f32) (o : Fin 2 → ℕ) (h : ∀ a, S256x128.size a = 0 ∨ o a + (![17, 1] : Fin 2 → Nat) a * (S256x128.size a - 1) < S4352x128.size a) : Vec F S256x128 .f32 :=
  fun z => X ((box o h).idx z)
/-- The tile's tokens, unpacked. -/
def xOf (X : S4352x128.Idx → Elt F .f32) : FVec F S256x2048 .bf16 :=
  k0_pay2 (boxOf X ![0, 0] inb_S4352x128_S256x128_0_0_s_17_1)
    (boxOf X ![1, 0] inb_S4352x128_S256x128_1_0_s_17_1)
    (boxOf X ![2, 0] inb_S4352x128_S256x128_2_0_s_17_1)
    (boxOf X ![3, 0] inb_S4352x128_S256x128_3_0_s_17_1)
    (boxOf X ![4, 0] inb_S4352x128_S256x128_4_0_s_17_1)
    (boxOf X ![5, 0] inb_S4352x128_S256x128_5_0_s_17_1)
    (boxOf X ![6, 0] inb_S4352x128_S256x128_6_0_s_17_1)
    (boxOf X ![7, 0] inb_S4352x128_S256x128_7_0_s_17_1)
    (boxOf X ![8, 0] inb_S4352x128_S256x128_8_0_s_17_1)
    (boxOf X ![9, 0] inb_S4352x128_S256x128_9_0_s_17_1)
    (boxOf X ![10, 0] inb_S4352x128_S256x128_10_0_s_17_1)
    (boxOf X ![11, 0] inb_S4352x128_S256x128_11_0_s_17_1)
    (boxOf X ![12, 0] inb_S4352x128_S256x128_12_0_s_17_1)
    (boxOf X ![13, 0] inb_S4352x128_S256x128_13_0_s_17_1)
    (boxOf X ![14, 0] inb_S4352x128_S256x128_14_0_s_17_1)
    (boxOf X ![15, 0] inb_S4352x128_S256x128_15_0_s_17_1)

/-- The router's logits. -/
def lcOf (x : FVec F S256x2048 .bf16) (d6 : Vec F S1x2048x128 .bf16) (d7 : Vec F S1x1x128 .f32) : FVec F S256x128 .f32 :=
  k0_pay4 x (k0_pay3 d6) (constant S256x128 .f32 0x00000000#32) d7
/-- The group's probability. -/
def gpOf (x : FVec F S256x2048 .bf16) (ea : BitVec 32) (d6 : Vec F S1x2048x128 .bf16) (d7 : Vec F S1x1x128 .f32) : FVec F S256x1 .f32 :=
  k0_pay5 x (quo4 ea) (k0_pay3 d6) (constant S256x128 .f32 0x00000000#32) d7
/-- The group's logits, the other lanes masked. -/
def mlOf (x : FVec F S256x2048 .bf16) (ea : BitVec 32) (d6 : Vec F S1x2048x128 .bf16) (d7 : Vec F S1x1x128 .f32) : FVec F S256x128 .f32 :=
  k0_pay7 x (quo4 ea) (k0_pay3 d6) (constant S256x128 .f32 0x00000000#32) d7
/-- The first lane of the group's experts. -/
def baseOf (ea : BitVec 32) : BitVec 32 := Scalar.addi 4#32 (Scalar.muli 4#32 (quo4 ea))
/-- The weights of the tile's two experts. -/
def waOf (x : FVec F S256x2048 .bf16) (ea eb : BitVec 32) (d6 : Vec F S1x2048x128 .bf16) (d7 : Vec F S1x1x128 .f32) : FVec F S256x1 .f32 :=
  k0_pay13 (rem4 ea) (rem4 eb) (lcOf x d6 d7) (iota .tc S1x128 32 [1] iota_S1x128_d1_w32) (gpOf x ea d6 d7) (baseOf ea) (k0_pay6 (quo4 ea)) (mlOf x ea d6 d7)
def wbOf (x : FVec F S256x2048 .bf16) (ea eb : BitVec 32) (d6 : Vec F S1x2048x128 .bf16) (d7 : Vec F S1x1x128 .f32) : FVec F S256x1 .f32 :=
  k0_pay14 (rem4 ea) (rem4 eb) (lcOf x d6 d7) (iota .tc S1x128 32 [1] iota_S1x128_d1_w32) (gpOf x ea d6 d7) (baseOf ea) (k0_pay6 (quo4 ea)) (mlOf x ea d6 d7)
/-- The tile's result before packing. -/
def tileY (X : S4352x128.Idx → Elt F .f32) (ea eb : BitVec 32) (d6 : Vec F S1x2048x128 .bf16) (d7 : Vec F S1x1x128 .f32)
    (d8 : Vec F S1x1x2048x1024 .bf16) (d9 : Vec F S1x1x512x2048 .bf16) (d10 : Vec F S1x1x2048x1024 .bf16) (d11 : Vec F S1x1x512x2048 .bf16) :
    FVec F S256x2048 .f32 :=
  k0_pay16 (xOf X) (waOf (xOf X) ea eb d6 d7) (wbOf (xOf X) ea eb d6 d7) (k0_pay15 (xOf X) d8) d9 d10 d11

/-- The block's stores, the last first. -/
def pieces (Y : FVec F S256x2048 .f32) : List (View.Piece (Elt F) S4352x128 .f32) :=
  [⟨⟨box ![16, 0] inb_S4352x128_S256x128_16_0_s_17_1, spos_17_1⟩, k0_pay33⟩,
   ⟨⟨box ![15, 0] inb_S4352x128_S256x128_15_0_s_17_1, spos_17_1⟩, extractStridedSlice S256x128 ![0, 1920] Y slices_S256x2048_o0_1920_S256x128⟩,
   ⟨⟨box ![14, 0] inb_S4352x128_S256x128_14_0_s_17_1, spos_17_1⟩, extractStridedSlice S256x128 ![0, 1792] Y slices_S256x2048_o0_1792_S256x128⟩,
   ⟨⟨box ![13, 0] inb_S4352x128_S256x128_13_0_s_17_1, spos_17_1⟩, extractStridedSlice S256x128 ![0, 1664] Y slices_S256x2048_o0_1664_S256x128⟩,
   ⟨⟨box ![12, 0] inb_S4352x128_S256x128_12_0_s_17_1, spos_17_1⟩, extractStridedSlice S256x128 ![0, 1536] Y slices_S256x2048_o0_1536_S256x128⟩,
   ⟨⟨box ![11, 0] inb_S4352x128_S256x128_11_0_s_17_1, spos_17_1⟩, extractStridedSlice S256x128 ![0, 1408] Y slices_S256x2048_o0_1408_S256x128⟩,
   ⟨⟨box ![10, 0] inb_S4352x128_S256x128_10_0_s_17_1, spos_17_1⟩, extractStridedSlice S256x128 ![0, 1280] Y slices_S256x2048_o0_1280_S256x128⟩,
   ⟨⟨box ![9, 0] inb_S4352x128_S256x128_9_0_s_17_1, spos_17_1⟩, extractStridedSlice S256x128 ![0, 1152] Y slices_S256x2048_o0_1152_S256x128⟩,
   ⟨⟨box ![8, 0] inb_S4352x128_S256x128_8_0_s_17_1, spos_17_1⟩, extractStridedSlice S256x128 ![0, 1024] Y slices_S256x2048_o0_1024_S256x128⟩,
   ⟨⟨box ![7, 0] inb_S4352x128_S256x128_7_0_s_17_1, spos_17_1⟩, extractStridedSlice S256x128 ![0, 896] Y slices_S256x2048_o0_896_S256x128⟩,
   ⟨⟨box ![6, 0] inb_S4352x128_S256x128_6_0_s_17_1, spos_17_1⟩, extractStridedSlice S256x128 ![0, 768] Y slices_S256x2048_o0_768_S256x128⟩,
   ⟨⟨box ![5, 0] inb_S4352x128_S256x128_5_0_s_17_1, spos_17_1⟩, extractStridedSlice S256x128 ![0, 640] Y slices_S256x2048_o0_640_S256x128⟩,
   ⟨⟨box ![4, 0] inb_S4352x128_S256x128_4_0_s_17_1, spos_17_1⟩, extractStridedSlice S256x128 ![0, 512] Y slices_S256x2048_o0_512_S256x128⟩,
   ⟨⟨box ![3, 0] inb_S4352x128_S256x128_3_0_s_17_1, spos_17_1⟩, extractStridedSlice S256x128 ![0, 384] Y slices_S256x2048_o0_384_S256x128⟩,
   ⟨⟨box ![2, 0] inb_S4352x128_S256x128_2_0_s_17_1, spos_17_1⟩, extractStridedSlice S256x128 ![0, 256] Y slices_S256x2048_o0_256_S256x128⟩,
   ⟨⟨box ![1, 0] inb_S4352x128_S256x128_1_0_s_17_1, spos_17_1⟩, extractStridedSlice S256x128 ![0, 128] Y slices_S256x2048_o0_128_S256x128⟩,
   ⟨⟨box ![0, 0] inb_S4352x128_S256x128_0_0_s_17_1, spos_17_1⟩, extractStridedSlice S256x128 ![0, 0] Y slices_S256x2048_o0_0_S256x128⟩]

/-- A load of the whole view reads what the view reads. -/
theorem readAt_all {sp : Space} {s : Shape} {e : EltTy} (v : View sig .tc sp s e) (f : v.ty.Contents (Elt F)) {off : Fin s.rank → ℕ}
    (inb : ∀ a, off a + s.size a ≤ s.size a) :
    v.readAt (Elt F) (Rect.unit off s.size inb).toLoadRect f = v.read (Elt F) f := by
  funext y
  show v.read (Elt F) f _ = v.read (Elt F) f y
  congr 1
  funext a; apply Fin.ext
  show off a + 1 * (y a).val = (y a).val
  have := inb a; omega

/-- The packed block. -/
def blk (Y : FVec F S256x2048 .f32) : Vec F S4352x128 .f32 := fun y =>
  if h : (y 0).val % 17 < 16 then
    Y (ValueIdx.ix2 (⟨(y 0).val / 17, by have h' : (y 0).val < 4352 := (y 0).isLt; omega⟩ : Fin 256)
      (⟨128 * ((y 0).val % 17) + (y 1).val, by have h' : (y 1).val < 128 := (y 1).isLt; omega⟩ : Fin 2048))
  else Scalar.ofBits .f32 0x00000000#32

theorem piece_ok (Y : FVec F S256x2048 .f32) (n : ℕ) (hn : n < 16) (m : ℕ) (hm : m = 128 * n) (h) (hs) (hsl)
    (x : (⟨box ![n, 0] h, hs⟩ : Rect S4352x128).shape.Idx) :
    extractStridedSlice S256x128 ![0, m] Y hsl x = blk Y ((⟨box ![n, 0] h, hs⟩ : Rect S4352x128).emb x) := by
  subst hm
  have h0 : (((⟨box ![n, 0] h, hs⟩ : Rect S4352x128).emb x) 0).val = n + 17 * (x 0).val := rfl
  have h1 : (((⟨box ![n, 0] h, hs⟩ : Rect S4352x128).emb x) 1).val = 0 + 1 * (x 1).val := rfl
  have hx0 : (x 0).val < 256 := (x 0).isLt
  unfold blk
  rw [dif_pos (by rw [h0]; omega)]
  show Y _ = Y _
  congr 1
  funext a; apply Fin.ext
  match a with
  | ⟨0, _⟩ => show 0 + (x 0).val = _ / 17; rw [h0]; omega
  | ⟨1, _⟩ => show 128 * n + (x 1).val = 128 * (_ % 17) + _; rw [h0, h1]; omega

theorem pieces_ok (Y : FVec F S256x2048 .f32) : ∀ p ∈ pieces Y, ∀ x : p.1.shape.Idx, p.2 x = blk Y (p.1.emb x) := by
  unfold pieces
  refine List.forall_mem_cons.mpr ⟨?_, ?_⟩
  · intro x
    have h0 : (((⟨box ![16, 0] inb_S4352x128_S256x128_16_0_s_17_1, spos_17_1⟩ : Rect S4352x128).emb x) 0).val = 16 + 17 * (x 0).val := rfl
    unfold blk
    rw [dif_neg (by rw [h0]; omega)]
    rfl
  refine List.forall_mem_cons.mpr ⟨fun x => piece_ok Y 15 (by decide) 1920 rfl _ _ slices_S256x2048_o0_1920_S256x128 x, ?_⟩
  refine List.forall_mem_cons.mpr ⟨fun x => piece_ok Y 14 (by decide) 1792 rfl _ _ slices_S256x2048_o0_1792_S256x128 x, ?_⟩
  refine List.forall_mem_cons.mpr ⟨fun x => piece_ok Y 13 (by decide) 1664 rfl _ _ slices_S256x2048_o0_1664_S256x128 x, ?_⟩
  refine List.forall_mem_cons.mpr ⟨fun x => piece_ok Y 12 (by decide) 1536 rfl _ _ slices_S256x2048_o0_1536_S256x128 x, ?_⟩
  refine List.forall_mem_cons.mpr ⟨fun x => piece_ok Y 11 (by decide) 1408 rfl _ _ slices_S256x2048_o0_1408_S256x128 x, ?_⟩
  refine List.forall_mem_cons.mpr ⟨fun x => piece_ok Y 10 (by decide) 1280 rfl _ _ slices_S256x2048_o0_1280_S256x128 x, ?_⟩
  refine List.forall_mem_cons.mpr ⟨fun x => piece_ok Y 9 (by decide) 1152 rfl _ _ slices_S256x2048_o0_1152_S256x128 x, ?_⟩
  refine List.forall_mem_cons.mpr ⟨fun x => piece_ok Y 8 (by decide) 1024 rfl _ _ slices_S256x2048_o0_1024_S256x128 x, ?_⟩
  refine List.forall_mem_cons.mpr ⟨fun x => piece_ok Y 7 (by decide) 896 rfl _ _ slices_S256x2048_o0_896_S256x128 x, ?_⟩
  refine List.forall_mem_cons.mpr ⟨fun x => piece_ok Y 6 (by decide) 768 rfl _ _ slices_S256x2048_o0_768_S256x128 x, ?_⟩
  refine List.forall_mem_cons.mpr ⟨fun x => piece_ok Y 5 (by decide) 640 rfl _ _ slices_S256x2048_o0_640_S256x128 x, ?_⟩
  refine List.forall_mem_cons.mpr ⟨fun x => piece_ok Y 4 (by decide) 512 rfl _ _ slices_S256x2048_o0_512_S256x128 x, ?_⟩
  refine List.forall_mem_cons.mpr ⟨fun x => piece_ok Y 3 (by decide) 384 rfl _ _ slices_S256x2048_o0_384_S256x128 x, ?_⟩
  refine List.forall_mem_cons.mpr ⟨fun x => piece_ok Y 2 (by decide) 256 rfl _ _ slices_S256x2048_o0_256_S256x128 x, ?_⟩
  refine List.forall_mem_cons.mpr ⟨fun x => piece_ok Y 1 (by decide) 128 rfl _ _ slices_S256x2048_o0_128_S256x128 x, ?_⟩
  refine List.forall_mem_cons.mpr ⟨fun x => piece_ok Y 0 (by decide) 0 rfl _ _ slices_S256x2048_o0_0_S256x128 x, ?_⟩
  exact fun p hp => absurd hp List.not_mem_nil

theorem box_mem (n : ℕ) (h) (hs) (y : S4352x128.Idx) (hy : (y 0).val % 17 = n) :
    y ∈ (⟨box ![n, 0] h, hs⟩ : Rect S4352x128).set := by
  have h' : (y 0).val < 4352 := (y 0).isLt
  have h1 : (y 1).val < 128 := (y 1).isLt
  rw [← Rect.map_emb_univ]
  refine Finset.mem_map.mpr ⟨(ValueIdx.ix2 (⟨(y 0).val / 17, by omega⟩ : Fin 256) (⟨(y 1).val, h1⟩ : Fin 128) : S256x128.Idx), Finset.mem_univ _, ?_⟩
  funext a; apply Fin.ext
  match a with
  | ⟨0, _⟩ => show n + 17 * ((y 0).val / 17) = (y 0).val; omega
  | ⟨1, _⟩ => show 0 + 1 * (y 1).val = (y 1).val; omega

theorem pieces_cover (Y : FVec F S256x2048 .f32) (y : S4352x128.Idx) : ∃ p ∈ pieces Y, y ∈ p.1.set := by
  unfold pieces
  have hlt : (y 0).val % 17 < 17 := Nat.mod_lt _ (by decide)
  generalize hn : (y 0).val % 17 = n at hlt
  interval_cases n
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))), box_mem 0 inb_S4352x128_S256x128_0_0_s_17_1 spos_17_1 y hn⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))), box_mem 1 inb_S4352x128_S256x128_1_0_s_17_1 spos_17_1 y hn⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))), box_mem 2 inb_S4352x128_S256x128_2_0_s_17_1 spos_17_1 y hn⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))), box_mem 3 inb_S4352x128_S256x128_3_0_s_17_1 spos_17_1 y hn⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))), box_mem 4 inb_S4352x128_S256x128_4_0_s_17_1 spos_17_1 y hn⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))), box_mem 5 inb_S4352x128_S256x128_5_0_s_17_1 spos_17_1 y hn⟩
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.head _))))))))))), box_mem 6 inb_S4352x128_S256x128_6_0_s_17_1 spos_17_1 y hn⟩
  · exact ⟨_, (List.Mem.tail _ (List.Mem.tail _ (List.Mem.tail _ (List.Mem.tail _ (List.Mem.tail _ (List.Mem.tail _ (List.Mem.tail _ (List.Mem.tail _ (List.Mem.tail _ (List.Mem.head _)))))))))), box_mem 7 inb_S4352x128_S256x128_7_0_s_17_1 spos_17_1 y hn⟩
  · exact ⟨_, (List.Mem.tail _ (List.Mem.tail _ (List.Mem.tail _ (List.Mem.tail _ (List.Mem.tail _ (List.Mem.tail _ (List.Mem.tail _ (List.Mem.tail _ (List.Mem.head _))))))))), box_mem 8 inb_S4352x128_S256x128_8_0_s_17_1 spos_17_1 y hn⟩
  · exact ⟨_, (List.Mem.tail _ (List.Mem.tail _ (List.Mem.tail _ (List.Mem.tail _ (List.Mem.tail _ (List.Mem.tail _ (List.Mem.tail _ (List.Mem.head _)))))))), box_mem 9 inb_S4352x128_S256x128_9_0_s_17_1 spos_17_1 y hn⟩
  · exact ⟨_, (List.Mem.tail _ (List.Mem.tail _ (List.Mem.tail _ (List.Mem.tail _ (List.Mem.tail _ (List.Mem.tail _ (List.Mem.head _))))))), box_mem 10 inb_S4352x128_S256x128_10_0_s_17_1 spos_17_1 y hn⟩
  · exact ⟨_, (List.Mem.tail _ (List.Mem.tail _ (List.Mem.tail _ (List.Mem.tail _ (List.Mem.tail _ (List.Mem.head _)))))), box_mem 11 inb_S4352x128_S256x128_11_0_s_17_1 spos_17_1 y hn⟩
  · exact ⟨_, (List.Mem.tail _ (List.Mem.tail _ (List.Mem.tail _ (List.Mem.tail _ (List.Mem.head _))))), box_mem 12 inb_S4352x128_S256x128_12_0_s_17_1 spos_17_1 y hn⟩
  · exact ⟨_, (List.Mem.tail _ (List.Mem.tail _ (List.Mem.tail _ (List.Mem.head _)))), box_mem 13 inb_S4352x128_S256x128_13_0_s_17_1 spos_17_1 y hn⟩
  · exact ⟨_, (List.Mem.tail _ (List.Mem.tail _ (List.Mem.head _))), box_mem 14 inb_S4352x128_S256x128_14_0_s_17_1 spos_17_1 y hn⟩
  · exact ⟨_, (List.Mem.tail _ (List.Mem.head _)), box_mem 15 inb_S4352x128_S256x128_15_0_s_17_1 spos_17_1 y hn⟩
  · exact ⟨_, (List.Mem.head _), box_mem 16 inb_S4352x128_S256x128_16_0_s_17_1 spos_17_1 y hn⟩

theorem read_pieces {sp : Space} (v : View sig .tc sp S4352x128 .f32) (f : v.ty.Contents (Elt F)) (Y : FVec F S256x2048 .f32) :
    v.read (Elt F) (v.writes (Elt F) f (pieces Y)) = blk Y := by
  rw [View.read_writes_eq_canon v f _ (pieces_cover Y)]
  exact funext fun y => View.canon_apply_of_pieces (blk Y) _ (pieces_ok Y) y (pieces_cover Y y)

section
variable (c : Dev nD) (i : grid0.Coords)
  (arg6 : Memref sig .tc .vmem S1x2048x128 .bf16) (harg6 : arg6.IsWhole) (arg7 : Memref sig .tc .vmem S1x1x128 .f32) (harg7 : arg7.IsWhole)
  (arg8 : Memref sig .tc .vmem S1x1x2048x1024 .bf16) (harg8 : arg8.IsWhole) (arg9 : Memref sig .tc .vmem S1x1x512x2048 .bf16) (harg9 : arg9.IsWhole)
  (arg10 : Memref sig .tc .vmem S1x1x2048x1024 .bf16) (harg10 : arg10.IsWhole) (arg11 : Memref sig .tc .vmem S1x1x512x2048 .bf16) (harg11 : arg11.IsWhole)
  (arg12 : Memref sig .tc .vmem S4352x128 .f32) (harg12 : arg12.IsWhole)

/-- The contents of the buffer behind a memref. -/
abbrev BufM {sp : Space} {S : Shape} {e : EltTy} (c : Dev nD) (M : Memref sig .tc sp S e) : Type := Buf (Elt F) (M.view.loc (c : Thread nD τ))

/-- The computation of one tile: the sixteen strided loads of the slot, the router, the two experts, the seventeen strided
    stores of the block. -/
noncomputable def computeRun (T0 T1 : S216.Idx → BitVec 32) (q : PosShare TreeShare)
    (fs : S2x4352x128.Idx → Elt F .f32) (f6 : BufM (F := F) c arg6) (f7 : BufM (F := F) c arg7) (f8 : BufM (F := F) c arg8)
    (f9 : BufM (F := F) c arg9) (f10 : BufM (F := F) c arg10) (f11 : BufM (F := F) c arg11) :
    { L : List (View.Piece (Elt F) S4352x128 .f32) //
      ∀ (Fr : sProp 𝕄) (Q : PUnit → sProp 𝕄) (rest : Prog (TpuEff nD τ sig (Elt F) Λ₀ .tc) PUnit)
        (f12 : BufM (F := F) c arg12)
        (hK : iprop(((Memref.whole main_arg0 : Memref sig .tc .smem S216 .i32).view.loc (c : Thread nD τ) ↦{q} T0)
          ∗ ((Memref.whole main_arg1 : Memref sig .tc .smem S216 .i32).view.loc (c : Thread nD τ) ↦{q} T1)
          ∗ ((slotM (k0_off16 i) (k0_off16_inb i)).view.loc (c : Thread nD τ) ↦[(slotM (k0_off16 i) (k0_off16_inb i)).view.set]{fullShare} fs)
          ∗ (arg6.view.loc (c : Thread nD τ) ↦[arg6.view.set]{fullShare} f6) ∗ (arg7.view.loc (c : Thread nD τ) ↦[arg7.view.set]{fullShare} f7)
          ∗ (arg8.view.loc (c : Thread nD τ) ↦[arg8.view.set]{fullShare} f8) ∗ (arg9.view.loc (c : Thread nD τ) ↦[arg9.view.set]{fullShare} f9)
          ∗ (arg10.view.loc (c : Thread nD τ) ↦[arg10.view.set]{fullShare} f10) ∗ (arg11.view.loc (c : Thread nD τ) ↦[arg11.view.set]{fullShare} f11)
          ∗ (arg12.view.loc (c : Thread nD τ) ↦[arg12.view.set]{fullShare} arg12.view.writes (Elt F) f12 L) ∗ Fr)
          ⊢ wp frame (wpE (defs₀ (F := F)) Variants.none (c : Thread nD τ) none) Set.univ rest Q),
        iprop(((Memref.whole main_arg0 : Memref sig .tc .smem S216 .i32).view.loc (c : Thread nD τ) ↦{q} T0)
          ∗ ((Memref.whole main_arg1 : Memref sig .tc .smem S216 .i32).view.loc (c : Thread nD τ) ↦{q} T1)
          ∗ ((slotM (k0_off16 i) (k0_off16_inb i)).view.loc (c : Thread nD τ) ↦[(slotM (k0_off16 i) (k0_off16_inb i)).view.set]{fullShare} fs)
          ∗ (arg6.view.loc (c : Thread nD τ) ↦[arg6.view.set]{fullShare} f6) ∗ (arg7.view.loc (c : Thread nD τ) ↦[arg7.view.set]{fullShare} f7)
          ∗ (arg8.view.loc (c : Thread nD τ) ↦[arg8.view.set]{fullShare} f8) ∗ (arg9.view.loc (c : Thread nD τ) ↦[arg9.view.set]{fullShare} f9)
          ∗ (arg10.view.loc (c : Thread nD τ) ↦[arg10.view.set]{fullShare} f10) ∗ (arg11.view.loc (c : Thread nD τ) ↦[arg11.view.set]{fullShare} f11)
          ∗ (arg12.view.loc (c : Thread nD τ) ↦[arg12.view.set]{fullShare} f12) ∗ Fr)
          ⊢ wp frame (wpE (defs₀ (F := F)) Variants.none (c : Thread nD τ) none) Set.univ
          (do
            let v266 ← k0_part7 i tb0 (Memref.isWhole_whole _) tb1 (Memref.isWhole_whole _) tb2 (Memref.isWhole_whole _) tb3 (Memref.isWhole_whole _) (Memref.whole main_v14) (Memref.isWhole_whole _)
              arg6 harg6 arg7 harg7 arg8 harg8 arg9 harg9 arg10 harg10 arg11 harg11 arg12 harg12 (Memref.whole cc0_scratch0) (Memref.isWhole_whole _) cc0_scratch1 (BitVec.ofNat 32 (i 0).val)
            let _ ← Prog.lift (.load arg12 (⟨![16, 0], S256x128.size, ![17, 1], inb_S4352x128_S256x128_16_0_s_17_1⟩ : LoadRect S4352x128) (View.loadsAt_vmem h_S256x128))
            Prog.lift (.store arg12 ⟨(⟨![16, 0], S256x128.size, ![17, 1], inb_S4352x128_S256x128_16_0_s_17_1⟩ : LoadRect S4352x128), spos_17_1⟩ v266 Finset.univ (View.stores_vmem_bits_univ h_S256x128 rfl) (.inl rfl))
            rest) Q } := by
  refine ⟨?_, fun Fr Q rest f12 hK => ?run⟩
  case run =>
    simp only [k0_part7_eq_skeleton]; unfold k0_part7_skel
    simp only [k0_part6_eq_skeleton]; unfold k0_part6_skel
    simp only [k0_part5_eq_skeleton]; unfold k0_part5_skel
    simp only [k0_part4_eq_skeleton]; unfold k0_part4_skel
    simp only [k0_part3_eq_skeleton]; unfold k0_part3_skel
    simp only [k0_part2_eq_skeleton]; unfold k0_part2_skel
    simp only [k0_part1_eq_skeleton]; unfold k0_part1_skel
    iintro ⟨H0, H1, Hs, H6, H7, H8, H9, H10, H11, H12, HFr⟩
    sl_exec
    sl_step
    sl_step
    dsimp only
    sl_exec
    sl_step
    sl_step
    dsimp only
    sl_exec
    iapply hK
    isplitl [H0]; · iexact H0
    isplitl [H1]; · iexact H1
    isplitl [Hs]; · iexact Hs
    isplitl [H6]; · iexact H6
    isplitl [H7]; · iexact H7
    isplitl [H8]; · iexact H8
    isplitl [H9]; · iexact H9
    isplitl [H10]; · iexact H10
    isplitl [H11]; · iexact H11
    isplitl [H12]; · iexact H12
    iexact HFr

set_option maxHeartbeats 4000000 in
theorem computeRun_pieces (T0 T1 : S216.Idx → BitVec 32) (q : PosShare TreeShare)
    (fs : S2x4352x128.Idx → Elt F .f32) (f6 : BufM (F := F) c arg6) (f7 : BufM (F := F) c arg7) (f8 : BufM (F := F) c arg8)
    (f9 : BufM (F := F) c arg9) (f10 : BufM (F := F) c arg10) (f11 : BufM (F := F) c arg11) :
    (computeRun c i arg6 harg6 arg7 harg7 arg8 harg8 arg9 harg9 arg10 harg10 arg11 harg11 arg12 harg12 T0 T1 q fs f6 f7 f8 f9 f10 f11).1
      = pieces (tileY ((slotM (k0_off16 i) (k0_off16_inb i)).view.read (Elt F) fs) (tword T0 (i 0).val) (tword T1 (i 0).val)
          (arg6.view.read (Elt F) f6) (arg7.view.read (Elt F) f7) (arg8.view.read (Elt F) f8) (arg9.view.read (Elt F) f9)
          (arg10.view.read (Elt F) f10) (arg11.view.read (Elt F) f11)) := by
  have e0 := read_tword T0 (i 0).val (i 0).isLt (k0_off17 i) (k0_off17_inb i) (k0_off17_eq i) (Shape.Idx.first (s := S1) (by decide))
  have e1 := read_tword T1 (i 0).val (i 0).isLt (k0_off17 i) (k0_off17_inb i) (k0_off17_eq i) (Shape.Idx.first (s := S1) (by decide))
  rw [← e0, ← e1]
  rw [← readAt_all arg6.view f6 inb_S1x2048x128_S1x2048x128_0_0_0, ← readAt_all arg7.view f7 inb_S1x1x128_S1x1x128_0_0_0,
    ← readAt_all arg8.view f8 inb_S1x1x2048x1024_S1x1x2048x1024_0_0_0_0, ← readAt_all arg9.view f9 inb_S1x1x512x2048_S1x1x512x2048_0_0_0_0,
    ← readAt_all arg10.view f10 inb_S1x1x2048x1024_S1x1x2048x1024_0_0_0_0, ← readAt_all arg11.view f11 inb_S1x1x512x2048_S1x1x512x2048_0_0_0_0]
  rfl
end

end Cert.KernelIdeal.Hand
-- ==== Proof.Stages.lean ====
/-
  Hand-written, untrusted. The kernel's body at one grid point as a chain of stages, and what each stage does.
-/
module

public import proofs.«01_k».proof.Proof.Body

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F] [∀ e, Nonempty (Elt F e)]

local notation "𝕄" => MT nD τ sig Unit (Elt F) ℕ (Pipeline.UD sig nD τ) ℕ
local notation "EC" => (countersEmb (U := Pipeline.UD sig nD τ))
/-- A TensorCore program of the kernel. -/
abbrev PROG (F : FTy → Type) [FloatOps F] [Named F] : Type _ := Prog (TpuEff nD τ sig (Elt F) Λ₀ .tc) PUnit

theorem bool_iff (b : Bool) : IntOp.cmpi .ne (BitVec.setWidth 32 (BitVec.ofBool b)) 0#32 = 1#1 ↔ b = true := by cases b <;> decide
/-- "Greater than zero", as the kernel's scalar unit asks it. -/
theorem sgt_iff (v : BitVec 32) : Scalar.cmpi .ne (Scalar.extui (Scalar.cmpi .sgt v 0#32) : BitVec 32) 0#32 = 1#1 ↔ 0 < v.toInt := by
  refine (bool_iff (BitVec.slt 0#32 v)).trans ?_
  rw [BitVec.slt_iff_toInt_lt]; rfl
theorem eq_iff (v : BitVec 32) : Scalar.cmpi .ne (Scalar.extui (Scalar.cmpi .eq v 0#32) : BitVec 32) 0#32 = 1#1 ↔ v = 0#32 :=
  (bool_iff (v == 0#32)).trans beq_iff_eq
theorem cond2_iff (v : BitVec 32) : k0_cond2 v = 1#1 ↔ 0 < v.toInt := sgt_iff v
theorem cond4_iff (v : BitVec 32) : k0_cond4 v = 1#1 ↔ 0 < v.toInt := sgt_iff v
theorem cond6_iff (v : BitVec 32) : k0_cond6 v = 1#1 ↔ 0 < v.toInt := sgt_iff v
theorem cond7_iff (v : BitVec 32) : k0_cond7 v = 1#1 ↔ v = 0#32 := eq_iff v

/-- Whether tile `n` has tokens. -/
abbrev pos (T2 : S216.Idx → BitVec 32) (n : ℕ) : Prop := 0 < (tword T2 n).toInt

section
variable (c : Dev nD) (i : grid0.Coords)
  (arg6 : Memref sig .tc .vmem S1x2048x128 .bf16) (harg6 : arg6.IsWhole) (arg7 : Memref sig .tc .vmem S1x1x128 .f32) (harg7 : arg7.IsWhole)
  (arg8 : Memref sig .tc .vmem S1x1x2048x1024 .bf16) (harg8 : arg8.IsWhole) (arg9 : Memref sig .tc .vmem S1x1x512x2048 .bf16) (harg9 : arg9.IsWhole)
  (arg10 : Memref sig .tc .vmem S1x1x2048x1024 .bf16) (harg10 : arg10.IsWhole) (arg11 : Memref sig .tc .vmem S1x1x512x2048 .bf16) (harg11 : arg11.IsWhole)
  (arg12 : Memref sig .tc .vmem S4352x128 .f32) (harg12 : arg12.IsWhole)

/-- Stage 1: the first tile's gathers are issued. -/
def st1 (K : PROG F) : PROG F :=
  if k0_h1 : k0_cond1 i = 1#1 then do
    let v31 : Elt F .i32 ← smemLoad tb2 (Rect.unit (s := S216) (k0_off2 i) S1.size (k0_off2_inb i k0_h1)) numel1_S1 rfl
    if k0_h2 : k0_cond2 v31 = 1#1 then do
      Scf.Loop.for k0_t1_loop (k0_t1_ok i k0_h1) ⟨⟩ (k0_t1_body i tb0 (Memref.isWhole_whole _) tb1 (Memref.isWhole_whole _) tb2 (Memref.isWhole_whole _) (Memref.whole main_arg3) (Memref.isWhole_whole _) (Memref.whole main_v14) (Memref.isWhole_whole _)
            arg6 harg6 arg7 harg7 arg8 harg8 arg9 harg9 arg10 harg10 arg11 harg11 arg12 harg12 (Memref.whole cc0_scratch0) (Memref.isWhole_whole _) cc0_scratch1 k0_h1 v31 k0_h2)
      K
    else K
  else K
/-- Stage 2: the next tile's gathers are issued. -/
def st2 (K : PROG F) : PROG F :=
  if k0_h3 : k0_cond3 i = 1#1 then do
    let v33 : Elt F .i32 ← smemLoad tb2 (Rect.unit (s := S216) (k0_off8 i) S1.size (k0_off8_inb i k0_h3)) numel1_S1 rfl
    if k0_h4 : k0_cond4 v33 = 1#1 then do
      Scf.Loop.for k0_t2_loop (k0_t2_ok i k0_h3) ⟨⟩ (k0_t2_body i tb0 (Memref.isWhole_whole _) tb1 (Memref.isWhole_whole _) tb2 (Memref.isWhole_whole _) (Memref.whole main_arg3) (Memref.isWhole_whole _) (Memref.whole main_v14) (Memref.isWhole_whole _)
            arg6 harg6 arg7 harg7 arg8 harg8 arg9 harg9 arg10 harg10 arg11 harg11 arg12 harg12 (Memref.whole cc0_scratch0) (Memref.isWhole_whole _) cc0_scratch1 k0_h3 v33 k0_h4)
      K
    else K
  else K
/-- Stage 3: this tile's gathers are waited for. -/
def st3 (K : PROG F) : PROG F := do
  let v20 : Elt F .i32 ← smemLoad tb2 (Rect.unit (s := S216) (k0_off1 i) S1.size (k0_off1_inb i)) numel1_S1 rfl
  if Scalar.cmpi .ne (Scalar.extui (Scalar.cmpi .sgt v20 0#32) : BitVec 32) 0#32 = 1#1 then do
    Scf.Loop.for k0_t3_loop k0_t3_ok ⟨⟩ (k0_t3_body i tb0 (Memref.isWhole_whole _) tb1 (Memref.isWhole_whole _) tb2 (Memref.isWhole_whole _) (Memref.whole main_arg3) (Memref.isWhole_whole _) (Memref.whole main_v14) (Memref.isWhole_whole _)
            arg6 harg6 arg7 harg7 arg8 harg8 arg9 harg9 arg10 harg10 arg11 harg11 arg12 harg12 (Memref.whole cc0_scratch0) (Memref.isWhole_whole _) cc0_scratch1)
    K
  else K
/-- Stage 4: the tile is computed. -/
def st4 (v1 : Elt F .i32) (K : PROG F) : PROG F :=
  if k0_h6 : k0_cond6 v1 = 1#1 then do
    let v266 ← k0_part7 i tb0 (Memref.isWhole_whole _) tb1 (Memref.isWhole_whole _) tb2 (Memref.isWhole_whole _) tb3 (Memref.isWhole_whole _) (Memref.whole main_v14) (Memref.isWhole_whole _)
              arg6 harg6 arg7 harg7 arg8 harg8 arg9 harg9 arg10 harg10 arg11 harg11 arg12 harg12 (Memref.whole cc0_scratch0) (Memref.isWhole_whole _) cc0_scratch1 (BitVec.ofNat 32 (i 0).val)
    let _ ← Prog.lift (.load arg12 (⟨![16, 0], S256x128.size, ![17, 1], inb_S4352x128_S256x128_16_0_s_17_1⟩ : LoadRect S4352x128) (View.loadsAt_vmem h_S256x128))
    Prog.lift (.store arg12 ⟨(⟨![16, 0], S256x128.size, ![17, 1], inb_S4352x128_S256x128_16_0_s_17_1⟩ : LoadRect S4352x128), spos_17_1⟩ v266 Finset.univ (View.stores_vmem_bits_univ h_S256x128 rfl) (.inl rfl))
    K
  else K
/-- Stage 5: a tile without tokens gives a block of zeros. -/
def st5 (v1 : Elt F .i32) : PROG F :=
  if k0_h7 : k0_cond7 v1 = 1#1 then do
    let _ ← Prog.lift (.load arg12 (Rect.unit (s := S4352x128) ![0, 0] S4352x128.size inb_S4352x128_S4352x128_0_0).toLoadRect (View.loadsAt_vmem h_S4352x128))
    Prog.lift (.store arg12 (Rect.unit (s := S4352x128) ![0, 0] S4352x128.size inb_S4352x128_S4352x128_0_0) (k0_pay1 (F := F)) Finset.univ (View.stores_vmem_bits_univ h_S4352x128 rfl) (.inl rfl))
    pure ⟨⟩
  else pure ⟨⟩
/-- The body as the chain of its stages. -/
def body (K : Elt F .i32 → PROG F) : PROG F := do
  let v1 : Elt F .i32 ← smemLoad tb2 (Rect.unit (s := S216) (k0_off1 i) S1.size (k0_off1_inb i)) numel1_S1 rfl
  K v1

theorem body_eq : cc0__expert_body i tb0 (Memref.isWhole_whole _) tb1 (Memref.isWhole_whole _) tb2 (Memref.isWhole_whole _) tb3 (Memref.isWhole_whole _) (Memref.whole main_v14) (Memref.isWhole_whole _)
      arg6 harg6 arg7 harg7 arg8 harg8 arg9 harg9 arg10 harg10 arg11 harg11 arg12 harg12 (Memref.whole cc0_scratch0) (Memref.isWhole_whole _) cc0_scratch1
    = body (F := F) i fun v1 => st1 i arg6 harg6 arg7 harg7 arg8 harg8 arg9 harg9 arg10 harg10 arg11 harg11 arg12 harg12
        (st2 i arg6 harg6 arg7 harg7 arg8 harg8 arg9 harg9 arg10 harg10 arg11 harg11 arg12 harg12
          (st3 i arg6 harg6 arg7 harg7 arg8 harg8 arg9 harg9 arg10 harg10 arg11 harg11 arg12 harg12
            (st4 i arg6 harg6 arg7 harg7 arg8 harg8 arg9 harg9 arg10 harg10 arg11 harg11 arg12 harg12 v1
              (st5 arg12 v1)))) := by
  rw [cc0__expert_body_eq_skeleton]; unfold cc0__expert_body_skel
  rfl

variable (fh : S835584x128.Idx → Elt F .f32) (T0 T1 T2 : S216.Idx → BitVec 32) (T3 : S55296.Idx → BitVec 32)
  (hT : ∀ x, (T3 x).toNat < 49152) {q : PosShare TreeShare}

/-- The slot of tile `n` with the tile's gathers in flight, where the tile has tokens. -/
def slotA (n : ℕ) : sProp 𝕄 := if pos T2 n then flight c fh (rows T3 n) (n % 2) else idle c fh (n % 2)
/-- The slot of tile `n` before stage 1 of its point. -/
def slotA0 (n : ℕ) : sProp 𝕄 := if 0 < n then slotA c fh T2 T3 n else idle c fh (n % 2)
/-- The slot of the tile after `n`, once its gathers are issued. -/
def slotB (n : ℕ) : sProp 𝕄 := if n + 1 < 216 then slotA c fh T2 T3 (n + 1) else idle c fh ((n + 1) % 2)
/-- The slot of tile `n` with its tokens landed. -/
def slotC (n : ℕ) : sProp 𝕄 := if pos T2 n then idleAt c fh (n % 2) (landed fh (rows T3 n)) else idle c fh (n % 2)

/-- A word of a tile table, loaded. -/
theorem tload {α : Type} (n : ℕ) (hn : n < 216) (o : Fin 1 → ℕ) (h) (ho : o = ![n]) {Q : α → sProp 𝕄}
    (K : Elt F .i32 → Prog (TpuEff nD τ sig (Elt F) Λ₀ .tc) α) :
    ((tb2.view.loc (c : Thread nD τ) ↦{q} T2) : sProp 𝕄) ⊢ iprop(((tb2.view.loc (c : Thread nD τ) ↦{q} T2) -∗ wp frame (wpE (defs₀ (F := F)) Variants.none (c : Thread nD τ) none) Set.univ (K (tword T2 n)) Q) -∗
      wp frame (wpE (defs₀ (F := F)) Variants.none (c : Thread nD τ) none) Set.univ (smemLoad tb2 (Rect.unit (s := S216) o S1.size h) numel1_S1 rfl >>= K) Q) := by
  unfold smemLoad smemLoadElt
  iintro HT Hk
  rw [wp_bind]
  sl_step
  sl_step
  dsimp only
  have hv : View.readAt (Elt F) tb2.view (Rect.unit (s := S216) o S1.size h).toLoadRect T2
      (Shape.Idx.first (show 0 < (Rect.unit (s := S216) o S1.size h).shape.numel from Nat.one_pos)) = tword T2 n :=
    read_tword T2 n hn o h ho _
  generalize View.readAt (Elt F) tb2.view (Rect.unit (s := S216) o S1.size h).toLoadRect T2
      (Shape.Idx.first (show 0 < (Rect.unit (s := S216) o S1.size h).shape.numel from Nat.one_pos)) = v at hv ⊢
  subst hv
  iapply Hk $$ HT

include hT in
theorem st1_run (K : PROG F) (Q : PUnit → sProp 𝕄) (Fr : sProp 𝕄)
    (hK : iprop((tb2.view.loc (c : Thread nD τ) ↦{q} T2) ∗ (tb3.view.loc (c : Thread nD τ) ↦{q} T3) ∗ slotA c fh T2 T3 (i 0).val ∗ Fr) ⊢ wp frame (wpE (defs₀ (F := F)) Variants.none (c : Thread nD τ) none) Set.univ (K) Q) :
    iprop((tb2.view.loc (c : Thread nD τ) ↦{q} T2) ∗ (tb3.view.loc (c : Thread nD τ) ↦{q} T3) ∗ slotA0 c fh T2 T3 (i 0).val ∗ Fr) ⊢ wp frame (wpE (defs₀ (F := F)) Variants.none (c : Thread nD τ) none) Set.univ (st1 i arg6 harg6 arg7 harg7 arg8 harg8 arg9 harg9 arg10 harg10 arg11 harg11 arg12 harg12 K) Q := by
  unfold st1 slotA0
  by_cases h1 : k0_cond1 i = 1#1
  · have hi := (cond1_iff i).mp h1
    rw [dif_pos h1, if_neg (by omega)]
    iintro ⟨H2, H3, HA, HFr⟩
    iapply (tload c T2 (i 0).val (i 0).isLt _ _ (k0_off2_eq i)) $$ H2
    iintro H2
    by_cases hp : pos T2 (i 0).val
    · rw [dif_pos ((cond2_iff _).mpr hp)]
      imod (issuing_start c fh (rows T3 (i 0).val) ((i 0).val % 2) (Nat.mod_lt _ (by decide))) $$ HA with HA
      rw [wp_bind]
      iapply (wp_wand frame (wpE (defs₀ (F := F)) Variants.none (c : Thread nD τ) none) Set.univ) $$ [H3 HA]
      · iapply (t1_run c i fh T3 hT tb0 (Memref.isWhole_whole _) tb1 (Memref.isWhole_whole _) tb2 (Memref.isWhole_whole _) arg6 harg6 arg7 harg7 arg8 harg8 arg9 harg9 arg10 harg10 arg11 harg11 arg12 harg12 h1 (tword T2 (i 0).val) ((cond2_iff _).mpr hp)) $$ [H3 HA]
        isplitl [H3]; · iexact H3
        iexact HA
      iintro %_ ⟨H3, HA⟩
      ihave HA := (issuing_done c fh (rows T3 (i 0).val) ((i 0).val % 2)) $$ HA
      iapply hK
      isplitl [H2]; · iexact H2
      isplitl [H3]; · iexact H3
      isplitl [HA]
      · unfold slotA; rw [if_pos hp]; iexact HA
      iexact HFr
    · rw [dif_neg (fun h => hp ((cond2_iff _).mp h))]
      iapply hK
      isplitl [H2]; · iexact H2
      isplitl [H3]; · iexact H3
      isplitl [HA]
      · unfold slotA; rw [if_neg hp]; iexact HA
      iexact HFr
  · have hi : 0 < (i 0).val := Nat.pos_of_ne_zero fun h => h1 ((cond1_iff i).mpr h)
    rw [dif_neg h1, if_pos hi]
    exact hK

include hT in
theorem st2_run (K : PROG F) (Q : PUnit → sProp 𝕄) (Fr : sProp 𝕄)
    (hK : iprop((tb2.view.loc (c : Thread nD τ) ↦{q} T2) ∗ (tb3.view.loc (c : Thread nD τ) ↦{q} T3) ∗ slotB c fh T2 T3 (i 0).val ∗ Fr) ⊢ wp frame (wpE (defs₀ (F := F)) Variants.none (c : Thread nD τ) none) Set.univ (K) Q) :
    iprop((tb2.view.loc (c : Thread nD τ) ↦{q} T2) ∗ (tb3.view.loc (c : Thread nD τ) ↦{q} T3) ∗ idle c fh (((i 0).val + 1) % 2) ∗ Fr) ⊢ wp frame (wpE (defs₀ (F := F)) Variants.none (c : Thread nD τ) none) Set.univ (st2 i arg6 harg6 arg7 harg7 arg8 harg8 arg9 harg9 arg10 harg10 arg11 harg11 arg12 harg12 K) Q := by
  unfold st2
  unfold slotB at hK
  by_cases h1 : k0_cond3 i = 1#1
  · have hi := (cond3_iff i).mp h1
    rw [if_pos hi] at hK
    rw [dif_pos h1]
    iintro ⟨H2, H3, HA, HFr⟩
    iapply (tload c T2 ((i 0).val + 1) hi _ _ (k0_off8_eq i)) $$ H2
    iintro H2
    by_cases hp : pos T2 ((i 0).val + 1)
    · rw [dif_pos ((cond4_iff _).mpr hp)]
      imod (issuing_start c fh (rows T3 ((i 0).val + 1)) (((i 0).val + 1) % 2) (Nat.mod_lt _ (by decide))) $$ HA with HA
      rw [wp_bind]
      iapply (wp_wand frame (wpE (defs₀ (F := F)) Variants.none (c : Thread nD τ) none) Set.univ) $$ [H3 HA]
      · iapply (t2_run c i fh T3 hT tb0 (Memref.isWhole_whole _) tb1 (Memref.isWhole_whole _) tb2 (Memref.isWhole_whole _) arg6 harg6 arg7 harg7 arg8 harg8 arg9 harg9 arg10 harg10 arg11 harg11 arg12 harg12 h1 (tword T2 ((i 0).val + 1)) ((cond4_iff _).mpr hp)) $$ [H3 HA]
        isplitl [H3]; · iexact H3
        iexact HA
      iintro %_ ⟨H3, HA⟩
      ihave HA := (issuing_done c fh (rows T3 ((i 0).val + 1)) (((i 0).val + 1) % 2)) $$ HA
      iapply hK
      isplitl [H2]; · iexact H2
      isplitl [H3]; · iexact H3
      isplitl [HA]
      · unfold slotA; rw [if_pos hp]; iexact HA
      iexact HFr
    · rw [dif_neg (fun h => hp ((cond4_iff _).mp h))]
      iapply hK
      isplitl [H2]; · iexact H2
      isplitl [H3]; · iexact H3
      isplitl [HA]
      · unfold slotA; rw [if_neg hp]; iexact HA
      iexact HFr
  · rw [if_neg (fun h => h1 ((cond3_iff i).mpr h))] at hK
    rw [dif_neg h1]
    exact hK

theorem st3_run (K : PROG F) (Q : PUnit → sProp 𝕄) (Fr : sProp 𝕄)
    (hK : iprop((tb2.view.loc (c : Thread nD τ) ↦{q} T2) ∗ (∃ W : Waits sig Unit, owes (c : Thread nD τ) 0 W) ∗ slotC c fh T2 T3 (i 0).val ∗ Fr) ⊢ wp frame (wpE (defs₀ (F := F)) Variants.none (c : Thread nD τ) none) Set.univ (K) Q) :
    iprop((tb2.view.loc (c : Thread nD τ) ↦{q} T2) ∗ (∃ W : Waits sig Unit, owes (c : Thread nD τ) 0 W) ∗ slotA c fh T2 T3 (i 0).val ∗ Fr) ⊢ wp frame (wpE (defs₀ (F := F)) Variants.none (c : Thread nD τ) none) Set.univ (st3 i arg6 harg6 arg7 harg7 arg8 harg8 arg9 harg9 arg10 harg10 arg11 harg11 arg12 harg12 K) Q := by
  unfold st3 slotA
  unfold slotC at hK
  by_cases hp : pos T2 (i 0).val
  · rw [if_pos hp] at hK ⊢
    iintro ⟨H2, HW, HA, HFr⟩
    iapply (tload c T2 (i 0).val (i 0).isLt _ _ (k0_off1_eq i)) $$ H2
    iintro H2
    rw [if_pos ((sgt_iff _).mpr hp)]
    unfold flight
    icases HA with ⟨HB, HL⟩
    ihave HD := (drain_start c fh (rows T3 (i 0).val) ((i 0).val % 2)) $$ [HW HB]
    · isplitl [HW]; · iexact HW
      iexact HB
    rw [wp_bind]
    iapply (wp_wand frame (wpE (defs₀ (F := F)) Variants.none (c : Thread nD τ) none) Set.univ) $$ [HD]
    · iapply (t3_run c i fh tb0 (Memref.isWhole_whole _) tb1 (Memref.isWhole_whole _) tb2 (Memref.isWhole_whole _) arg6 harg6 arg7 harg7 arg8 harg8 arg9 harg9 arg10 harg10 arg11 harg11 arg12 harg12 (rows T3 (i 0).val)) $$ HD
    iintro %_ HD
    ihave HE := (drained c fh (rows T3 (i 0).val) ((i 0).val % 2) (Nat.mod_lt _ (by decide))) $$ [HD HL]
    · isplitl [HD]; · iexact HD
      iexact HL
    icases HE with ⟨HW, HA⟩
    iapply hK
    isplitl [H2]; · iexact H2
    isplitl [HW]; · iexact HW
    isplitl [HA]; · iexact HA
    iexact HFr
  · rw [if_neg hp] at hK ⊢
    iintro ⟨H2, HW, HA, HFr⟩
    iapply (tload c T2 (i 0).val (i 0).isLt _ _ (k0_off1_eq i)) $$ H2
    iintro H2
    rw [if_neg (fun h => hp ((sgt_iff _).mp h))]
    iapply hK
    isplitl [H2]; · iexact H2
    isplitl [HW]; · iexact HW
    isplitl [HA]; · iexact HA
    iexact HFr

/-- The packed tile whose token `k` is token row `rws k` of the packed tokens. -/
def tileX (fh : S835584x128.Idx → Elt F .f32) (rws : ℕ → ℕ) : S4352x128.Idx → Elt F .f32 := fun z =>
  fh (ValueIdx.ix2 (⟨(17 * rws ((z 0).val / 17) + (z 0).val % 17) % 835584, Nat.mod_lt _ (by decide)⟩ : Fin 835584) (z 1))

theorem slot_read (rws : ℕ → ℕ) :
    (slotM (k0_off16 i) (k0_off16_inb i)).view.read (Elt F) (landed fh rws) = tileX fh rws := by
  funext z
  show landed fh rws ((slotM (k0_off16 i) (k0_off16_inb i)).view.emb z) = _
  rw [slotM_val ((i 0).val % 2) _ _ (off16_eq i) z (Nat.mod_lt _ (by decide))]
  rfl

variable (d6 : Vec F S1x2048x128 .bf16) (d7 : Vec F S1x1x128 .f32)
    (d8 : Vec F S1x1x2048x1024 .bf16) (d9 : Vec F S1x1x512x2048 .bf16) (d10 : Vec F S1x1x2048x1024 .bf16) (d11 : Vec F S1x1x512x2048 .bf16)
/-- Tile `n`'s result before packing. -/
def outY (n : ℕ) : FVec F S256x2048 .f32 := tileY (tileX fh (rows T3 n)) (tword T0 n) (tword T1 n) d6 d7 d8 d9 d10 d11
/-- Tile `n`'s block. -/
def outB (n : ℕ) : Vec F S4352x128 .f32 := if pos T2 n then blk (outY fh T0 T1 T3 d6 d7 d8 d9 d10 d11 n) else k0_pay1

theorem st4_run (K : PROG F) (Q : PUnit → sProp 𝕄) (Fr : sProp 𝕄)
    (hK : iprop((tb0.view.loc (c : Thread nD τ) ↦{q} T0) ∗ (tb1.view.loc (c : Thread nD τ) ↦{q} T1) ∗ idle c fh ((i 0).val % 2) ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11
        ∗ (∃ f, ⌜pos T2 (i 0).val → arg12.view.read (Elt F) f = outB fh T0 T1 T2 T3 d6 d7 d8 d9 d10 d11 (i 0).val⌝ ∗ (arg12.view.loc (c : Thread nD τ) ↦[arg12.view.set]{fullShare} f)) ∗ Fr) ⊢ wp frame (wpE (defs₀ (F := F)) Variants.none (c : Thread nD τ) none) Set.univ (K) Q) :
    iprop((tb0.view.loc (c : Thread nD τ) ↦{q} T0) ∗ (tb1.view.loc (c : Thread nD τ) ↦{q} T1) ∗ slotC c fh T2 T3 (i 0).val ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11
        ∗ (∃ f, (arg12.view.loc (c : Thread nD τ) ↦[arg12.view.set]{fullShare} f)) ∗ Fr) ⊢ wp frame (wpE (defs₀ (F := F)) Variants.none (c : Thread nD τ) none) Set.univ (st4 i arg6 harg6 arg7 harg7 arg8 harg8 arg9 harg9 arg10 harg10 arg11 harg11 arg12 harg12 (tword T2 (i 0).val) K) Q := by
  unfold st4 slotC
  by_cases hp : pos T2 (i 0).val
  · rw [dif_pos ((cond6_iff _).mpr hp), if_pos hp]
    unfold idleAt owns
    iintro ⟨H0, H1, ⟨HS, Hs, HT⟩, ⟨%f6, %e6, H6⟩, ⟨%f7, %e7, H7⟩, ⟨%f8, %e8, H8⟩, ⟨%f9, %e9, H9⟩, ⟨%f10, %e10, H10⟩, ⟨%f11, %e11, H11⟩, ⟨%f12, H12⟩, HFr⟩
    have hset := slotM_set ((i 0).val % 2) (k0_off16 i) (k0_off16_inb i) (off16_eq i) (Nat.mod_lt _ (by decide))
    ihave Hs := (Entails.of_eq (show (ls c ↦[slotset ((i 0).val % 2)]{fullShare} landed fh (rows T3 (i 0).val) : sProp 𝕄)
      = ((slotM (k0_off16 i) (k0_off16_inb i)).view.loc (c : Thread nD τ) ↦[(slotM (k0_off16 i) (k0_off16_inb i)).view.set]{fullShare} landed fh (rows T3 (i 0).val)) by rw [hset]; rfl)) $$ Hs
    iapply ((computeRun c i arg6 harg6 arg7 harg7 arg8 harg8 arg9 harg9 arg10 harg10 arg11 harg11 arg12 harg12 T0 T1 q (landed fh (rows T3 (i 0).val)) f6 f7 f8 f9 f10 f11).2
      (iprop(semVal ((c : Thread nD τ), .dma (semAt ((i 0).val % 2))) 0 ∗ toks c fh ((i 0).val % 2) ∗ Fr)) Q K f12 ?hk) $$ [H0 H1 HS Hs HT H6 H7 H8 H9 H10 H11 H12 HFr]
    case hk =>
      rw [computeRun_pieces, slot_read]
      refine BIBase.Entails.trans ?_ hK
      iintro ⟨H0, H1, Hs, H6, H7, H8, H9, H10, H11, H12, HS, HT, HFr⟩
      ihave Hs := (Entails.of_eq (show ((slotM (k0_off16 i) (k0_off16_inb i)).view.loc (c : Thread nD τ) ↦[(slotM (k0_off16 i) (k0_off16_inb i)).view.set]{fullShare} landed fh (rows T3 (i 0).val) : sProp 𝕄)
        = (ls c ↦[slotset ((i 0).val % 2)]{fullShare} landed fh (rows T3 (i 0).val)) by rw [hset]; rfl)) $$ Hs
      isplitl [H0]; · iexact H0
      isplitl [H1]; · iexact H1
      isplitl [HS Hs HT]
      · unfold idle idleAt
        iexists _
        isplitl [HS]; · iexact HS
        isplitl [Hs]; · iexact Hs
        iexact HT
      isplitl [H6]
      · unfold owns
        iexists _; isplitr; swap; · iexact H6
        ipureintro; exact e6
      isplitl [H7]
      · unfold owns
        iexists _; isplitr; swap; · iexact H7
        ipureintro; exact e7
      isplitl [H8]
      · unfold owns
        iexists _; isplitr; swap; · iexact H8
        ipureintro; exact e8
      isplitl [H9]
      · unfold owns
        iexists _; isplitr; swap; · iexact H9
        ipureintro; exact e9
      isplitl [H10]
      · unfold owns
        iexists _; isplitr; swap; · iexact H10
        ipureintro; exact e10
      isplitl [H11]
      · unfold owns
        iexists _; isplitr; swap; · iexact H11
        ipureintro; exact e11
      isplitl [H12]
      · iexists _; isplitr; swap; · iexact H12
        ipureintro
        intro _
        rw [read_pieces]
        unfold outB outY
        rw [if_pos hp, e6, e7, e8, e9, e10, e11]
      iexact HFr
    isplitl [H0]; · iexact H0
    isplitl [H1]; · iexact H1
    isplitl [Hs]; · iexact Hs
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS]; · iexact HS
    isplitl [HT]; · iexact HT
    iexact HFr
  · rw [dif_neg (fun h => hp ((cond6_iff _).mp h)), if_neg hp]
    refine BIBase.Entails.trans ?_ hK
    iintro ⟨H0, H1, Hs, H6, H7, H8, H9, H10, H11, ⟨%f12, H12⟩, HFr⟩
    isplitl [H0]; · iexact H0
    isplitl [H1]; · iexact H1
    isplitl [Hs]; · iexact Hs
    isplitl [H6]; · iexact H6
    isplitl [H7]; · iexact H7
    isplitl [H8]; · iexact H8
    isplitl [H9]; · iexact H9
    isplitl [H10]; · iexact H10
    isplitl [H11]; · iexact H11
    isplitl [H12]
    · iexists f12; isplitr
      · ipureintro; exact fun h => absurd h hp
      iexact H12
    iexact HFr

theorem read_one {sp : Space} (v : View sig .tc sp S4352x128 .f32) (f : v.ty.Contents (Elt F)) (w : FVec F S4352x128 .f32) :
    v.read (Elt F) (v.writes (Elt F) f [⟨Rect.unit (s := S4352x128) ![0, 0] S4352x128.size inb_S4352x128_S4352x128_0_0, w⟩]) = w := by
  have hemb : ∀ x : S4352x128.Idx, (Rect.unit (s := S4352x128) ![0, 0] S4352x128.size inb_S4352x128_S4352x128_0_0).emb x = x := fun x => by
    funext a; apply Fin.ext
    match a with
    | ⟨0, _⟩ => show 0 + 1 * (x 0).val = (x 0).val; omega
    | ⟨1, _⟩ => show 0 + 1 * (x 1).val = (x 1).val; omega
  have hc : ∀ y : S4352x128.Idx, ∃ p ∈ ([⟨Rect.unit (s := S4352x128) ![0, 0] S4352x128.size inb_S4352x128_S4352x128_0_0, w⟩] : List (View.Piece (Elt F) S4352x128 .f32)), y ∈ p.1.set :=
    fun y => ⟨_, List.mem_singleton.mpr rfl, by
      rw [← Rect.map_emb_univ]
      exact Finset.mem_map.mpr ⟨y, Finset.mem_univ _, hemb y⟩⟩
  rw [View.read_writes_eq_canon v f _ hc]
  funext y
  refine View.canon_apply_of_pieces w _ ?_ y (hc y)
  intro p hp x
  obtain rfl := List.mem_singleton.mp hp
  exact congrArg w (hemb x).symm

theorem st5_run (Fr : sProp 𝕄) (hv : 0 ≤ (tword T2 (i 0).val).toInt) :
    iprop((∃ f, ⌜pos T2 (i 0).val → arg12.view.read (Elt F) f = outB fh T0 T1 T2 T3 d6 d7 d8 d9 d10 d11 (i 0).val⌝ ∗ (arg12.view.loc (c : Thread nD τ) ↦[arg12.view.set]{fullShare} f)) ∗ Fr)
      ⊢ wp frame (wpE (defs₀ (F := F)) Variants.none (c : Thread nD τ) none) Set.univ (st5 arg12 (tword T2 (i 0).val)) (fun _ => iprop(owns (c : Thread nD τ) arg12 fullShare (outB fh T0 T1 T2 T3 d6 d7 d8 d9 d10 d11 (i 0).val) ∗ Fr)) := by
  unfold st5
  by_cases hz : tword T2 (i 0).val = 0#32
  · rw [dif_pos ((cond7_iff _).mpr hz)]
    have hp : ¬ pos T2 (i 0).val := by unfold pos; rw [hz]; decide
    iintro ⟨⟨%f12, -, H12⟩, HFr⟩
    sl_exec
    sl_step
    isplitr [HFr]; swap; · iexact HFr
    unfold owns
    iexists _; isplitr; swap; · iexact H12
    ipureintro
    unfold outB
    rw [if_neg hp]
    exact read_one arg12.view f12 _
  · rw [dif_neg (fun h => hz ((cond7_iff _).mp h))]
    show _ ⊢ wp _ _ _ (.ret PUnit.unit) _
    have hp : pos T2 (i 0).val := by
      unfold pos
      refine lt_of_le_of_ne hv fun h => hz (BitVec.eq_of_toInt_eq ?_)
      rw [← h]; rfl
    iintro ⟨⟨%f12, %hf, H12⟩, HFr⟩
    sl_exec
    sl_step
    isplitr [HFr]; swap; · iexact HFr
    unfold owns
    iexists _; isplitr; swap; · iexact H12
    ipureintro
    exact hf hp

include hT in
/-- The body at one grid point. -/
theorem sound_body (hv : 0 ≤ (tword T2 (i 0).val).toInt) :
    iprop((tb0.view.loc (c : Thread nD τ) ↦{q} T0) ∗ (tb1.view.loc (c : Thread nD τ) ↦{q} T1) ∗ (tb2.view.loc (c : Thread nD τ) ↦{q} T2) ∗ (tb3.view.loc (c : Thread nD τ) ↦{q} T3) ∗ (∃ W : Waits sig Unit, owes (c : Thread nD τ) 0 W) ∗ slotA0 c fh T2 T3 (i 0).val ∗ idle c fh (((i 0).val + 1) % 2) ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ (∃ f, (arg12.view.loc (c : Thread nD τ) ↦[arg12.view.set]{fullShare} f)))
      ⊢ wp frame (wpE (defs₀ (F := F)) Variants.none (c : Thread nD τ) none) Set.univ (cc0__expert_body i tb0 (Memref.isWhole_whole _) tb1 (Memref.isWhole_whole _) tb2 (Memref.isWhole_whole _) tb3 (Memref.isWhole_whole _) (Memref.whole main_v14) (Memref.isWhole_whole _) arg6 harg6 arg7 harg7 arg8 harg8 arg9 harg9 arg10 harg10 arg11 harg11 arg12 harg12 (Memref.whole cc0_scratch0) (Memref.isWhole_whole _) cc0_scratch1) (fun _ => iprop((tb0.view.loc (c : Thread nD τ) ↦{q} T0) ∗ (tb1.view.loc (c : Thread nD τ) ↦{q} T1) ∗ (tb2.view.loc (c : Thread nD τ) ↦{q} T2) ∗ (tb3.view.loc (c : Thread nD τ) ↦{q} T3) ∗ (∃ W : Waits sig Unit, owes (c : Thread nD τ) 0 W) ∗ slotB c fh T2 T3 (i 0).val ∗ idle c fh ((i 0).val % 2) ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare (outB fh T0 T1 T2 T3 d6 d7 d8 d9 d10 d11 (i 0).val))) := by
  rw [body_eq]
  unfold body
  iintro ⟨H0, H1, H2, H3, HW, HA, HB, H6, H7, H8, H9, H10, H11, H12⟩
  iapply (tload c T2 (i 0).val (i 0).isLt _ _ (k0_off1_eq i)) $$ H2
  iintro H2
  iapply (st1_run (q := q) c i arg6 harg6 arg7 harg7 arg8 harg8 arg9 harg9 arg10 harg10 arg11 harg11 arg12 harg12 fh T2 T3 hT _ _ iprop((tb0.view.loc (c : Thread nD τ) ↦{q} T0) ∗ (tb1.view.loc (c : Thread nD τ) ↦{q} T1) ∗ (∃ W : Waits sig Unit, owes (c : Thread nD τ) 0 W) ∗ idle c fh (((i 0).val + 1) % 2) ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ (∃ f, (arg12.view.loc (c : Thread nD τ) ↦[arg12.view.set]{fullShare} f))) ?k1) $$ [H0 H1 H2 H3 HW HA HB H6 H7 H8 H9 H10 H11 H12]
  case k1 =>
    iintro ⟨H2, H3, HA, H0, H1, HW, HB, H6, H7, H8, H9, H10, H11, H12⟩
    iapply (st2_run (q := q) c i arg6 harg6 arg7 harg7 arg8 harg8 arg9 harg9 arg10 harg10 arg11 harg11 arg12 harg12 fh T2 T3 hT _ _ iprop((tb0.view.loc (c : Thread nD τ) ↦{q} T0) ∗ (tb1.view.loc (c : Thread nD τ) ↦{q} T1) ∗ (∃ W : Waits sig Unit, owes (c : Thread nD τ) 0 W) ∗ slotA c fh T2 T3 (i 0).val ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ (∃ f, (arg12.view.loc (c : Thread nD τ) ↦[arg12.view.set]{fullShare} f))) ?k2) $$ [H0 H1 H2 H3 HW HA HB H6 H7 H8 H9 H10 H11 H12]
    case k2 =>
      iintro ⟨H2, H3, HB, H0, H1, HW, HA, H6, H7, H8, H9, H10, H11, H12⟩
      iapply (st3_run (q := q) c i arg6 harg6 arg7 harg7 arg8 harg8 arg9 harg9 arg10 harg10 arg11 harg11 arg12 harg12 fh T2 T3 _ _ iprop((tb0.view.loc (c : Thread nD τ) ↦{q} T0) ∗ (tb1.view.loc (c : Thread nD τ) ↦{q} T1) ∗ (tb3.view.loc (c : Thread nD τ) ↦{q} T3) ∗ slotB c fh T2 T3 (i 0).val ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ (∃ f, (arg12.view.loc (c : Thread nD τ) ↦[arg12.view.set]{fullShare} f))) ?k3) $$ [H0 H1 H2 H3 HW HA HB H6 H7 H8 H9 H10 H11 H12]
      case k3 =>
        iintro ⟨H2, HW, HA, H0, H1, H3, HB, H6, H7, H8, H9, H10, H11, H12⟩
        iapply (st4_run (q := q) c i arg6 harg6 arg7 harg7 arg8 harg8 arg9 harg9 arg10 harg10 arg11 harg11 arg12 harg12 fh T0 T1 T2 T3 d6 d7 d8 d9 d10 d11 _ _ iprop((tb2.view.loc (c : Thread nD τ) ↦{q} T2) ∗ (tb3.view.loc (c : Thread nD τ) ↦{q} T3) ∗ (∃ W : Waits sig Unit, owes (c : Thread nD τ) 0 W) ∗ slotB c fh T2 T3 (i 0).val) ?k4) $$ [H0 H1 H2 H3 HW HA HB H6 H7 H8 H9 H10 H11 H12]
        case k4 =>
          refine BIBase.Entails.trans ?_ ((st5_run c i arg12 fh T0 T1 T2 T3 d6 d7 d8 d9 d10 d11 iprop((tb0.view.loc (c : Thread nD τ) ↦{q} T0) ∗ (tb1.view.loc (c : Thread nD τ) ↦{q} T1) ∗ (tb2.view.loc (c : Thread nD τ) ↦{q} T2) ∗ (tb3.view.loc (c : Thread nD τ) ↦{q} T3) ∗ (∃ W : Waits sig Unit, owes (c : Thread nD τ) 0 W) ∗ slotB c fh T2 T3 (i 0).val ∗ idle c fh ((i 0).val % 2) ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11) hv).trans
            (wp_mono frame (wpE (defs₀ (F := F)) Variants.none (c : Thread nD τ) none) Set.univ fun _ => ?k6))
          · iintro ⟨H0, H1, HA, H6, H7, H8, H9, H10, H11, H12, H2, H3, HW, HB⟩
            isplitl [H12]; · iexact H12
            isplitl [H0]; · iexact H0
            isplitl [H1]; · iexact H1
            isplitl [H2]; · iexact H2
            isplitl [H3]; · iexact H3
            isplitl [HW]; · iexact HW
            isplitl [HB]; · iexact HB
            isplitl [HA]; · iexact HA
            isplitl [H6]; · iexact H6
            isplitl [H7]; · iexact H7
            isplitl [H8]; · iexact H8
            isplitl [H9]; · iexact H9
            isplitl [H10]; · iexact H10
            iexact H11

          iintro ⟨H12, H0, H1, H2, H3, HW, HB, HA, H6, H7, H8, H9, H10, H11⟩
          isplitl [H0]; · iexact H0
          isplitl [H1]; · iexact H1
          isplitl [H2]; · iexact H2
          isplitl [H3]; · iexact H3
          isplitl [HW]; · iexact HW
          isplitl [HB]; · iexact HB
          isplitl [HA]; · iexact HA
          isplitl [H6]; · iexact H6
          isplitl [H7]; · iexact H7
          isplitl [H8]; · iexact H8
          isplitl [H9]; · iexact H9
          isplitl [H10]; · iexact H10
          isplitl [H11]; · iexact H11
          iexact H12

        isplitl [H0]; · iexact H0
        isplitl [H1]; · iexact H1
        isplitl [HA]; · iexact HA
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H2]; · iexact H2
        isplitl [H3]; · iexact H3
        isplitl [HW]; · iexact HW
        iexact HB

      isplitl [H2]; · iexact H2
      isplitl [HW]; · iexact HW
      isplitl [HA]; · iexact HA
      isplitl [H0]; · iexact H0
      isplitl [H1]; · iexact H1
      isplitl [H3]; · iexact H3
      isplitl [HB]; · iexact HB
      isplitl [H6]; · iexact H6
      isplitl [H7]; · iexact H7
      isplitl [H8]; · iexact H8
      isplitl [H9]; · iexact H9
      isplitl [H10]; · iexact H10
      isplitl [H11]; · iexact H11
      iexact H12

    isplitl [H2]; · iexact H2
    isplitl [H3]; · iexact H3
    isplitl [HB]; · iexact HB
    isplitl [H0]; · iexact H0
    isplitl [H1]; · iexact H1
    isplitl [HW]; · iexact HW
    isplitl [HA]; · iexact HA
    isplitl [H6]; · iexact H6
    isplitl [H7]; · iexact H7
    isplitl [H8]; · iexact H8
    isplitl [H9]; · iexact H9
    isplitl [H10]; · iexact H10
    isplitl [H11]; · iexact H11
    iexact H12

  isplitl [H2]; · iexact H2
  isplitl [H3]; · iexact H3
  isplitl [HA]; · iexact HA
  isplitl [H0]; · iexact H0
  isplitl [H1]; · iexact H1
  isplitl [HW]; · iexact HW
  isplitl [HB]; · iexact HB
  isplitl [H6]; · iexact H6
  isplitl [H7]; · iexact H7
  isplitl [H8]; · iexact H8
  isplitl [H9]; · iexact H9
  isplitl [H10]; · iexact H10
  isplitl [H11]; · iexact H11
  iexact H12

end

end Cert.KernelIdeal.Hand
-- ==== Proof.Run.lean ====
/-
  Hand-written, untrusted. The kernel's launch: the tables it is run at, the proof data of its pipeline, and the run.
-/
module

public import proofs.«01_k».proof.Proof.Stages
public import proofs.«01_k».proof.Proof.Gen.KernelIdeal.Launch

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F] [∀ e, Nonempty (Elt F e)]

local notation "𝕄" => MT nD τ sig Unit (Elt F) ℕ (Pipeline.UD sig nD τ) ℕ

/-- The launch contents of the tables. -/
def pf (m : (ℓ : Loc nD τ sig) → Buf (Elt F) ℓ) : pre0.Contents (Elt F) := fun k => m (((0 : Dev nD) : Thread nD τ).loc (pre0.ref k))
/-- The tile's first expert, -/
def TA (m : (ℓ : Loc nD τ sig) → Buf (Elt F) ℓ) : S216.Idx → BitVec 32 := pf m 0
/-- its second, -/
def TB (m : (ℓ : Loc nD τ sig) → Buf (Elt F) ℓ) : S216.Idx → BitVec 32 := pf m 1
/-- how many of its slots hold tokens, -/
def TN (m : (ℓ : Loc nD τ sig) → Buf (Elt F) ℓ) : S216.Idx → BitVec 32 := pf m 2
/-- and the token of every slot. -/
def TS (m : (ℓ : Loc nD τ sig) → Buf (Elt F) ℓ) : S55296.Idx → BitVec 32 := pf m 3

/-- What the precondition says of the tables. -/
structure Good (m : (ℓ : Loc nD τ sig) → Buf (Elt F) ℓ) : Prop where
  ea : ∀ x, (TA m x).toNat < 16
  eb : ∀ x, (TB m x).toNat < 16
  nv : ∀ x, 0 ≤ (TN m x).toInt
  src : ∀ x, (TS m x).toNat < 49152

variable (m : (ℓ : Loc nD τ sig) → Buf (Elt F) ℓ)

theorem index_a (v : BitVec 32) (hv : v.toNat < 16) (k r : ℕ) (hk : k = 0) (hr : r = 0) (a : Fin 4) :
    ((![k, v.toNat, r, r] : Fin 4 → ℕ) a + 1) * S1x1x2048x1024.size a ≤ S2x16x2048x1024.size a := by
  subst hk hr
  fin_cases a
  · show (0 + 1) * 1 ≤ 2; omega
  · show (v.toNat + 1) * 1 ≤ 16; omega
  · show (0 + 1) * 2048 ≤ 2048; omega
  · show (0 + 1) * 1024 ≤ 1024; omega
theorem index_b (v : BitVec 32) (hv : v.toNat < 16) (k r : ℕ) (hk : k = 0) (hr : r = 0) (a : Fin 4) :
    ((![k, v.toNat, r, r] : Fin 4 → ℕ) a + 1) * S1x1x512x2048.size a ≤ S2x16x512x2048.size a := by
  subst hk hr
  fin_cases a
  · show (0 + 1) * 1 ≤ 2; omega
  · show (v.toNat + 1) * 1 ≤ 16; omega
  · show (0 + 1) * 512 ≤ 512; omega
  · show (0 + 1) * 2048 ≤ 2048; omega

/-- A block of the gate-and-up weights is whole words. -/
theorem words_a (e : ℕ) (he : e < 16) (h) : (Rect.block (s := S2x16x2048x1024) S1x1x2048x1024.size ![0, e, 0, 0] h).WholeWords (EltTy.packing .bf16) :=
  Affine.block_words_dvd (of_decide_eq_true rfl) (by decide)
theorem words_b (e : ℕ) (he : e < 16) (h) : (Rect.block (s := S2x16x512x2048) S1x1x512x2048.size ![0, e, 0, 0] h).WholeWords (EltTy.packing .bf16) :=
  Affine.block_words_dvd (of_decide_eq_true rfl) (by decide)

theorem ok_pf (hg : Good m) : ok0 (pf m) := by
  refine ⟨fun i => ⟨?_, Or.inr ?_⟩, fun i => ⟨?_, Or.inr ?_⟩, fun i => ⟨?_, Or.inr ?_⟩, fun i => ⟨?_, Or.inr ?_⟩⟩
  · exact index_a _ (hg.ea _) _ _ rfl rfl
  · exact words_a _ (hg.ea _) _
  · exact index_b _ (hg.ea _) _ _ rfl rfl
  · exact words_b _ (hg.ea _) _
  · exact index_a _ (hg.eb _) _ _ rfl rfl
  · exact words_a _ (hg.eb _) _
  · exact index_b _ (hg.eb _) _ _ rfl rfl
  · exact words_b _ (hg.eb _) _

/-- The tables the pipeline is pinned at. -/
def adm (hg : Good m) : (pcfg0 (F := F)).Adm := ⟨pf m, ok_pf m hg⟩

/-- The contents when the region is entered. -/
abbrev V0 (c : Dev nD) : Valuation τ sig (Elt F) :=
  StableHlo.after (List.flatten [hostOps0, hostOps0_1, hostOps0_2, hostOps0_3, hostOps0_4]) (fun b => m (c, b))

/-- The windows' arrays at entry, -/
def arrs (c : Dev nD) (w : Fin 7) : Buf (Elt F) (((spec0 w).arr).view.loc (c : Thread nD τ)) := V0 m c (Proc.devRef .tc (Pipeline.arrRef spec0 w))
/-- and the packed tokens. -/
def packed (c : Dev nD) : S835584x128.Idx → Elt F .f32 := V0 m c (Proc.devRef .tc main_v14)

/-- What the host writes before the kernel, -/
abbrev preW : List (Ref sig .tc) := [main_v0, main_v1, main_v2, main_cst, main_v3, main_v4, main_c, main_call0_v0, main_v5, main_v6, main_cst_0, main_v7, main_v8, main_c_1, main_call1_v0, main_v9, main_v10, main_v11, main_cst_2, main_v12, main_v13, main_v14]
/-- and after it. -/
abbrev postW : List (Ref sig .tc) := [main_v16, main_v17, main_v18]

theorem V0_keep (c : Dev nD) (r : Ref sig .tc) (hr : r ∉ preW) : V0 m c (Proc.devRef .tc r) = m (c, Proc.devRef .tc r) :=
  StableHlo.after_of_writes_sub _ _ (StableHlo.forall_writes_sub_of_map (W := preW) rfl) hr

theorem V0_pre (c : Dev nD) (k : Fin 4) : V0 m c (Proc.devRef .tc (pre0.ref k)) = pf m k := by
  obtain rfl : c = 0 := Subsingleton.elim _ _
  refine (V0_keep m 0 (pre0.ref k) ?_).trans rfl
  revert k; decide

section
variable (hg : Good m)
/-- Window `w`'s block at point `t`. -/
def iblk (c : Dev nD) (w : Fin 7) (t : Fin grid0.N) : ((win0 (adm m hg) w).xblock (grid0.coords t)).Idx → Elt F (spec0 w).elt :=
  ((win0 (adm m hg) w).blk t).view.read (Elt F) (arrs m c w)

/-- The output block of point `t`. -/
def outAt (c : Dev nD) (t : Fin grid0.N) : Vec F S4352x128 .f32 :=
  outB (packed m c) (TA m) (TB m) (TN m) (TS m) (iblk m hg c 0 t) (iblk m hg c 1 t) (iblk m hg c 2 t) (iblk m hg c 3 t) (iblk m hg c 4 t) (iblk m hg c 5 t) t.val

/-- The slot of tile `k` before point `k`; after the last point, with nothing in flight. -/
def slotS (c : Dev nD) (fh : S835584x128.Idx → Elt F .f32) (T2 : S216.Idx → BitVec 32) (T3 : S55296.Idx → BitVec 32) (k : ℕ) : sProp 𝕄 :=
  if k < 216 then slotA0 c fh T2 T3 k else idle c fh (k % 2)

/-- What the body keeps between points. -/
def inv (c : Dev nD) (k : ℕ) : sProp 𝕄 :=
  iprop((tb0.view.loc (c : Thread nD τ) ↦{fullShare.right} TA m) ∗ (tb1.view.loc (c : Thread nD τ) ↦{fullShare.right} TB m) ∗ (tb2.view.loc (c : Thread nD τ) ↦{fullShare.right} TN m) ∗ (tb3.view.loc (c : Thread nD τ) ↦{fullShare.right} TS m)
    ∗ (∃ r, prngReg c r) ∗ (lh c ↦{Transfers.shareDrop fullShare 512} packed m c) ∗ slotS c (packed m c) (TN m) (TS m) k ∗ idle c (packed m c) ((k + 1) % 2))

/-- The proof data. -/
def dats (p : Fin 1) (c : Dev nD) : Dat τ (Elt F) Unit ℕ (Pipeline.UD sig nD τ) ℕ (Pipeline.pin (pcfgs (F := F)) (fun _ => adm m hg) p) c where
  A w := arrs m c w
  after w t := match w with
    | ⟨0, _⟩ => iblk m hg c 0 t
    | ⟨1, _⟩ => iblk m hg c 1 t
    | ⟨2, _⟩ => iblk m hg c 2 t
    | ⟨3, _⟩ => iblk m hg c 3 t
    | ⟨4, _⟩ => iblk m hg c 4 t
    | ⟨5, _⟩ => iblk m hg c 5 t
    | ⟨6, _⟩ => outAt m hg c t
  Φ k := inv m c k.val
  q w := Pipeline.shareOf spec0 w
  owed _ := 0

abbrev osem0 : Fin 2 → SemLoc sig := ![SemLoc.dma 12, SemLoc.dma 13]
theorem ownSemFacts0 : Pipeline.OwnSemFacts spec0 osem0 := by decide

theorem before_0 (c : Dev nD) (t : Fin grid0.N) (d) : (dats m hg 0 c).before 0 t d = iblk m hg c 0 t :=
  ((dats m hg 0 c).before_in_eq_fetched 0 rfl (fun _ => rfl) (fun _ _ _ => rfl) (fun t => rfl) t d).trans rfl
theorem before_1 (c : Dev nD) (t : Fin grid0.N) (d) : (dats m hg 0 c).before 1 t d = iblk m hg c 1 t :=
  ((dats m hg 0 c).before_in_eq_fetched 1 rfl (fun _ => rfl) (fun _ _ _ => rfl) (fun t => rfl) t d).trans rfl
theorem before_2 (c : Dev nD) (t : Fin grid0.N) (d) : (dats m hg 0 c).before 2 t d = iblk m hg c 2 t :=
  ((dats m hg 0 c).before_in_eq_fetched 2 rfl (fun _ => rfl) (fun _ _ _ => rfl) (fun t => rfl) t d).trans rfl
theorem before_3 (c : Dev nD) (t : Fin grid0.N) (d) : (dats m hg 0 c).before 3 t d = iblk m hg c 3 t :=
  ((dats m hg 0 c).before_in_eq_fetched 3 rfl (fun _ => rfl) (fun _ _ _ => rfl) (fun t => rfl) t d).trans rfl
theorem before_4 (c : Dev nD) (t : Fin grid0.N) (d) : (dats m hg 0 c).before 4 t d = iblk m hg c 4 t :=
  ((dats m hg 0 c).before_in_eq_fetched 4 rfl (fun _ => rfl) (fun _ _ _ => rfl) (fun t => rfl) t d).trans rfl
theorem before_5 (c : Dev nD) (t : Fin grid0.N) (d) : (dats m hg 0 c).before 5 t d = iblk m hg c 5 t :=
  ((dats m hg 0 c).before_in_eq_fetched 5 rfl (fun _ => rfl) (fun _ _ _ => rfl) (fun t => rfl) t d).trans rfl

abbrev H0 : Finset (Ref sig .tc) := {main_v14}
theorem H0_sub : H0 ⊆ Pipeline.restRefsP sig pre0 spec0 := by decide

/-- What the host's last lines touch. -/
abbrev postB : List (Ref sig .tc) := [main_v15, main_v16, main_v17, main_v18]
theorem post_bufs (op) (hop : op ∈ hostOps1 (F := F)) (r : Ref sig .tc) (hr : r ∉ postB) : Proc.devRef .tc r ∉ op.bufs := by
  have h1 : r ≠ main_v15 := fun e => hr (by subst e; decide)
  have h2 : r ≠ main_v16 := fun e => hr (by subst e; decide)
  have h3 : r ≠ main_v17 := fun e => hr (by subst e; decide)
  have h4 : r ≠ main_v18 := fun e => hr (by subst e; decide)
  simp only [hostOps1, List.mem_cons, List.mem_nil_iff, or_false] at hop
  rcases hop with rfl | rfl | rfl
  all_goals
    simp only [StableHlo.reshape_bufs, StableHlo.unary_bufs, Finset.mem_insert, Finset.mem_singleton, not_or]
  · exact ⟨StableHlo.devRef_ne_of_ne h1, StableHlo.devRef_ne_of_ne h2⟩
  · exact ⟨StableHlo.devRef_ne_of_ne h2, StableHlo.devRef_ne_of_ne h3⟩
  · exact ⟨StableHlo.devRef_ne_of_ne h3, StableHlo.devRef_ne_of_ne h4⟩

theorem post_sub : ∀ ops ∈ [hostOps1 (F := F)], ∀ op ∈ ops, op.bufs ⊆ Pipeline.tailRefsBut sig pre0 spec0 H0 := by
  intro ops hops op hop
  obtain rfl := List.mem_singleton.mp hops
  refine Pipeline.sub_tailRefsBut pre0 spec0 H0 op ((List.forall_iff_forall_mem.mp hostOps1_sub) op hop) (fun k => ?_) (fun b hb => ?_)
  · exact post_bufs op hop _ (by revert k; decide)
  · exact post_bufs op hop _ (by revert b; decide)

theorem post_keep : ∀ ops ∈ [hostOps1 (F := F)], ∀ op ∈ ops, ∀ w, Proc.devRef .tc (Pipeline.arrRef spec0 w) ∉ op.writes := by
  intro ops hops op hop w hw
  obtain rfl := List.mem_singleton.mp hops
  have h := (List.forall_iff_forall_mem.mp (StableHlo.forall_writes_sub_of_map (W := postW) (ops := hostOps1 (F := F)) rfl)) op hop hw
  rw [List.mem_toFinset, List.mem_map] at h
  obtain ⟨r, hr, e⟩ := h
  have e' := Proc.devRef_injective _ e
  rw [e'] at hr
  revert hr
  clear e e' hw
  revert w
  decide

theorem post_fresh : ∀ ops ∈ [hostOps1 (F := F)], ∀ op ∈ ops, op.fresh = ∅ := by
  intro ops hops op hop
  obtain rfl := List.mem_singleton.mp hops
  exact (List.forall_iff_forall_mem.mp (StableHlo.forall_fresh_of_map rfl)) op hop

theorem fresh0 : (hostOps0 : List (HloOp τ sig (Elt F))).Forall fun op => op.fresh = ∅ := StableHlo.forall_fresh_of_map rfl
theorem fresh1 : (hostOps0_1 : List (HloOp τ sig (Elt F))).Forall fun op => op.fresh = ∅ := StableHlo.forall_fresh_of_map rfl
theorem fresh2 : (hostOps0_2 : List (HloOp τ sig (Elt F))).Forall fun op => op.fresh = ∅ := StableHlo.forall_fresh_of_map rfl
theorem fresh3 : (hostOps0_3 : List (HloOp τ sig (Elt F))).Forall fun op => op.fresh = ∅ := StableHlo.forall_fresh_of_map rfl
theorem fresh4 : (hostOps0_4 : List (HloOp τ sig (Elt F))).Forall fun op => op.fresh = ∅ := StableHlo.forall_fresh_of_map rfl

set_option backward.isDefEq.respectTransparency.types false in
theorem hmain : Pipeline.HMainPK (Ix := Unit) (Name := ℕ) (U := Pipeline.UD sig nD τ) (Lvl := ℕ) pcfgs 0 defs₀ Variants.none m main
    (fun c b => V0 m c (Proc.devRef .tc b)) (fun _ => Pipeline.chain ([hostOps1].map StableHlo.seq)) :=
  Pipeline.hmainP_around pcfgs 0 defs₀ Variants.none m main [hostOps0, hostOps0_1, hostOps0_2, hostOps0_3, hostOps0_4] [hostOps1]
    (by simp only [List.Forall]; exact ⟨hostOps0_sub, hostOps0_1_sub, hostOps0_2_sub, hostOps0_3_sub, hostOps0_4_sub⟩)
    ⟨fresh0, fresh1, fresh2, fresh3, fresh4⟩ main_chain

/-- The output window is stored at every point. -/
theorem idle6 (t : Fin grid0.N) : (Pipeline.pin (pcfgs (F := F)) (fun _ => adm m hg) 0).idle (6 : Fin 7) ((Pipeline.pin (pcfgs (F := F)) (fun _ => adm m hg) 0).grid.coords t) = false := by
  show (!(k0_cond6 ((pf m).atD 2 (k0_off1 (grid0.coords t))) == 1#1) && !(k0_cond7 ((pf m).atD 2 (k0_off1 (grid0.coords t))) == 1#1)) = false
  have hw : 0 ≤ BitVec.toInt (n := 32) ((pf m).atD 2 (k0_off1 (grid0.coords t))) := by
    unfold Pipeline.Prefetch.Contents.atD
    split
    · exact hg.nv _
    · next hn => exact absurd (fun a => by fin_cases a; exact k0_off1_inb (grid0.coords t) 0) hn
  generalize hv : (pf m).atD 2 (k0_off1 (grid0.coords t)) = v at hw ⊢
  by_cases h0 : 0 < BitVec.toInt (n := 32) v
  · rw [(cond6_iff v).mpr h0]; rfl
  · have : v = 0#32 := BitVec.eq_of_toInt_eq (by rw [BitVec.toInt_zero]; omega)
    rw [(cond7_iff v).mpr this, Bool.and_eq_false_iff]; exact Or.inr rfl

theorem slotS_start (c : Dev nD) (fh : S835584x128.Idx → Elt F .f32) (T2 : S216.Idx → BitVec 32) (T3 : S55296.Idx → BitVec 32) (k : ℕ) (hk : k < 216) :
    slotS c fh T2 T3 k = slotA0 c fh T2 T3 k := if_pos hk
theorem slotS_next (c : Dev nD) (fh : S835584x128.Idx → Elt F .f32) (T2 : S216.Idx → BitVec 32) (T3 : S55296.Idx → BitVec 32) (k : ℕ) :
    slotS c fh T2 T3 (k + 1) = slotB c fh T2 T3 k := by
  unfold slotS slotB slotA0
  by_cases h : k + 1 < 216
  · rw [if_pos h, if_pos h, if_pos (Nat.succ_pos k)]
  · rw [if_neg h, if_neg h]
theorem idle_next (c : Dev nD) (fh : S835584x128.Idx → Elt F .f32) (k : ℕ) : idle c fh ((k + 1 + 1) % 2) = idle c fh (k % 2) := by
  rw [show (k + 1 + 1) % 2 = k % 2 by omega]

theorem found0 (c : Dev nD) (t : Fin grid0.N) :
    (iprop(∃ d, owns (c : Thread nD τ) (((cfg0 (adm m hg)).win 0).stage ((cfg0 (adm m hg)).slots t 0)) fullShare ((dats m hg 0 c).before 0 t d)) : sProp 𝕄)
      ⊢ owns (c : Thread nD τ) (spec0_0.stage ((cfg0 (adm m hg)).slots t 0)) fullShare (iblk m hg c 0 t) :=
  sProp.exists_elim fun d => by rw [before_0]; exact .rfl
theorem found1 (c : Dev nD) (t : Fin grid0.N) :
    (iprop(∃ d, owns (c : Thread nD τ) (((cfg0 (adm m hg)).win 1).stage ((cfg0 (adm m hg)).slots t 1)) fullShare ((dats m hg 0 c).before 1 t d)) : sProp 𝕄)
      ⊢ owns (c : Thread nD τ) (spec0_1.stage ((cfg0 (adm m hg)).slots t 1)) fullShare (iblk m hg c 1 t) :=
  sProp.exists_elim fun d => by rw [before_1]; exact .rfl
theorem found2 (c : Dev nD) (t : Fin grid0.N) :
    (iprop(∃ d, owns (c : Thread nD τ) (((cfg0 (adm m hg)).win 2).stage ((cfg0 (adm m hg)).slots t 2)) fullShare ((dats m hg 0 c).before 2 t d)) : sProp 𝕄)
      ⊢ owns (c : Thread nD τ) (spec0_2.stage ((cfg0 (adm m hg)).slots t 2)) fullShare (iblk m hg c 2 t) :=
  sProp.exists_elim fun d => by rw [before_2]; exact .rfl
theorem found3 (c : Dev nD) (t : Fin grid0.N) :
    (iprop(∃ d, owns (c : Thread nD τ) (((cfg0 (adm m hg)).win 3).stage ((cfg0 (adm m hg)).slots t 3)) fullShare ((dats m hg 0 c).before 3 t d)) : sProp 𝕄)
      ⊢ owns (c : Thread nD τ) (spec0_3.stage ((cfg0 (adm m hg)).slots t 3)) fullShare (iblk m hg c 3 t) :=
  sProp.exists_elim fun d => by rw [before_3]; exact .rfl
theorem found4 (c : Dev nD) (t : Fin grid0.N) :
    (iprop(∃ d, owns (c : Thread nD τ) (((cfg0 (adm m hg)).win 4).stage ((cfg0 (adm m hg)).slots t 4)) fullShare ((dats m hg 0 c).before 4 t d)) : sProp 𝕄)
      ⊢ owns (c : Thread nD τ) (spec0_4.stage ((cfg0 (adm m hg)).slots t 4)) fullShare (iblk m hg c 4 t) :=
  sProp.exists_elim fun d => by rw [before_4]; exact .rfl
theorem found5 (c : Dev nD) (t : Fin grid0.N) :
    (iprop(∃ d, owns (c : Thread nD τ) (((cfg0 (adm m hg)).win 5).stage ((cfg0 (adm m hg)).slots t 5)) fullShare ((dats m hg 0 c).before 5 t d)) : sProp 𝕄)
      ⊢ owns (c : Thread nD τ) (spec0_5.stage ((cfg0 (adm m hg)).slots t 5)) fullShare (iblk m hg c 5 t) :=
  sProp.exists_elim fun d => by rw [before_5]; exact .rfl

theorem keep0 (c : Dev nD) (t : Fin grid0.N) :
    (owns (c : Thread nD τ) (spec0_0.stage ((cfg0 (adm m hg)).slots t 0)) fullShare (iblk m hg c 0 t) : sProp 𝕄)
      ⊢ owns (c : Thread nD τ) (((cfg0 (adm m hg)).win 0).stage ((cfg0 (adm m hg)).slots t 0)) fullShare ((dats m hg 0 c).after 0 t) := .rfl
theorem keep1 (c : Dev nD) (t : Fin grid0.N) :
    (owns (c : Thread nD τ) (spec0_1.stage ((cfg0 (adm m hg)).slots t 1)) fullShare (iblk m hg c 1 t) : sProp 𝕄)
      ⊢ owns (c : Thread nD τ) (((cfg0 (adm m hg)).win 1).stage ((cfg0 (adm m hg)).slots t 1)) fullShare ((dats m hg 0 c).after 1 t) := .rfl
theorem keep2 (c : Dev nD) (t : Fin grid0.N) :
    (owns (c : Thread nD τ) (spec0_2.stage ((cfg0 (adm m hg)).slots t 2)) fullShare (iblk m hg c 2 t) : sProp 𝕄)
      ⊢ owns (c : Thread nD τ) (((cfg0 (adm m hg)).win 2).stage ((cfg0 (adm m hg)).slots t 2)) fullShare ((dats m hg 0 c).after 2 t) := .rfl
theorem keep3 (c : Dev nD) (t : Fin grid0.N) :
    (owns (c : Thread nD τ) (spec0_3.stage ((cfg0 (adm m hg)).slots t 3)) fullShare (iblk m hg c 3 t) : sProp 𝕄)
      ⊢ owns (c : Thread nD τ) (((cfg0 (adm m hg)).win 3).stage ((cfg0 (adm m hg)).slots t 3)) fullShare ((dats m hg 0 c).after 3 t) := .rfl
theorem keep4 (c : Dev nD) (t : Fin grid0.N) :
    (owns (c : Thread nD τ) (spec0_4.stage ((cfg0 (adm m hg)).slots t 4)) fullShare (iblk m hg c 4 t) : sProp 𝕄)
      ⊢ owns (c : Thread nD τ) (((cfg0 (adm m hg)).win 4).stage ((cfg0 (adm m hg)).slots t 4)) fullShare ((dats m hg 0 c).after 4 t) := .rfl
theorem keep5 (c : Dev nD) (t : Fin grid0.N) :
    (owns (c : Thread nD τ) (spec0_5.stage ((cfg0 (adm m hg)).slots t 5)) fullShare (iblk m hg c 5 t) : sProp 𝕄)
      ⊢ owns (c : Thread nD τ) (((cfg0 (adm m hg)).win 5).stage ((cfg0 (adm m hg)).slots t 5)) fullShare ((dats m hg 0 c).after 5 t) := .rfl
theorem found6 (c : Dev nD) (t : Fin grid0.N) :
    (iprop(∃ d, owns (c : Thread nD τ) (((cfg0 (adm m hg)).win 6).stage ((cfg0 (adm m hg)).slots t 6)) fullShare ((dats m hg 0 c).before 6 t d)) : sProp 𝕄)
      ⊢ iprop(∃ f, ((spec0_6.stage ((cfg0 (adm m hg)).slots t 6)).view.loc (c : Thread nD τ) ↦[(spec0_6.stage ((cfg0 (adm m hg)).slots t 6)).view.set]{fullShare} f)) := by
  refine sProp.exists_elim fun d => ?_
  unfold owns
  iintro ⟨%f, -, H⟩
  iexists f
  iexact H

theorem body_obl (c : Dev nD) : Pipeline.BodyObligation (dats m hg 0 c) (defs₀ (F := F)) Variants.none () Set.univ := by
  intro t
  rw [bigSep_W0, bigSep_W0]
  have hb := sound_body (q := fullShare.right) c (grid0.coords t) (spec0_0.stage ((cfg0 (adm m hg)).slots t 0)) (hstage0_0 _) (spec0_1.stage ((cfg0 (adm m hg)).slots t 1)) (hstage0_1 _) (spec0_2.stage ((cfg0 (adm m hg)).slots t 2)) (hstage0_2 _) (spec0_3.stage ((cfg0 (adm m hg)).slots t 3)) (hstage0_3 _) (spec0_4.stage ((cfg0 (adm m hg)).slots t 4)) (hstage0_4 _) (spec0_5.stage ((cfg0 (adm m hg)).slots t 5)) (hstage0_5 _) (spec0_6.stage ((cfg0 (adm m hg)).slots t 6)) (hstage0_6 _) (packed m c) (TA m) (TB m) (TN m) (TS m) hg.src
    (iblk m hg c 0 t) (iblk m hg c 1 t) (iblk m hg c 2 t) (iblk m hg c 3 t) (iblk m hg c 4 t) (iblk m hg c 5 t) (hg.nv _)
  rw [coord_val t] at hb
  have hΦ0 : (dats m hg 0 c).Φ t.castSucc = inv m c t.val := rfl
  have hΦ1 : (dats m hg 0 c).Φ t.succ = inv m c (t.val + 1) := rfl
  have ht : t.val < 216 := t.isLt
  have hi := idle6 m hg t
  rw [hΦ0, hΦ1]
  unfold inv
  rw [slotS_start _ _ _ _ _ ht, slotS_next, idle_next]
  unfold Pipeline.Dat.owesAt Pipeline.owesWithin
  rw [show (dats m hg 0 c).owed t.castSucc = 0 from rfl, show (dats m hg 0 c).owed t.succ = 0 from rfl]
  refine BIBase.Entails.trans (BI.sep_mono (fun _ h => h) (BI.sep_mono (fun _ h => h) (BI.sep_mono (found0 m hg c t) (BI.sep_mono (found1 m hg c t) (BI.sep_mono (found2 m hg c t) (BI.sep_mono (found3 m hg c t) (BI.sep_mono (found4 m hg c t) (BI.sep_mono (found5 m hg c t) (found6 m hg c t))))))))) ?_
  refine BIBase.Entails.trans ?_ (wp_mono frame (wpE (defs₀ (F := F)) Variants.none (c : Thread nD τ) none) Set.univ (fun _ => BI.sep_mono (fun _ h => h) (BI.sep_mono (fun _ h => h) (BI.sep_mono (keep0 m hg c t) (BI.sep_mono (keep1 m hg c t) (BI.sep_mono (keep2 m hg c t) (BI.sep_mono (keep3 m hg c t) (BI.sep_mono (keep4 m hg c t) (BI.sep_mono (keep5 m hg c t) (?k6 : owns (c : Thread nD τ) (spec0_6.stage ((cfg0 (adm m hg)).slots t 6)) fullShare (outAt m hg c t) ⊢ _))))))))))
  case k6 =>
    refine BIBase.Entails.trans (show _ ⊢ owns (c : Thread nD τ) (((Pipeline.pin (pcfgs (F := F)) (fun _ => adm m hg) 0).win 6).stage ((Pipeline.pin (pcfgs (F := F)) (fun _ => adm m hg) 0).slots t 6)) fullShare ((dats m hg 0 c).after 6 t) from fun _ h => h) ?_
    rw [hi]
    exact fun _ h => h
  change iprop((_ ∗ _ ∗ _ ∗ _ ∗ _ ∗ _ ∗ _ ∗ _) ∗ _ ∗ _ ∗ _ ∗ _ ∗ _ ∗ _ ∗ _ ∗ _) ⊢ wp frame (wpE (defs₀ (F := F)) Variants.none (c : Thread nD τ) none) Set.univ _ (fun _ => iprop((_ ∗ _ ∗ _ ∗ _ ∗ _ ∗ _ ∗ _ ∗ _) ∗ _ ∗ _ ∗ _ ∗ _ ∗ _ ∗ _ ∗ _ ∗ _))
  iintro ⟨⟨HT0, HT1, HT2, HT3, HP, HL, HS, HI⟩, ⟨%W, -, HW⟩, H0, H1, H2, H3, H4, H5, H6⟩
  iapply (wp_wand frame (wpE (defs₀ (F := F)) Variants.none (c : Thread nD τ) none) Set.univ) $$ [HT0 HT1 HT2 HT3 HS HI HW H0 H1 H2 H3 H4 H5 H6]
  · iapply hb
    isplitl [HT0]; · iexact HT0
    isplitl [HT1]; · iexact HT1
    isplitl [HT2]; · iexact HT2
    isplitl [HT3]; · iexact HT3
    isplitl [HW]; · iexists W; iexact HW
    isplitl [HS]; · iexact HS
    isplitl [HI]; · iexact HI
    isplitl [H0]; · iexact H0
    isplitl [H1]; · iexact H1
    isplitl [H2]; · iexact H2
    isplitl [H3]; · iexact H3
    isplitl [H4]; · iexact H4
    isplitl [H5]; · iexact H5
    iexact H6
  iintro %_ ⟨HT0, HT1, HT2, HT3, ⟨%W', HW⟩, HS, HI, H0, H1, H2, H3, H4, H5, H6⟩
  isplitl [HT0 HT1 HT2 HT3 HP HL HS HI]
  · isplitl [HT0]; · iexact HT0
    isplitl [HT1]; · iexact HT1
    isplitl [HT2]; · iexact HT2
    isplitl [HT3]; · iexact HT3
    isplitl [HP]; · iexact HP
    isplitl [HL]; · iexact HL
    isplitl [HS]; · iexact HS
    iexact HI
  isplitl [HW]
  · iexists W'
    isplitr
    · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  iexact H6

/-- The shares of the packed tokens dealt out: one for every transfer that may be in flight. -/
theorem deal (c : Dev nD) (fh : S835584x128.Idx → Elt F .f32) :
    ((lh c ↦{fullShare} fh) : sProp 𝕄) ⊣⊢ iprop((lh c ↦{Transfers.shareDrop fullShare 512} fh) ∗ toks c fh 0 ∗ toks c fh 1) := by
  have e : Finset.range 512 = (Finset.univ : Finset (Fin 256)).image (fun k => 256 * 0 + k.val) ∪ (Finset.univ : Finset (Fin 256)).image (fun k => 256 * 1 + k.val) := by
    refine Finset.ext fun n => ?_
    rw [Finset.mem_range, Finset.mem_union, Finset.mem_image, Finset.mem_image]
    constructor
    · intro h
      by_cases h' : n < 256
      · exact Or.inl ⟨⟨n, h'⟩, Finset.mem_univ _, by show 256 * 0 + n = n; omega⟩
      · exact Or.inr ⟨⟨n - 256, by omega⟩, Finset.mem_univ _, by show 256 * 1 + (n - 256) = n; omega⟩
    · rintro (⟨k, -, h⟩ | ⟨k, -, h⟩) <;> have := k.isLt <;> omega
  have hd : Disjoint ((Finset.univ : Finset (Fin 256)).image (fun k => 256 * 0 + k.val)) ((Finset.univ : Finset (Fin 256)).image (fun k => 256 * 1 + k.val)) := by
    rw [Finset.disjoint_left]
    intro n h1 h2
    obtain ⟨k, -, h1⟩ := Finset.mem_image.mp h1
    obtain ⟨k', -, h2⟩ := Finset.mem_image.mp h2
    have := k.isLt
    omega
  have hb : (BI.bigSep (Finset.range 512) (fun i => lh c ↦{Transfers.shareTokN fullShare i} fh) : sProp 𝕄) = iprop(toks c fh 0 ∗ toks c fh 1) := by
    rw [e, BI.bigSep_union hd, BI.bigSep_image_of_injOn (fun a _ b _ h => Fin.ext (by simpa using h)), BI.bigSep_image_of_injOn (fun a _ b _ h => Fin.ext (by simpa using h))]
    rfl
  rw [← hb]
  exact Transfers.pointsTo_toks_range fullShare 512

theorem scratch_split (c : Dev nD) (f : S2x4352x128.Idx → Elt F .f32) :
    ((ls c ↦{fullShare} f) : sProp 𝕄) ⊢ iprop((ls c ↦[slotset 0]{fullShare} f) ∗ (ls c ↦[slotset 1]{fullShare} f)) := by
  refine BIBase.Entails.trans (BIBase.Entails.of_eq ?_) (pointsTo_union slotset_disj).1
  rw [← slotset_compl]
theorem scratch_join (c : Dev nD) (f g : S2x4352x128.Idx → Elt F .f32) :
    (iprop((ls c ↦[slotset 0]{fullShare} f) ∗ (ls c ↦[slotset 1]{fullShare} g)) : sProp 𝕄) ⊢ iprop(∃ h, ls c ↦{fullShare} h) := by
  refine (pointsTo_join slotset_disj).trans ?_
  rw [← slotset_compl]
  iintro H
  iexists _
  iexact H

theorem ownSems_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), .dma (semAt 0)) 0 ∗ semVal ((c : Thread nD τ), .dma (semAt 1)) 0) := by
  rw [Pipeline.ownSems0_eq_of_list c osem0 [0, 1] (by decide) (by decide)]; rfl

theorem tables_eq (c : Dev nD) : (Pipeline.ΦT pre0 (pf m) c : sProp 𝕄) = iprop((tb0.view.loc (c : Thread nD τ) ↦{fullShare.right} TA m) ∗ (tb1.view.loc (c : Thread nD τ) ↦{fullShare.right} TB m) ∗ (tb2.view.loc (c : Thread nD τ) ↦{fullShare.right} TN m) ∗ (tb3.view.loc (c : Thread nD τ) ↦{fullShare.right} TS m)) := by
  unfold Pipeline.ΦT Pipeline.prefHeld
  exact bigSep_univ_eq_bigSepL [(0 : Fin 4), (1 : Fin 4), (2 : Fin 4), (3 : Fin 4)] (by decide) (by decide) _

theorem held_eq (c : Dev nD) : (bigSep H0 (fun b => ((c : Thread nD τ).loc b) ↦{fullShare} V0 m c (Proc.devRef .tc b)) : sProp 𝕄) = iprop(lh c ↦{fullShare} packed m c) := by
  rw [show (H0 : Finset (Ref sig .tc)) = {main_v14} from rfl, BI.bigSep_singleton]; rfl

theorem start_inv (c : Dev nD) : iprop(Pipeline.ΦD osem0 spec0 H0 (fun c b => V0 m c (Proc.devRef .tc b)) c ∗ Pipeline.ΦT pre0 (pf m) c) ⊢ (inv m c 0 : sProp 𝕄) := by
  rw [Pipeline.ΦD_eq, scopedRest0_eq, ownSems_eq, tables_eq, held_eq]
  unfold inv
  rw [slotS_start _ _ _ _ _ (by decide)]
  unfold slotA0
  rw [if_neg (by decide)]
  unfold idle idleAt
  iintro ⟨⟨⟨%f, HS⟩, HP, ⟨HA, HB⟩, HL⟩, HT0, HT1, HT2, HT3⟩
  ihave HL := (deal c (packed m c)).1 $$ HL
  icases HL with ⟨HL, HL0, HL1⟩
  ihave HS := (scratch_split c f) $$ HS
  icases HS with ⟨HS0, HS1⟩
  isplitl [HT0]; · iexact HT0
  isplitl [HT1]; · iexact HT1
  isplitl [HT2]; · iexact HT2
  isplitl [HT3]; · iexact HT3
  isplitl [HP]; · iexact HP
  isplitl [HL]; · iexact HL
  isplitl [HA HS0 HL0]
  · iexists f
    isplitl [HA]; · iexact HA
    isplitl [HS0]; · iexact HS0
    iexact HL0
  iexists f
  isplitl [HB]; · iexact HB
  isplitl [HS1]; · iexact HS1
  iexact HL1

theorem end_inv (c : Dev nD) : (inv m c 216 : sProp 𝕄) ⊢ Pipeline.ΦD osem0 spec0 H0 (fun c b => V0 m c (Proc.devRef .tc b)) c := by
  rw [Pipeline.ΦD_eq, scopedRest0_eq, ownSems_eq, held_eq]
  unfold inv slotS
  rw [if_neg (by decide)]
  unfold idle idleAt
  iintro ⟨-, -, -, -, HP, HL, ⟨%f, HA, HS0, HL0⟩, ⟨%g, HB, HS1, HL1⟩⟩
  ihave HS := (scratch_join c f g) $$ [HS0 HS1]
  · isplitl [HS0]; · iexact HS0
    iexact HS1
  ihave HL := (deal c (packed m c)).2 $$ [HL HL0 HL1]
  · isplitl [HL]; · iexact HL
    isplitl [HL0]; · iexact HL0
    iexact HL1
  isplitl [HS]; · iexact HS
  isplitl [HP]; · iexact HP
  isplitl [HA HB]
  · isplitl [HA]; · iexact HA
    iexact HB
  iexact HL

/-- The contents at the end: the windows' arrays at what the pipeline leaves, then the host's last lines. -/
abbrev Vend (c : Dev nD) (b : Ref sig .tc) : Buf (Elt F) ((c : Thread nD τ).loc b) :=
  Pipeline.afterTail (pcfgs (F := F)) (fun _ => adm m hg) (dats m hg) 0 (V0 m) [hostOps1] c b

set_option backward.isDefEq.respectTransparency.types false in
theorem run_main (ρ : Dev nD → PrngReg) : θ_run (defs (F := F)) (onTc (τ := τ) (main (F := F))) ⟨m, fun _ => 0, ρ⟩
    (fun r => Pipeline.FramePost (Pipeline.pin (pcfgs (F := F)) (fun _ => adm m hg)) (dats m hg) 0 (Vend m hg) r ∧ r.2.sem = fun _ => 0) :=
  Pipeline.θ_run_frameP_dma_around_shared (Q' := _) (pcfgs (F := F)) (fun _ => adm m hg) (dats m hg) (0 : Fin 1) launch₀0 osem0 defs₀ Variants.none ownSemFacts0 H0 H0_sub m ρ main
    (hbody := fun c => (body_obl m hg c).loose) (hq := fun _ _ _ => rfl) (howed := fun _ _ => rfl) (V₀ := V0 m) (opss := [hostOps1])
    (hsub := post_sub) (hfresh := post_fresh) (hkeep := post_keep) (hmain := hmain m) (hA := fun _ _ => rfl)
    (hpf := fun c k => V0_pre m c k) (hin := fun c => start_inv m c) (hout := fun c => end_inv m c) (hQ' := fun _ h => h)

end

end Cert.KernelIdeal.Hand
-- ==== Proof.Frame.lean ====
/- What the run leaves unchanged: the twelve arguments. And what the precondition says of the four integer tables. -/
module

public import proofs.«01_k».proof.Proof.Run
public import proofs.«01_k».proof.Proof.Gen.Kernel
public import proofs.«01_k».proof.Proof.Gen.Pre_in_range
public import Idealize.ShloMosaic.Lib.ReduceAll

@[expose] public section

noncomputable section

namespace Cert.KernelIdeal.Hand

open Cert.KernelIdeal Cert.KernelIdeal.Gen
open Idealize.ShloMosaic Idealize.ShloMosaic.TcCoe Idealize.ShloMosaic.Pipeline Idealize.SL.Sem

variable {F : FTy → Type} [FloatOps F] [Named F] [∀ e, Nonempty (Elt F e)]
variable (m : (ℓ : Loc nD τ sig) → Buf (Elt F) ℓ) (hg : Good m)

/-- A buffer that neither the host nor the kernel writes holds at the end what it held at the start. -/
theorem Vend_keep (c : Dev nD) (r : Ref sig .tc) (h1 : r ∉ postW) (h2 : ∀ w, Pipeline.arrRef spec0 w ≠ r) (h3 : r ∉ preW) :
    Vend m hg c r = m (c.tc.loc r) := by
  refine (StableHlo.after_of_writes_sub _ _ (StableHlo.forall_writes_sub_of_map (W := postW) rfl) h1).trans ?_
  refine (Pipeline.withArrays_of_ne _ c _ _ r h2).trans ?_
  exact V0_keep m c r h3

/-- The arguments, and the semaphores, at the end of the run. -/
theorem run_args (ρ : Dev nD → PrngReg) :
    θ_run (defs (F := F)) (onTc (τ := τ) main) ⟨m, fun _ => 0, ρ⟩ (fun r =>
      ((∀ c : Dev nD, (r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9)
      ∧ r.2.mem (c.tc.loc main_arg10) = m (c.tc.loc main_arg10)
      ∧ r.2.mem (c.tc.loc main_arg11) = m (c.tc.loc main_arg11)))
      ∧ r.2.sem = fun _ => 0)
      ∧ ∀ c : Dev nD, r.2.mem (c.tc.loc main_v18) = Vend m hg c main_v18) := by
  refine (θ_run _ _ _).mono (fun r h => ⟨⟨fun c => ?_, h.2⟩, fun c => ?_⟩) (run_main m hg ρ)
  · have k : ∀ b : Ref sig .tc, b.isScoped = false → (∀ w, (spec0 w).arr.view.ref ≠ b) → b ∉ postW → b ∉ preW →
        r.2.mem (c.tc.loc b) = m (c.tc.loc b) := fun b h0 h2 h1 h3 =>
      ((h.1 c).2 b (Pipeline.mem_restRefs_of b h0 h2)).trans (Vend_keep m hg c b h1 h2 h3)
    refine ⟨k _ rfl ?_ ?_ ?_, k _ rfl ?_ ?_ ?_, k _ rfl ?_ ?_ ?_, k _ rfl ?_ ?_ ?_, k _ rfl ?_ ?_ ?_, k _ rfl ?_ ?_ ?_,
      k _ rfl ?_ ?_ ?_, k _ rfl ?_ ?_ ?_, k _ rfl ?_ ?_ ?_, k _ rfl ?_ ?_ ?_, k _ rfl ?_ ?_ ?_, k _ rfl ?_ ?_ ?_⟩ <;> decide
  · exact (h.1 c).2 main_v18 (Pipeline.mem_restRefs_of main_v18 rfl (show ∀ w, (spec0 w).arr.view.ref ≠ main_v18 by decide))

theorem range_of (v : BitVec 32) (N : ℕ) (hN : N < 2147483648) (h0 : (0#32).toInt ≤ v.toInt) (h1 : v.toInt < (BitVec.ofNat 32 N).toInt) : v.toNat < N := by
  have e : (BitVec.ofNat 32 N).toInt = N := by
    rw [BitVec.toInt_eq_toNat_cond, BitVec.toNat_ofNat]; split <;> omega
  rw [e] at h1
  have : (0#32).toInt = 0 := rfl
  rw [this] at h0
  have := BitVec.toInt_eq_toNat_cond v
  have := v.isLt
  split at * <;> omega

/-- What the precondition says, element by element. -/
theorem pre_unpack (a0 a1 a2 : S216.Idx → BitVec 32) (a3 : S55296.Idx → BitVec 32) (a4 a5 a6 a7 a8 a9 a10 a11)
    (h : Cert.Pre_in_range.fn (F := F) a0 a1 a2 a3 a4 a5 a6 a7 a8 a9 a10 a11 = fun _ => 1#1) :
    (∀ x, (a0 x).toNat < 16) ∧ (∀ x, (a1 x).toNat < 16) ∧ (∀ x, 0 ≤ (a2 x).toInt) ∧ (∀ x, (a3 x).toNat < 49152) := by
  have e := congrFun h (fun a => a.elim0)
  simp only [Cert.Pre_in_range.fn, Cert.Pre_in_range.fn_part1] at e
  obtain ⟨e, e3⟩ := IntOp.andi_eq_one.1 e
  obtain ⟨e, e2⟩ := IntOp.andi_eq_one.1 e
  obtain ⟨e0, e1⟩ := IntOp.andi_eq_one.1 e
  refine ⟨fun x => ?_, fun x => ?_, fun x => ?_, fun x => ?_⟩
  · obtain ⟨p, q⟩ := IntOp.andi_eq_one.1 (Host.reduce_andi_all _ _ _ _ _ e0 x)
    exact range_of _ _ (by decide) (IntOp.cmpi_sge.1 p) (IntOp.cmpi_slt.1 q)
  · obtain ⟨p, q⟩ := IntOp.andi_eq_one.1 (Host.reduce_andi_all _ _ _ _ _ e1 x)
    exact range_of _ _ (by decide) (IntOp.cmpi_sge.1 p) (IntOp.cmpi_slt.1 q)
  · exact IntOp.cmpi_sge.1 (Host.reduce_andi_all _ _ _ _ _ e2 x)
  · obtain ⟨p, q⟩ := IntOp.andi_eq_one.1 (Host.reduce_andi_all _ _ _ _ _ e3 x)
    exact range_of _ _ (by decide) (IntOp.cmpi_sge.1 p) (IntOp.cmpi_slt.1 q)

theorem good_of (h : Cert.Pre_in_range.fn (F := F) (m ((0 : Dev nD).tc.loc main_arg0)) (m ((0 : Dev nD).tc.loc main_arg1)) (m ((0 : Dev nD).tc.loc main_arg2)) (m ((0 : Dev nD).tc.loc main_arg3))
    (m ((0 : Dev nD).tc.loc main_arg4)) (m ((0 : Dev nD).tc.loc main_arg5)) (m ((0 : Dev nD).tc.loc main_arg6)) (m ((0 : Dev nD).tc.loc main_arg7))
    (m ((0 : Dev nD).tc.loc main_arg8)) (m ((0 : Dev nD).tc.loc main_arg9)) (m ((0 : Dev nD).tc.loc main_arg10)) (m ((0 : Dev nD).tc.loc main_arg11)) = fun _ => 1#1) : Good m := by
  obtain ⟨h0, h1, h2, h3⟩ := pre_unpack _ _ _ _ _ _ _ _ _ _ _ _ h
  exact ⟨h0, h1, h2, h3⟩

end Cert.KernelIdeal.Hand
end
-- ==== Proof.KernelFrame.lean ====
/- The frame of the kernel as printed, from the run that is stated over any float values. -/
module

public import proofs.«01_k».proof.Defs
public import proofs.«01_k».proof.Proof.Frame

@[expose] public section

noncomputable section

namespace Cert.Proof

open Idealize.ShloMosaic Idealize.SL.Sem

/-- Over the hardware's formats a named constant is the pattern the kernel was written with. -/
@[reducible] def bitsNamed : Named Bits := ⟨fun _ _ {φ} b => Scalar.ofBits φ b⟩

set_option maxHeartbeats 1000000 in
theorem body_eq : @Cert.Kernel.cc0__expert_body Bits _ _ = @Cert.KernelIdeal.cc0__expert_body Bits _ bitsNamed _ := rfl
set_option maxHeartbeats 1000000 in
theorem defs₀_eq : @Cert.Kernel.defs₀ Bits _ _ = @Cert.KernelIdeal.defs₀ Bits _ bitsNamed _ := by
  refine congrArg Defs.onTc (funext fun l => funext fun x => ?_)
  match l, x with
  | 0, (t, s) =>
    exact congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun body_eq _) _) _) _) _) _) _) _) _) _) _) _) _) _) _) _) _) _) _) _) _) _) _) _) _) _) _) _
theorem defs_eq : @Cert.Kernel.defs Bits _ _ = @Cert.KernelIdeal.defs Bits _ bitsNamed _ :=
  congrArg (Pipeline.defs (@Cert.KernelIdeal.pcfgs Bits _ bitsNamed _)) defs₀_eq
set_option maxHeartbeats 1000000 in
theorem main_eq : @Cert.Kernel.main Bits _ _ = @Cert.KernelIdeal.main Bits _ bitsNamed _ := rfl

/-- The kernel as printed: its run is the other reading's, over the hardware's formats. -/
theorem frame_kernel : Cert.quiescent_Kernel := by
  intro m ρ h
  rw [defs_eq, main_eq]
  exact (θ_run (@Cert.KernelIdeal.defs Bits _ bitsNamed _) _ _).mono (fun _ h => h.1)
    (@Cert.KernelIdeal.Hand.run_args Bits _ bitsNamed _ m (@Cert.KernelIdeal.Hand.good_of Bits _ bitsNamed _ m (h 0)) ρ)

end Cert.Proof
end
-- ==== Proof.Spec.lean ====
/-
  Hand-written, untrusted. What one slot's result is, as a formula of extended reals: the token's row through the two
  experts of its tile, weighted by the routing probabilities.
-/
module

public import Idealize.ShloMosaic.Lib.Pointwise.Tactic
public import Idealize.ShloMosaic.Lib.Pointwise.Reduce

@[expose] public section

noncomputable section

namespace Cert.Spec

open Idealize.ShloMosaic

/-- The largest of finitely many values. -/
def top {n : ℕ} (f : Fin n → EReal) : EReal := Finset.univ.fold max ⊥ f
/-- The softmax of finitely many logits. -/
def soft {n : ℕ} (f : Fin n → EReal) (i : Fin n) : EReal :=
  Ideal.div (Ideal.exp (f i - top f)) (∑ j, Ideal.exp (f j - top f))

section
variable (x : Fin 2048 → EReal)
  (wg : (⟨3, ![2, 2048, 4]⟩ : Shape).Idx → EReal) (bg : (⟨2, ![2, 4]⟩ : Shape).Idx → EReal)
  (we : (⟨3, ![2, 2048, 16]⟩ : Shape).Idx → EReal) (be : (⟨2, ![2, 16]⟩ : Shape).Idx → EReal)
  (gate up : (⟨4, ![2, 16, 2048, 512]⟩ : Shape).Idx → EReal) (down : (⟨4, ![2, 16, 512, 2048]⟩ : Shape).Idx → EReal)

/-- The groups' logits, -/
def lg (i : Fin 4) : EReal := (∑ k, x k * wg (ix3 0 k i)) + bg (ix2 0 i)
/-- and the experts'. -/
def le (e : Fin 16) : EReal := (∑ k, x k * we (ix3 0 k e)) + be (ix2 0 e)
/-- Expert `i` of group `g`. -/
def exq (g i : Fin 4) : Fin 16 := ⟨g.val * 4 + i.val, by omega⟩
/-- The group of an expert, -/
def grp (e : Fin 16) : Fin 4 := ⟨e.val / 4, by omega⟩
/-- and its place there. -/
def plc (e : Fin 16) : Fin 4 := ⟨e.val % 4, by omega⟩
/-- The probability of place `i` within group `g`. -/
def prob (g i : Fin 4) : EReal := soft (fun j => le x we be (exq g j)) i
/-- The weight of the first expert, -/
def wA (ea eb : Fin 16) : EReal :=
  soft (lg x wg bg) (grp ea) * Ideal.div (prob x we be (grp ea) (plc ea)) (prob x we be (grp ea) (plc ea) + prob x we be (grp ea) (plc eb))
/-- and of the second. -/
def wB (ea eb : Fin 16) : EReal :=
  soft (lg x wg bg) (grp ea) * Ideal.div (prob x we be (grp ea) (plc eb)) (prob x we be (grp ea) (plc ea) + prob x we be (grp ea) (plc eb))
/-- A row through a matrix of an expert. -/
def thru (w : (⟨4, ![2, 16, 2048, 512]⟩ : Shape).Idx → EReal) (e : Fin 16) (f : Fin 512) : EReal := ∑ k, x k * w (ix4 0 e k f)
/-- The hidden layer of an expert, -/
def hid (e : Fin 16) (f : Fin 512) : EReal :=
  thru x gate e f * Ideal.div 1 (1 + Ideal.exp (-thru x gate e f)) * thru x up e f
/-- and its result. -/
def ffn (e : Fin 16) (d : Fin 2048) : EReal := ∑ f, hid x gate up e f * down (ix4 0 e f d)
/-- The two experts' results, weighted. -/
def mix (ea eb : Fin 16) (d : Fin 2048) : EReal :=
  wA x wg bg we be ea eb * ffn x gate up down ea d + wB x wg bg we be ea eb * ffn x gate up down eb d
end

/-- The number a word names. -/
def num (n : ℕ) [NeZero n] (w : BitVec 32) : Fin n := Fin.ofNat n w.toNat

/-- The result of slot `s`, column `d`. -/
def out (ea eb nv : (⟨1, ![216]⟩ : Shape).Idx → BitVec 32) (src : (⟨1, ![55296]⟩ : Shape).Idx → BitVec 32)
    (h : (⟨2, ![49152, 2048]⟩ : Shape).Idx → EReal)
    (wg : (⟨3, ![2, 2048, 4]⟩ : Shape).Idx → EReal) (bg : (⟨2, ![2, 4]⟩ : Shape).Idx → EReal)
    (we : (⟨3, ![2, 2048, 16]⟩ : Shape).Idx → EReal) (be : (⟨2, ![2, 16]⟩ : Shape).Idx → EReal)
    (gate up : (⟨4, ![2, 16, 2048, 512]⟩ : Shape).Idx → EReal) (down : (⟨4, ![2, 16, 512, 2048]⟩ : Shape).Idx → EReal)
    (s : Fin 55296) (d : Fin 2048) : EReal :=
  let t : Fin 216 := ⟨s.val / 256, by omega⟩
  if 0 < (nv (ix1 t)).toInt then
    mix (fun k => h (ix2 (num 49152 (src (ix1 s))) k)) wg bg we be gate up down (num 16 (ea (ix1 t))) (num 16 (eb (ix1 t))) d
  else 0

theorem neg_inf : Ideal.ofBits .f32 0xFF800000#32 = ⊥ := by
  simp [Ideal.ofBits, Ideal.ieee]

/-! ## Sums and maxima of many lanes of which few count -/

theorem sum_lanes {n : ℕ} (g : Fin n → Fin 128) (hg : Function.Injective g) (P : Fin 128 → Prop) [DecidablePred P]
    (hP : ∀ l, P l ↔ ∃ j, g j = l) (f : Fin 128 → EReal) : (∑ l, if P l then f l else 0) = ∑ j, f (g j) := by
  rw [← Finset.sum_filter]
  exact Finset.sum_filter_eq_sum_of_fiber P g hg hP f

theorem top_lanes {n : ℕ} (g : Fin n → Fin 128) (P : Fin 128 → Prop) [DecidablePred P]
    (hP : ∀ l, P l ↔ ∃ j, g j = l) (f : Fin 128 → EReal) : top (fun l => if P l then f l else ⊥) = top fun j => f (g j) := by
  refine le_antisymm ?_ ?_
  · refine Finset.sup_le (f := fun l => if P l then f l else ⊥) fun l _ => ?_
    by_cases h : P l
    · obtain ⟨j, rfl⟩ := (hP l).mp h
      rw [if_pos h]
      exact Finset.le_sup (f := fun j => f (g j)) (Finset.mem_univ j)
    · rw [if_neg h]; exact bot_le
  · refine Finset.sup_le (f := fun j => f (g j)) fun j _ => ?_
    have h := Finset.le_sup (f := fun l => if P l then f l else ⊥) (Finset.mem_univ (g j))
    rwa [if_pos ((hP (g j)).mpr ⟨j, rfl⟩)] at h

theorem sum_one {n : ℕ} (a : Fin n) (f : Fin n → EReal) : (∑ l, if l = a then f l else 0) = f a := by
  rw [Finset.sum_ite_eq' Finset.univ a f, if_pos (Finset.mem_univ a)]

end Cert.Spec
-- ==== Proof.KernelValue.lean ====
/-
  Hand-written, untrusted. What the kernel's computation of one tile is at an index.
-/
module

public import proofs.«01_k».proof.Proof.Spec
public import proofs.«01_k».proof.Proof.Body
public import Idealize.ShloMosaic.Lib.Pointwise

@[expose] public section

noncomputable section

namespace Cert.KernelIdeal.Hand

open Cert.KernelIdeal Cert.KernelIdeal.Gen Idealize.ShloMosaic Idealize.ShloMosaic.TcCoe
open Cert.Spec

theorem mask_bot : (Named.named κ "mask" 0xF149F2CA#32 : Ideal .f32) = (⊥ : EReal) := rfl

section
variable (y : FVec Ideal S256x128 .f32) (r : Fin 256)

theorem pay4_at (x : FVec Ideal S256x2048 .bf16) (w : Vec Ideal S1x2048x128 .bf16) (b : Vec Ideal S1x1x128 .f32) (l : Fin 128) :
    lcOf x w b (ix2 r l) = (∑ k, (x (ix2 r k) : EReal) * w (ix3 0 k l)) + b (ix3 0 0 l) := by
  unfold lcOf k0_pay4 k0_pay3
  pointwise [dot_S256x2048_S2048x128_S256x128_1_0_0_1_n_n]

/-- The lane of a group, -/
def gl (i : Fin 4) : Fin 128 := ⟨i.val, by omega⟩
/-- and of an expert. -/
def xl (e : Fin 16) : Fin 128 := ⟨4 + e.val, by omega⟩

theorem cmp_grp : ∀ l : Fin 128, IntOp.cmpi CmpIPredicate.slt (BitVec.ofNat 32 l.val) 4#32 = if l.val < 4 then 1#1 else 0#1 := by
  decide
theorem cmp_one (n l : Fin 128) : IntOp.cmpi CmpIPredicate.eq (BitVec.ofNat 32 l.val) (BitVec.ofNat 32 n.val) = if l = n then 1#1 else 0#1 := by
  by_cases h : l = n
  · subst h
    rw [if_pos rfl]
    show BitVec.ofBool (_ == _) = _
    rw [beq_self_eq_true]; rfl
  · rw [if_neg h]
    have hn : (BitVec.ofNat 32 l.val == BitVec.ofNat 32 n.val) = false := by
      rw [beq_eq_false_iff_ne]
      intro e
      have e' := congrArg BitVec.toNat e
      rw [BitVec.toNat_ofNat, BitVec.toNat_ofNat, Nat.mod_eq_of_lt (by omega), Nat.mod_eq_of_lt (by omega)] at e'
      exact h (Fin.ext e')
    show BitVec.ofBool (_ == _) = _
    rw [hn]; rfl
set_option maxRecDepth 20000 in
theorem cmp_exp : ∀ (g : Fin 4) (l : Fin 128), IntOp.andi
        (IntOp.cmpi CmpIPredicate.sge (BitVec.ofNat 32 l.val) (Scalar.addi (4#32) (Scalar.muli (4#32) (BitVec.ofNat 32 g.val))))
        (IntOp.cmpi CmpIPredicate.slt (BitVec.ofNat 32 l.val)
          (Scalar.addi (Scalar.addi (4#32) (Scalar.muli (4#32) (BitVec.ofNat 32 g.val))) 4#32))
      = if 4 + 4 * g.val ≤ l.val ∧ l.val < 8 + 4 * g.val then 1#1 else 0#1 := by
  decide
theorem quo4_of : ∀ n : Fin 16, quo4 (BitVec.ofNat 32 n.val) = BitVec.ofNat 32 (grp n).val := by decide
theorem rem4_of : ∀ n : Fin 16, rem4 (BitVec.ofNat 32 n.val) = BitVec.ofNat 32 (plc n).val := by decide
theorem lane_of : ∀ g i : Fin 4, Scalar.addi (Scalar.addi 4#32 (Scalar.muli 4#32 (BitVec.ofNat 32 g.val))) (BitVec.ofNat 32 i.val) = BitVec.ofNat 32 (xl (exq g i)).val := by decide

theorem sel_if {α : Type} (P : Prop) [Decidable P] (a b : α) : Scalar.select (if P then 1#1 else 0#1) a b = if P then a else b := by
  split <;> rfl
theorem exp_if (P : Prop) [Decidable P] (a : EReal) : Ideal.exp (if P then a else ⊥) = if P then Ideal.exp a else 0 := by
  split
  · rfl
  · exact Ideal.exp_bot

theorem gl_inj : Function.Injective gl := by
  intro a b h
  have h' := congrArg Fin.val h
  exact Fin.ext h'
theorem gl_iff (l : Fin 128) : l.val < 4 ↔ ∃ j, gl j = l :=
  ⟨fun h => ⟨⟨l.val, h⟩, rfl⟩, fun ⟨j, h⟩ => h ▸ j.isLt⟩
theorem xl_inj (g : Fin 4) : Function.Injective fun i => xl (exq g i) := by
  intro a b h
  have h' := congrArg Fin.val h
  change 4 + (g.val * 4 + a.val) = 4 + (g.val * 4 + b.val) at h'
  exact Fin.ext (by omega)
theorem xl_iff (g : Fin 4) (l : Fin 128) : (4 + 4 * g.val ≤ l.val ∧ l.val < 8 + 4 * g.val) ↔ ∃ j, xl (exq g j) = l := by
  constructor
  · intro h
    refine ⟨⟨l.val - 4 - 4 * g.val, by omega⟩, Fin.ext ?_⟩
    show 4 + (g.val * 4 + (l.val - 4 - 4 * g.val)) = l.val
    omega
  · rintro ⟨j, rfl⟩
    show 4 + 4 * g.val ≤ 4 + (g.val * 4 + j.val) ∧ 4 + (g.val * 4 + j.val) < 8 + 4 * g.val
    omega

/-- The group's probability is the softmax of the first four lanes. -/
theorem pay5_at (x : FVec Ideal S256x2048 .bf16) (n : Fin 16) (w : Vec Ideal S1x2048x128 .bf16) (b : Vec Ideal S1x1x128 .f32) :
    gpOf x (BitVec.ofNat 32 n.val) w b (ix2 r 0) = soft (fun i => (lcOf x w b (ix2 r (gl i)) : EReal)) (grp n) := by
  unfold gpOf k0_pay5
  change (_ : EReal) = _
  pointwise [mask_bot, neg_inf]
  change Ideal.div (Ideal.exp ((∑ l : Fin 128, Scalar.select (IntOp.cmpi CmpIPredicate.eq (BitVec.ofNat 32 l.val) _) (lcOf x w b (ix2 r l) : EReal) 0)
    - top fun l : Fin 128 => Scalar.select (IntOp.cmpi CmpIPredicate.slt (BitVec.ofNat 32 l.val) 4#32) (lcOf x w b (ix2 r l) : EReal) ⊥))
    (∑ l : Fin 128, Ideal.exp (Scalar.select (IntOp.cmpi CmpIPredicate.slt (BitVec.ofNat 32 l.val) 4#32) ((lcOf x w b (ix2 r l) : EReal)
      - top fun l : Fin 128 => Scalar.select (IntOp.cmpi CmpIPredicate.slt (BitVec.ofNat 32 l.val) 4#32) (lcOf x w b (ix2 r l) : EReal) ⊥) ⊥)) = _
  have hg : BitVec.ofNat 32 (grp n).val = BitVec.ofNat 32 (gl (grp n)).val := rfl
  simp only [quo4_of, hg, cmp_one, cmp_grp, sel_if, exp_if]
  rw [sum_one, top_lanes gl _ gl_iff (fun l => (lcOf x w b (ix2 r l) : EReal)),
    sum_lanes gl gl_inj _ gl_iff]
  rfl

/-- The group's lanes keep their logits, the others are masked. -/
theorem pay7_at (x : FVec Ideal S256x2048 .bf16) (n : Fin 16) (w : Vec Ideal S1x2048x128 .bf16) (b : Vec Ideal S1x1x128 .f32) (l : Fin 128) :
    mlOf x (BitVec.ofNat 32 n.val) w b (ix2 r l) = (if 4 + 4 * (grp n).val ≤ l.val ∧ l.val < 8 + 4 * (grp n).val then (lcOf x w b (ix2 r l) : EReal) else ⊥) := by
  unfold mlOf k0_pay7 k0_pay6
  pointwise [mask_bot, neg_inf]
  rw [quo4_of, cmp_exp, sel_if]
  rfl
theorem pay6_at (n : Fin 16) (l : Fin 128) :
    k0_pay6 (quo4 (BitVec.ofNat 32 n.val)) (ix2 0 l) = if 4 + 4 * (grp n).val ≤ l.val ∧ l.val < 8 + 4 * (grp n).val then 1#1 else 0#1 := by
  unfold k0_pay6
  pointwise
  rw [quo4_of, cmp_exp]

theorem pay8_at (g : IVec S1x128 1) (ml : FVec Ideal S256x128 .f32) (l : Fin 128) :
    k0_pay8 y g ml (ix2 r l) = Ideal.exp (Scalar.select (g (ix2 0 l)) ((y (ix2 r l) : EReal) - top fun l => (ml (ix2 r l) : EReal)) ⊥) := by
  unfold k0_pay8
  pointwise [mask_bot, neg_inf]
  rfl
theorem pay10_at (ra base : BitVec 32) (g : IVec S1x128 1) (ml : FVec Ideal S256x128 .f32) :
    k0_pay10 ra y (iota .tc S1x128 32 [1] iota_S1x128_d1_w32) base g ml (ix2 r 0)
      = Ideal.div (∑ l : Fin 128, Scalar.select (IntOp.cmpi CmpIPredicate.eq (BitVec.ofNat 32 l.val) (Scalar.addi base ra)) (k0_pay8 y g ml (ix2 r l) : EReal) 0)
        (∑ l : Fin 128, (k0_pay8 y g ml (ix2 r l) : EReal)) := by
  unfold k0_pay10 k0_pay9
  pointwise [mask_bot, neg_inf]
theorem pay11_at (ra base : BitVec 32) (g : IVec S1x128 1) (ml : FVec Ideal S256x128 .f32) :
    k0_pay11 ra y (iota .tc S1x128 32 [1] iota_S1x128_d1_w32) base g ml (ix2 r 0)
      = Ideal.div (∑ l : Fin 128, Scalar.select (IntOp.cmpi CmpIPredicate.eq (BitVec.ofNat 32 l.val) (Scalar.addi base ra)) (k0_pay8 y g ml (ix2 r l) : EReal) 0)
        (∑ l : Fin 128, (k0_pay8 y g ml (ix2 r l) : EReal)) := by
  unfold k0_pay11 k0_pay9
  pointwise [mask_bot, neg_inf]

/-- The lanes of a group, their softmax. -/
theorem lanes_soft (x : FVec Ideal S256x2048 .bf16) (n : Fin 16) (i : Fin 4) (w : Vec Ideal S1x2048x128 .bf16) (b : Vec Ideal S1x1x128 .f32) :
    Ideal.div (∑ l : Fin 128, Scalar.select (IntOp.cmpi CmpIPredicate.eq (BitVec.ofNat 32 l.val) (Scalar.addi (baseOf (BitVec.ofNat 32 n.val)) (BitVec.ofNat 32 i.val)))
          (k0_pay8 (lcOf x w b) (k0_pay6 (quo4 (BitVec.ofNat 32 n.val))) (mlOf x (BitVec.ofNat 32 n.val) w b) (ix2 r l) : EReal) 0)
        (∑ l : Fin 128, (k0_pay8 (lcOf x w b) (k0_pay6 (quo4 (BitVec.ofNat 32 n.val))) (mlOf x (BitVec.ofNat 32 n.val) w b) (ix2 r l) : EReal))
      = soft (fun j => (lcOf x w b (ix2 r (xl (exq (grp n) j))) : EReal)) i := by
  unfold baseOf
  simp only [pay8_at, pay6_at, pay7_at, sel_if, exp_if]
  rw [quo4_of, lane_of]
  simp only [cmp_one, sel_if]
  rw [sum_one, if_pos ((xl_iff _ _).mpr ⟨i, rfl⟩), top_lanes (fun j => xl (exq (grp n) j)) _ (xl_iff (grp n)) (fun l => (lcOf x w b (ix2 r l) : EReal)),
    sum_lanes (fun j => xl (exq (grp n) j)) (xl_inj (grp n)) _ (xl_iff (grp n))]
  rfl

theorem waOf_at (x : FVec Ideal S256x2048 .bf16) (n k : Fin 16) (w : Vec Ideal S1x2048x128 .bf16) (b : Vec Ideal S1x1x128 .f32) :
    waOf x (BitVec.ofNat 32 n.val) (BitVec.ofNat 32 k.val) w b (ix2 r 0)
      = soft (fun i => (lcOf x w b (ix2 r (gl i)) : EReal)) (grp n)
        * Ideal.div (soft (fun j => (lcOf x w b (ix2 r (xl (exq (grp n) j))) : EReal)) (plc n))
          (soft (fun j => (lcOf x w b (ix2 r (xl (exq (grp n) j))) : EReal)) (plc n) + soft (fun j => (lcOf x w b (ix2 r (xl (exq (grp n) j))) : EReal)) (plc k)) := by
  unfold waOf k0_pay13 k0_pay12
  pointwise
  rw [pay5_at, pay10_at, pay11_at, rem4_of, rem4_of, lanes_soft, lanes_soft]
theorem wbOf_at (x : FVec Ideal S256x2048 .bf16) (n k : Fin 16) (w : Vec Ideal S1x2048x128 .bf16) (b : Vec Ideal S1x1x128 .f32) :
    wbOf x (BitVec.ofNat 32 n.val) (BitVec.ofNat 32 k.val) w b (ix2 r 0)
      = soft (fun i => (lcOf x w b (ix2 r (gl i)) : EReal)) (grp n)
        * Ideal.div (soft (fun j => (lcOf x w b (ix2 r (xl (exq (grp n) j))) : EReal)) (plc k))
          (soft (fun j => (lcOf x w b (ix2 r (xl (exq (grp n) j))) : EReal)) (plc n) + soft (fun j => (lcOf x w b (ix2 r (xl (exq (grp n) j))) : EReal)) (plc k)) := by
  unfold wbOf k0_pay14 k0_pay12
  pointwise
  rw [pay5_at, pay10_at, pay11_at, rem4_of, rem4_of, lanes_soft, lanes_soft]

/-- A lane of the first half of a row, -/
def lo (f : Fin 512) : Fin 1024 := ⟨f.val, by omega⟩
/-- and of the second. -/
def hi (f : Fin 512) : Fin 1024 := ⟨512 + f.val, by omega⟩

theorem pay15_at (x : FVec Ideal S256x2048 .bf16) (w : Vec Ideal S1x1x2048x1024 .bf16) (f : Fin 512) :
    k0_pay15 x w (ix2 r f) = (∑ k, (x (ix2 r k) : EReal) * w (ix4 0 0 k (lo f))) * Ideal.logistic (∑ k, (x (ix2 r k) : EReal) * w (ix4 0 0 k (lo f)))
      * ∑ k, (x (ix2 r k) : EReal) * w (ix4 0 0 k (hi f)) := by
  unfold k0_pay15
  pointwise [dot_S256x2048_S2048x1024_S256x1024_1_0_0_1_n_n]
  rfl

theorem pay16_at (x : FVec Ideal S256x2048 .bf16) (wa wb : FVec Ideal S256x1 .f32) (hh : FVec Ideal S256x512 .bf16) (w9 w11 : Vec Ideal S1x1x512x2048 .bf16) (w10 : Vec Ideal S1x1x2048x1024 .bf16) (d : Fin 2048) :
    k0_pay16 x wa wb hh w9 w10 w11 (ix2 r d)
      = (wa (ix2 r 0) : EReal) * (∑ f, (hh (ix2 r f) : EReal) * w9 (ix4 0 0 f d))
        + (wb (ix2 r 0) : EReal) * ∑ f, ((∑ k, (x (ix2 r k) : EReal) * w10 (ix4 0 0 k (lo f))) * Ideal.logistic (∑ k, (x (ix2 r k) : EReal) * w10 (ix4 0 0 k (lo f)))
          * ∑ k, (x (ix2 r k) : EReal) * w10 (ix4 0 0 k (hi f))) * w11 (ix4 0 0 f d) := by
  unfold k0_pay16
  pointwise [dot_S256x2048_S2048x1024_S256x1024_1_0_0_1_n_n, dot_S256x512_S512x2048_S256x2048_1_0_0_1_n_n]
  rfl
end

section
variable (wg : (⟨3, ![2, 2048, 4]⟩ : Shape).Idx → EReal) (bg : (⟨2, ![2, 4]⟩ : Shape).Idx → EReal)
  (we : (⟨3, ![2, 2048, 16]⟩ : Shape).Idx → EReal) (be : (⟨2, ![2, 16]⟩ : Shape).Idx → EReal)
  (gate up : (⟨4, ![2, 16, 2048, 512]⟩ : Shape).Idx → EReal) (down : (⟨4, ![2, 16, 512, 2048]⟩ : Shape).Idx → EReal)

/-- Sixteen columns beside one another. -/
theorem beside_at (f : Fin 16 → FVec Ideal S256x128 .f32) (r : Fin 256) (k : Fin 2048) :
    (k0_pay2 (F := Ideal) (f 0) (f 1) (f 2) (f 3) (f 4) (f 5) (f 6) (f 7) (f 8) (f 9) (f 10) (f 11) (f 12) (f 13) (f 14) (f 15) : S256x2048.Idx → EReal) (ix2 r k)
      = (f ⟨k.val / 128, by omega⟩ : S256x128.Idx → EReal) (ix2 r ⟨k.val % 128, by omega⟩) := by
  have h : ∀ hc, concatenate S256x2048 1 (List.ofFn fun n : Fin 16 => (⟨S256x128, f n⟩ : (s : Shape) × (s.Idx → EReal))) hc (ix2 r k)
      = (f ⟨k.val / 128, by omega⟩ : S256x128.Idx → EReal) (ix2 r ⟨k.val % 128, by omega⟩) := fun hc =>
    concatenate_ofFn_apply (t := S256x2048) (s₁ := S256x128) 1 f hc rfl 128 rfl (ix2 r k) ⟨k.val / 128, by omega⟩ rfl (ix2 r ⟨k.val % 128, by omega⟩) rfl
      (fun b hb => by
        fin_cases b
        · rfl
        · exact absurd rfl hb)
  exact h concatenates_S256x128_S256x128_S256x128_S256x128_S256x128_S256x128_S256x128_S256x128_S256x128_S256x128_S256x128_S256x128_S256x128_S256x128_S256x128_S256x128_S256x2048_d1

theorem box_fits (n : Fin 16) : ∀ a, S256x128.size a = 0 ∨ (![n.val, 0] : Fin 2 → ℕ) a + (![17, 1] : Fin 2 → Nat) a * (S256x128.size a - 1) < S4352x128.size a := by
  intro a
  fin_cases a
  · exact Or.inr (show n.val + 17 * (256 - 1) < 4352 by omega)
  · exact Or.inr (show 0 + 1 * (128 - 1) < 128 by omega)

/-- A token of the tile, unpacked. -/
theorem xOf_at (X : S4352x128.Idx → Elt Ideal .f32) (r : Fin 256) (k : Fin 2048) :
    xOf X (ix2 r k) = X (ix2 ⟨17 * r.val + k.val / 128, by omega⟩ ⟨k.val % 128, by omega⟩) := by
  refine (beside_at (fun n => boxOf X ![n.val, 0] (box_fits n)) r k).trans ?_
  refine congrArg X ?_
  funext a
  refine Fin.ext ?_
  fin_cases a
  · show k.val / 128 + 17 * r.val = 17 * r.val + k.val / 128
    omega
  · show 0 + 1 * (k.val % 128) = k.val % 128
    omega

/-- A row of the tile is the formula. -/
theorem tile_at (X : S4352x128.Idx → Elt Ideal .f32) (na nb : Fin 16) (d6 : Vec Ideal S1x2048x128 .bf16) (d7 : Vec Ideal S1x1x128 .f32)
    (d8 : Vec Ideal S1x1x2048x1024 .bf16) (d9 : Vec Ideal S1x1x512x2048 .bf16) (d10 : Vec Ideal S1x1x2048x1024 .bf16) (d11 : Vec Ideal S1x1x512x2048 .bf16)
    (r : Fin 256) (d : Fin 2048) (x : Fin 2048 → EReal)
    (hx : ∀ k, xOf X (ix2 r k) = x k)
    (h6 : ∀ k i, d6 (ix3 0 k (gl i)) = wg (ix3 0 k i)) (h6' : ∀ k e, d6 (ix3 0 k (xl e)) = we (ix3 0 k e))
    (h7 : ∀ i, d7 (ix3 0 0 (gl i)) = bg (ix2 0 i)) (h7' : ∀ e, d7 (ix3 0 0 (xl e)) = be (ix2 0 e))
    (h8 : ∀ k f, d8 (ix4 0 0 k (lo f)) = gate (ix4 0 na k f)) (h8' : ∀ k f, d8 (ix4 0 0 k (hi f)) = up (ix4 0 na k f))
    (h9 : ∀ f d, d9 (ix4 0 0 f d) = down (ix4 0 na f d))
    (h10 : ∀ k f, d10 (ix4 0 0 k (lo f)) = gate (ix4 0 nb k f)) (h10' : ∀ k f, d10 (ix4 0 0 k (hi f)) = up (ix4 0 nb k f))
    (h11 : ∀ f d, d11 (ix4 0 0 f d) = down (ix4 0 nb f d)) :
    tileY X (BitVec.ofNat 32 na.val) (BitVec.ofNat 32 nb.val) d6 d7 d8 d9 d10 d11 (ix2 r d) = mix x wg bg we be gate up down na nb d := by
  unfold tileY
  rw [pay16_at, waOf_at, wbOf_at]
  simp only [pay4_at, pay15_at, hx, h6, h6', h7, h7', h8, h8', h9, h10, h10', h11]
  rfl
end

end Cert.KernelIdeal.Hand
-- ==== Proof.Array.lean ====
/-
  Hand-written, untrusted. The arrays the host prepares for the kernel, read at an index.
-/
module

public import proofs.«01_k».proof.Proof.Frame
public import proofs.«01_k».proof.Proof.KernelValue

@[expose] public section

noncomputable section

namespace Cert.KernelIdeal.Hand

open Cert.KernelIdeal Cert.KernelIdeal.Gen Idealize.ShloMosaic Idealize.ShloMosaic.TcCoe Idealize.ShloMosaic.StableHlo

variable (m : (ℓ : Loc nD τ sig) → Buf (Elt Ideal) ℓ) (c : Dev nD)

theorem V0_split : V0 m c = after hostOps0_4 (after hostOps0_3 (after hostOps0_2 (after hostOps0_1 (after hostOps0 fun b => m (c, b))))) := by
  unfold V0
  simp only [List.flatten_cons, List.flatten_nil, List.append_nil, after_append]

section
variable (W : Valuation τ sig (Elt Ideal))

theorem seg4_v14 : (after hostOps0_4 W (Proc.devRef .tc main_v14) : FVec Ideal S835584x128 .f32)
    = shapeCast S835584x128 (concatenate S49152x17x128 1 [⟨S49152x16x128, shapeCast S49152x16x128 (W (Proc.devRef .tc main_arg4) : FVec Ideal S49152x2048 .f32) shapeCasts_S49152x2048_S49152x16x128⟩,
        ⟨S49152x1x128, broadcastInDim S49152x1x128 ![] bcast_S_S49152x1x128 (constant (F := Ideal) S_ .f32 0x00000000#32)⟩] concatenates_S49152x16x128_S49152x1x128_S49152x17x128_d1) shapeCasts_S49152x17x128_S835584x128 := by
  rfl
theorem seg4_v10 : (after hostOps0_4 W (Proc.devRef .tc main_v10) : FVec Ideal S2x1x128 .f32)
    = broadcastInDim S2x1x128 ![0, 2] bcast_S2x128_S2x1x128_0_2 (W (Proc.devRef .tc main_v9)) := by
  rfl
theorem seg3_v9 : (after hostOps0_3 W (Proc.devRef .tc main_v9) : FVec Ideal S2x128 .f32)
    = pad S2x128 ![0, 0] ![0, 96] ![0, 0] (W (Proc.devRef .tc main_v8)) (sitofp (F := Ideal) .f32 (W (Proc.devRef .tc main_c_1))) pads_S2x32_S2x128_000_0960 h_S_ := by
  rfl
theorem seg2_v8 : (after hostOps0_2 W (Proc.devRef .tc main_v8) : FVec Ideal S2x32 .f32)
    = concatenate S2x32 1 [⟨S2x4, (W (Proc.devRef .tc main_arg6) : FVec Ideal S2x4 .f32)⟩, ⟨S2x16, (W (Proc.devRef .tc main_arg8) : FVec Ideal S2x16 .f32)⟩, ⟨S2x12, broadcastInDim S2x12 ![] bcast_S_S2x12 (constant (F := Ideal) S_ .f32 0x00000000#32)⟩] concatenates_S2x4_S2x16_S2x12_S2x32_d1 := by
  rfl
theorem seg2_v6 : (after hostOps0_2 W (Proc.devRef .tc main_v6) : FVec Ideal S2x2048x128 .bf16)
    = truncf (F := Ideal) .bf16 (W (Proc.devRef .tc main_v5) : FVec Ideal S2x2048x128 .f32) bitsLt_bf16_f32 := by
  rfl
theorem seg1_v5 : (after hostOps0_1 W (Proc.devRef .tc main_v5) : FVec Ideal S2x2048x128 .f32)
    = pad S2x2048x128 ![0, 0, 0] ![0, 0, 96] ![0, 0, 0] (W (Proc.devRef .tc main_v4)) (sitofp (F := Ideal) .f32 (W (Proc.devRef .tc main_c))) pads_S2x2048x32_S2x2048x128_000_000_0960 h_S_ := by
  rfl
theorem seg0_v4 : (after hostOps0 W (Proc.devRef .tc main_v4) : FVec Ideal S2x2048x32 .f32)
    = concatenate S2x2048x32 2 [⟨S2x2048x4, (W (Proc.devRef .tc main_arg5) : FVec Ideal S2x2048x4 .f32)⟩, ⟨S2x2048x16, (W (Proc.devRef .tc main_arg7) : FVec Ideal S2x2048x16 .f32)⟩, ⟨S2x2048x12, broadcastInDim S2x2048x12 ![] bcast_S_S2x2048x12 (constant (F := Ideal) S_ .f32 0x00000000#32)⟩] concatenates_S2x2048x4_S2x2048x16_S2x2048x12_S2x2048x32_d2 := by
  rfl
theorem seg0_v1 : (after hostOps0 W (Proc.devRef .tc main_v1) : FVec Ideal S2x16x2048x1024 .bf16)
    = truncf (F := Ideal) .bf16 (concatenate S2x16x2048x1024 3 [⟨S2x16x2048x512, (W (Proc.devRef .tc main_arg9) : FVec Ideal S2x16x2048x512 .f32)⟩, ⟨S2x16x2048x512, (W (Proc.devRef .tc main_arg10) : FVec Ideal S2x16x2048x512 .f32)⟩] concatenates_S2x16x2048x512_S2x16x2048x512_S2x16x2048x1024_d3 : FVec Ideal S2x16x2048x1024 .f32) bitsLt_bf16_f32 := by
  rfl
theorem seg0_v2 : (after hostOps0 W (Proc.devRef .tc main_v2) : FVec Ideal S2x16x512x2048 .bf16)
    = truncf (F := Ideal) .bf16 (W (Proc.devRef .tc main_arg11) : FVec Ideal S2x16x512x2048 .f32) bitsLt_bf16_f32 := by
  rfl

theorem seg_keep (r : Ref sig .tc) (hr : r ∉ preW) :
    after hostOps0_4 W (Proc.devRef .tc r) = W (Proc.devRef .tc r) ∧ after hostOps0_3 W (Proc.devRef .tc r) = W (Proc.devRef .tc r)
      ∧ after hostOps0_2 W (Proc.devRef .tc r) = W (Proc.devRef .tc r) ∧ after hostOps0_1 W (Proc.devRef .tc r) = W (Proc.devRef .tc r)
      ∧ after hostOps0 W (Proc.devRef .tc r) = W (Proc.devRef .tc r) := by
  refine ⟨after_of_writes_sub _ _ (forall_writes_sub_of_map (W := [main_v10, main_v11, main_cst_2, main_v12, main_v13, main_v14]) rfl) ?_, after_of_writes_sub _ _ (forall_writes_sub_of_map (W := [main_call1_v0, main_v9]) rfl) ?_,
    after_of_writes_sub _ _ (forall_writes_sub_of_map (W := [main_v6, main_cst_0, main_v7, main_v8, main_c_1]) rfl) ?_, after_of_writes_sub _ _ (forall_writes_sub_of_map (W := [main_call0_v0, main_v5]) rfl) ?_,
    after_of_writes_sub _ _ (forall_writes_sub_of_map (W := [main_v0, main_v1, main_v2, main_cst, main_v3, main_v4, main_c]) rfl) ?_⟩ <;>
  · intro h
    apply hr
    revert h
    generalize r = r'
    simp only [List.mem_cons, List.not_mem_nil, or_false]
    tauto
theorem seg1_keep : ∀ r ∈ [main_v1, main_v2], after hostOps0_4 (after hostOps0_3 (after hostOps0_2 (after hostOps0_1 W))) (Proc.devRef .tc r) = W (Proc.devRef .tc r) := by
  intro r hr
  simp only [List.mem_cons, List.not_mem_nil, or_false] at hr
  rcases hr with rfl | rfl <;> rfl
theorem seg3_v6 : after hostOps0_4 (after hostOps0_3 W) (Proc.devRef .tc main_v6) = W (Proc.devRef .tc main_v6) := rfl

end

/-- The contents before the host's first operation. -/
abbrev m0 : Valuation τ sig (Elt Ideal) := fun b => m (c, b)

/-- A token, packed in seventeen rows of which the first sixteen hold it. -/
theorem packed_at (t : Fin 49152) (q : Fin 16) (j : Fin 128) :
    (packed m c : FVec Ideal S835584x128 .f32) (ix2 ⟨17 * t.val + q.val, by omega⟩ j)
      = (m (c, Proc.devRef .tc main_arg4) : FVec Ideal S49152x2048 .f32) (ix2 t ⟨128 * q.val + j.val, by omega⟩) := by
  have key : ∀ x : FVec Ideal S49152x2048 .f32, shapeCast S835584x128 (concatenate S49152x17x128 1 [⟨S49152x16x128, shapeCast S49152x16x128 x shapeCasts_S49152x2048_S49152x16x128⟩,
        ⟨S49152x1x128, broadcastInDim S49152x1x128 ![] bcast_S_S49152x1x128 (constant (F := Ideal) S_ .f32 0x00000000#32)⟩] concatenates_S49152x16x128_S49152x1x128_S49152x17x128_d1) shapeCasts_S49152x17x128_S835584x128 (ix2 ⟨17 * t.val + q.val, by omega⟩ j)
      = x (ix2 t ⟨128 * q.val + j.val, by omega⟩) := by
    intro x
    pointwise
    have h1 : (17 * t.val + q.val) % 17 = q.val := by omega
    have h2 : (17 * t.val + q.val) / 17 = t.val := by omega
    rw [dif_pos (by omega)]
    congr 2
    apply Fin.ext
    show (17 * t.val + q.val) % 17 * 128 + j.val = _
    rw [h1]; show _ = 128 * q.val + j.val; omega
  unfold packed
  rw [V0_split]
  refine (congrFun (seg4_v14 _) _).trans ((key _).trans (congrFun ?_ _))
  have hr : main_arg4 ∉ preW := by decide
  rw [(seg_keep _ _ hr).2.1, (seg_keep _ _ hr).2.2.1, (seg_keep _ _ hr).2.2.2.1, (seg_keep _ _ hr).2.2.2.2]

/-- The router's weights, as the host lays them out. -/
theorem v6_at (k : Fin 2048) :
    (∀ i : Fin 4, ((V0 m c (Proc.devRef .tc main_v6) : FVec Ideal S2x2048x128 .bf16) (ix3 0 k (gl i)) : EReal) = (m (c, Proc.devRef .tc main_arg5) : FVec Ideal S2x2048x4 .f32) (ix3 0 k i))
    ∧ ∀ e : Fin 16, ((V0 m c (Proc.devRef .tc main_v6) : FVec Ideal S2x2048x128 .bf16) (ix3 0 k (xl e)) : EReal) = (m (c, Proc.devRef .tc main_arg7) : FVec Ideal S2x2048x16 .f32) (ix3 0 k e) := by
  have key : ∀ (x : FVec Ideal S2x2048x4 .f32) (y : FVec Ideal S2x2048x16 .f32) (z : IVec S_ 32) (l : Fin 128) (hl : l.val < 20),
      ((truncf (F := Ideal) .bf16 (pad S2x2048x128 ![0, 0, 0] ![0, 0, 96] ![0, 0, 0] (concatenate S2x2048x32 2 [⟨S2x2048x4, x⟩, ⟨S2x2048x16, y⟩, ⟨S2x2048x12, broadcastInDim S2x2048x12 ![] bcast_S_S2x2048x12 (constant (F := Ideal) S_ .f32 0x00000000#32)⟩] concatenates_S2x2048x4_S2x2048x16_S2x2048x12_S2x2048x32_d2)
        (sitofp (F := Ideal) .f32 z) pads_S2x2048x32_S2x2048x128_000_000_0960 h_S_ : FVec Ideal S2x2048x128 .f32) bitsLt_bf16_f32 : FVec Ideal S2x2048x128 .bf16) (ix3 0 k l) : EReal)
        = if h : l.val < 4 then x (ix3 0 k ⟨l.val, h⟩) else y (ix3 0 k ⟨l.val - 4, by omega⟩) := by
    intro x y z l hl
    pointwise
    rw [dif_pos]
    · by_cases h : l.val < 4
      · rw [dif_pos h, dif_pos h]
      · rw [dif_neg h, dif_neg h, dif_pos (by omega)]
    · omega
  have all : ∀ l : Fin 128, l.val < 20 → ((V0 m c (Proc.devRef .tc main_v6) : FVec Ideal S2x2048x128 .bf16) (ix3 0 k l) : EReal)
      = if h : l.val < 4 then (m (c, Proc.devRef .tc main_arg5) : FVec Ideal S2x2048x4 .f32) (ix3 0 k ⟨l.val, h⟩) else (m (c, Proc.devRef .tc main_arg7) : FVec Ideal S2x2048x16 .f32) (ix3 0 k ⟨(l.val - 4) % 16, by omega⟩) := by
    intro l hl
    rw [V0_split, seg3_v6, seg2_v6, seg1_v5, seg0_v4]
    refine (key _ _ _ l hl).trans ?_
    split
    · rfl
    · refine congrArg _ (congrArg _ (Fin.ext ?_))
      show l.val - 4 = (l.val - 4) % 16
      omega
  refine ⟨fun i => ?_, fun e => ?_⟩
  · refine (all _ (by show i.val < 20; omega)).trans ?_
    rw [dif_pos (show (gl i).val < 4 from i.isLt)]; rfl
  · refine (all _ (by show 4 + e.val < 20; omega)).trans ?_
    rw [dif_neg (show ¬ (xl e).val < 4 by show ¬ 4 + e.val < 4; omega)]
    refine congrArg _ (congrArg _ (Fin.ext ?_))
    show (4 + e.val - 4) % 16 = e.val
    omega

/-- And its biases. -/
theorem v10_at :
    (∀ i : Fin 4, ((V0 m c (Proc.devRef .tc main_v10) : FVec Ideal S2x1x128 .f32) (ix3 0 0 (gl i)) : EReal) = (m (c, Proc.devRef .tc main_arg6) : FVec Ideal S2x4 .f32) (ix2 0 i))
    ∧ ∀ e : Fin 16, ((V0 m c (Proc.devRef .tc main_v10) : FVec Ideal S2x1x128 .f32) (ix3 0 0 (xl e)) : EReal) = (m (c, Proc.devRef .tc main_arg8) : FVec Ideal S2x16 .f32) (ix2 0 e) := by
  have key : ∀ (x : FVec Ideal S2x4 .f32) (y : FVec Ideal S2x16 .f32) (z : IVec S_ 32) (l : Fin 128) (hl : l.val < 20),
      ((broadcastInDim S2x1x128 ![0, 2] bcast_S2x128_S2x1x128_0_2 (pad S2x128 ![0, 0] ![0, 96] ![0, 0] (concatenate S2x32 1 [⟨S2x4, x⟩, ⟨S2x16, y⟩, ⟨S2x12, broadcastInDim S2x12 ![] bcast_S_S2x12 (constant (F := Ideal) S_ .f32 0x00000000#32)⟩] concatenates_S2x4_S2x16_S2x12_S2x32_d1)
        (sitofp (F := Ideal) .f32 z) pads_S2x32_S2x128_000_0960 h_S_ : FVec Ideal S2x128 .f32) : FVec Ideal S2x1x128 .f32) (ix3 0 0 l) : EReal)
        = if h : l.val < 4 then x (ix2 0 ⟨l.val, h⟩) else y (ix2 0 ⟨l.val - 4, by omega⟩) := by
    intro x y z l hl
    pointwise
    rw [dif_pos]
    · by_cases h : l.val < 4
      · rw [dif_pos h, dif_pos h]
      · rw [dif_neg h, dif_neg h, dif_pos (by omega)]
    · omega
  have all : ∀ l : Fin 128, l.val < 20 → ((V0 m c (Proc.devRef .tc main_v10) : FVec Ideal S2x1x128 .f32) (ix3 0 0 l) : EReal)
      = if h : l.val < 4 then (m (c, Proc.devRef .tc main_arg6) : FVec Ideal S2x4 .f32) (ix2 0 ⟨l.val, h⟩) else (m (c, Proc.devRef .tc main_arg8) : FVec Ideal S2x16 .f32) (ix2 0 ⟨(l.val - 4) % 16, by omega⟩) := by
    intro l hl
    have h6 : main_arg6 ∉ preW := by decide
    have h8 : main_arg8 ∉ preW := by decide
    rw [V0_split, seg4_v10, seg3_v9, seg2_v8, (seg_keep _ _ h6).2.2.2.1, (seg_keep _ _ h6).2.2.2.2, (seg_keep _ _ h8).2.2.2.1, (seg_keep _ _ h8).2.2.2.2]
    refine (key _ _ _ l hl).trans ?_
    split
    · rfl
    · refine congrArg _ (congrArg _ (Fin.ext ?_))
      show l.val - 4 = (l.val - 4) % 16
      omega
  refine ⟨fun i => ?_, fun e => ?_⟩
  · refine (all _ (by show i.val < 20; omega)).trans ?_
    rw [dif_pos (show (gl i).val < 4 from i.isLt)]; rfl
  · refine (all _ (by show 4 + e.val < 20; omega)).trans ?_
    rw [dif_neg (show ¬ (xl e).val < 4 by show ¬ 4 + e.val < 4; omega)]
    refine congrArg _ (congrArg _ (Fin.ext ?_))
    show (4 + e.val - 4) % 16 = e.val
    omega

/-- The gates and the ups side by side. -/
theorem v1_at (e : Fin 16) (k : Fin 2048) (f : Fin 512) :
    ((V0 m c (Proc.devRef .tc main_v1) : FVec Ideal S2x16x2048x1024 .bf16) (ix4 0 e k (lo f)) : EReal) = (m (c, Proc.devRef .tc main_arg9) : FVec Ideal S2x16x2048x512 .f32) (ix4 0 e k f)
    ∧ ((V0 m c (Proc.devRef .tc main_v1) : FVec Ideal S2x16x2048x1024 .bf16) (ix4 0 e k (hi f)) : EReal) = (m (c, Proc.devRef .tc main_arg10) : FVec Ideal S2x16x2048x512 .f32) (ix4 0 e k f) := by
  have key : ∀ (x y : FVec Ideal S2x16x2048x512 .f32) (l : Fin 1024),
      ((truncf (F := Ideal) .bf16 (concatenate S2x16x2048x1024 3 [⟨S2x16x2048x512, x⟩, ⟨S2x16x2048x512, y⟩] concatenates_S2x16x2048x512_S2x16x2048x512_S2x16x2048x1024_d3 : FVec Ideal S2x16x2048x1024 .f32) bitsLt_bf16_f32 : FVec Ideal S2x16x2048x1024 .bf16) (ix4 0 e k l) : EReal)
        = if h : l.val < 512 then x (ix4 0 e k ⟨l.val, h⟩) else y (ix4 0 e k ⟨l.val - 512, by omega⟩) := by
    intro x y l
    pointwise
  rw [V0_split, seg1_keep _ _ (by decide), seg0_v1]
  refine ⟨(key _ _ _).trans ?_, (key _ _ _).trans ?_⟩
  · rw [dif_pos (show (lo f).val < 512 from f.isLt)]; rfl
  · rw [dif_neg (show ¬ (hi f).val < 512 by show ¬ 512 + f.val < 512; omega)]
    refine congrArg _ (congrArg _ (Fin.ext ?_))
    show 512 + f.val - 512 = f.val
    omega

/-- The downs. -/
theorem v2_at (i : S2x16x512x2048.Idx) :
    ((V0 m c (Proc.devRef .tc main_v2) : FVec Ideal S2x16x512x2048 .bf16) i : EReal) = (m (c, Proc.devRef .tc main_arg11) : FVec Ideal S2x16x512x2048 .f32) i := by
  rw [V0_split, seg1_keep _ _ (by decide), seg0_v2]
  rfl

end Cert.KernelIdeal.Hand
-- ==== Proof.Block.lean ====
/-
  Hand-written, untrusted. What the kernel's windows read, and the output block of a grid point at an index.
-/
module

public import proofs.«01_k».proof.Proof.Array
public import Idealize.ShloMosaic.Lib.Pipeline.ValueKit

@[expose] public section

noncomputable section

namespace Cert.KernelIdeal.Hand

open Cert.KernelIdeal Cert.KernelIdeal.Gen Idealize.ShloMosaic Idealize.ShloMosaic.TcCoe Cert.Spec

variable (m : (ℓ : Loc nD τ sig) → Buf (Elt Ideal) ℓ) (hg : Good m) (c : Dev nD)

theorem iblk0 (t : Fin grid0.N) (k : Fin 2048) (l : Fin 128) :
    (iblk m hg c 0 t : FVec Ideal S1x2048x128 .bf16) (ix3 0 k l) = (V0 m c (Proc.devRef .tc main_v6) : FVec Ideal S2x2048x128 .bf16) (ix3 0 k l) := by
  show (V0 m c (Proc.devRef .tc main_v6) : FVec Ideal S2x2048x128 .bf16) (((win0 (adm m hg) 0).blk t).view.emb (ix3 0 k l)) = _
  refine congrArg _ ?_
  funext a
  apply Fin.ext
  fin_cases a
  · rfl
  · show 0 * 2048 + 1 * k.val = k.val; omega
  · show 0 * 128 + 1 * l.val = l.val; omega

theorem iblk1 (t : Fin grid0.N) (l : Fin 128) :
    (iblk m hg c 1 t : FVec Ideal S1x1x128 .f32) (ix3 0 0 l) = (V0 m c (Proc.devRef .tc main_v10) : FVec Ideal S2x1x128 .f32) (ix3 0 0 l) := by
  show (V0 m c (Proc.devRef .tc main_v10) : FVec Ideal S2x1x128 .f32) (((win0 (adm m hg) 1).blk t).view.emb (ix3 0 0 l)) = _
  refine congrArg _ ?_
  funext a
  apply Fin.ext
  fin_cases a
  · rfl
  · rfl
  · show 0 * 128 + 1 * l.val = l.val; omega

/-- The word a table holds at a grid point's place. -/
theorem word_at (T : S216.Idx → BitVec 32) (t : Fin grid0.N) (n : Fin 16) (h : tword T t.val = BitVec.ofNat 32 n.val) (r : S216.Idx) (hr : (r 0).val = t.val) :
    (T r).toNat = n.val := by
  have e : T r = tword T t.val := by
    unfold tword
    congr 1
    funext a; apply Fin.ext
    match a with
    | ⟨0, _⟩ =>
      have ht : t.val < 216 := t.isLt
      show (r 0).val = t.val % 216
      rw [Nat.mod_eq_of_lt ht, hr]
  rw [e, h, BitVec.toNat_ofNat, Nat.mod_eq_of_lt (by omega)]

theorem word_blk (T : S216.Idx → BitVec 32) (t : Fin grid0.N) (n : Fin 16) (h : tword T t.val = BitVec.ofNat 32 n.val) (hb)
    (x : (Rect.unit (s := S216) (k0_off1 (grid0.coords t)) S1.size hb).shape.Idx) :
    (T ((Rect.unit (s := S216) (k0_off1 (grid0.coords t)) S1.size hb).emb x)).toNat * 1 + 1 * 0 = n.val := by
  rw [word_at T t n h _ ?_]
  · omega
  · have hx : (x 0).val < 1 := (x 0).isLt
    have ht : t.val < 216 := t.isLt
    have h0 : (BitVec.ofNat 32 ((grid0.coords t) 0).val).toNat = t.val := by
      rw [coord_val, BitVec.toNat_ofNat, Nat.mod_eq_of_lt (by omega)]
    show (BitVec.ofNat 32 ((grid0.coords t) 0).val).toNat + 1 * (x 0).val = t.val
    omega

theorem iblk2 (t : Fin grid0.N) (n : Fin 16) (h : tword (TA m) t.val = BitVec.ofNat 32 n.val) (k : Fin 2048) (l : Fin 1024) :
    (iblk m hg c 2 t : FVec Ideal S1x1x2048x1024 .bf16) (ix4 0 0 k l) = (V0 m c (Proc.devRef .tc main_v1) : FVec Ideal S2x16x2048x1024 .bf16) (ix4 0 n k l) := by
  show (V0 m c (Proc.devRef .tc main_v1) : FVec Ideal S2x16x2048x1024 .bf16) (((win0 (adm m hg) 2).blk t).view.emb (ix4 0 0 k l)) = _
  refine congrArg _ ?_
  funext a
  apply Fin.ext
  fin_cases a
  · rfl
  · exact word_blk (pf m 0) t n h _ _
  · show 0 * 2048 + 1 * k.val = k.val; omega
  · show 0 * 1024 + 1 * l.val = l.val; omega

theorem iblk3 (t : Fin grid0.N) (n : Fin 16) (h : tword (TA m) t.val = BitVec.ofNat 32 n.val) (k : Fin 512) (l : Fin 2048) :
    (iblk m hg c 3 t : FVec Ideal S1x1x512x2048 .bf16) (ix4 0 0 k l) = (V0 m c (Proc.devRef .tc main_v2) : FVec Ideal S2x16x512x2048 .bf16) (ix4 0 n k l) := by
  show (V0 m c (Proc.devRef .tc main_v2) : FVec Ideal S2x16x512x2048 .bf16) (((win0 (adm m hg) 3).blk t).view.emb (ix4 0 0 k l)) = _
  refine congrArg _ ?_
  funext a
  apply Fin.ext
  fin_cases a
  · rfl
  · exact word_blk (pf m 0) t n h _ _
  · show 0 * 512 + 1 * k.val = k.val; omega
  · show 0 * 2048 + 1 * l.val = l.val; omega

theorem iblk4 (t : Fin grid0.N) (n : Fin 16) (h : tword (TB m) t.val = BitVec.ofNat 32 n.val) (k : Fin 2048) (l : Fin 1024) :
    (iblk m hg c 4 t : FVec Ideal S1x1x2048x1024 .bf16) (ix4 0 0 k l) = (V0 m c (Proc.devRef .tc main_v1) : FVec Ideal S2x16x2048x1024 .bf16) (ix4 0 n k l) := by
  show (V0 m c (Proc.devRef .tc main_v1) : FVec Ideal S2x16x2048x1024 .bf16) (((win0 (adm m hg) 4).blk t).view.emb (ix4 0 0 k l)) = _
  refine congrArg _ ?_
  funext a
  apply Fin.ext
  fin_cases a
  · rfl
  · exact word_blk (pf m 1) t n h _ _
  · show 0 * 2048 + 1 * k.val = k.val; omega
  · show 0 * 1024 + 1 * l.val = l.val; omega

theorem iblk5 (t : Fin grid0.N) (n : Fin 16) (h : tword (TB m) t.val = BitVec.ofNat 32 n.val) (k : Fin 512) (l : Fin 2048) :
    (iblk m hg c 5 t : FVec Ideal S1x1x512x2048 .bf16) (ix4 0 0 k l) = (V0 m c (Proc.devRef .tc main_v2) : FVec Ideal S2x16x512x2048 .bf16) (ix4 0 n k l) := by
  show (V0 m c (Proc.devRef .tc main_v2) : FVec Ideal S2x16x512x2048 .bf16) (((win0 (adm m hg) 5).blk t).view.emb (ix4 0 0 k l)) = _
  refine congrArg _ ?_
  funext a
  apply Fin.ext
  fin_cases a
  · rfl
  · exact word_blk (pf m 1) t n h _ _
  · show 0 * 512 + 1 * k.val = k.val; omega
  · show 0 * 2048 + 1 * l.val = l.val; omega

/-- A block that holds no token. -/
theorem zero_at (y : S4352x128.Idx) : ((k0_pay1 (F := Ideal)) y : EReal) = 0 := by
  have key : ∀ v : Fin 4352, ∀ w : Fin 128, ((k0_pay1 (F := Ideal)) (ix2 v w) : EReal) = 0 := by
    intro v w
    unfold k0_pay1
    pointwise
  have e : y = ix2 (y 0) (y 1) := by funext a; fin_cases a <;> rfl
  rw [e]
  exact key _ _

/-- A block that holds a tile's output. -/
theorem blk_at (Y : FVec Ideal S256x2048 .f32) (r : Fin 256) (q : Fin 16) (j : Fin 128) :
    blk Y (ix2 (⟨17 * r.val + q.val, by omega⟩ : Fin 4352) j) = Y (ix2 r ⟨128 * q.val + j.val, by omega⟩) := by
  have a1 : (17 * r.val + q.val) / 17 = r.val := by omega
  have a2 : (17 * r.val + q.val) % 17 = q.val := by omega
  unfold blk
  refine (dif_pos (show (17 * r.val + q.val) % 17 < 16 by omega)).trans (congrArg Y ?_)
  funext a
  apply Fin.ext
  fin_cases a
  · exact a1
  · show 128 * ((17 * r.val + q.val) % 17) + j.val = _
    rw [a2]; rfl

/-- The token of a slot, gathered. -/
theorem row_at (T : S55296.Idx → BitVec 32) (t : Fin 216) (r : Fin 256) (h : ∀ x, (T x).toNat < 49152) (k : Fin 2048) :
    (xOf (F := Ideal) (tileX (packed m c) (rows T t.val)) (ix2 r k) : EReal)
      = (m (c, Proc.devRef .tc main_arg4) : FVec Ideal S49152x2048 .f32) (ix2 (num 49152 (T (ix1 ⟨256 * t.val + r.val, by omega⟩))) k) := by
  have hw : word T (256 * t.val + r.val) = T (ix1 ⟨256 * t.val + r.val, by omega⟩) := by
    unfold word
    congr 1
    funext a
    apply Fin.ext
    match a with
    | ⟨0, _⟩ => exact Nat.mod_eq_of_lt (by omega)
  have hn : (num 49152 (T (ix1 ⟨256 * t.val + r.val, by omega⟩))).val = rows T t.val r.val := by
    unfold rows
    rw [hw]
    exact Nat.mod_eq_of_lt (h _)
  rw [xOf_at]
  generalize num 49152 (T (ix1 ⟨256 * t.val + r.val, by omega⟩)) = n at hn ⊢
  have hq : k.val / 128 < 16 := by omega
  have e := packed_at m c n ⟨k.val / 128, hq⟩ ⟨k.val % 128, Nat.mod_lt _ (by decide)⟩
  have e2 : (ix2 n (⟨128 * (k.val / 128) + k.val % 128, by omega⟩ : Fin 2048)) = ix2 n k := congrArg (ix2 n) (Fin.ext (Nat.div_add_mod _ _))
  rw [← e2]
  refine Eq.trans ?_ e
  unfold tileX
  refine congrArg _ ?_
  funext a
  apply Fin.ext
  fin_cases a
  · show (17 * rows T t.val ((17 * r.val + k.val / 128) / 17) + (17 * r.val + k.val / 128) % 17) % 835584 = 17 * n.val + k.val / 128
    rw [show (17 * r.val + k.val / 128) / 17 = r.val by omega, ← hn]
    omega
  · rfl

/-- A number's word. -/
theorem num_word (w : BitVec 32) (h : w.toNat < 16) : w = BitVec.ofNat 32 (num 16 w).val := by
  apply BitVec.eq_of_toNat_eq
  rw [BitVec.toNat_ofNat]
  show w.toNat = w.toNat % 16 % 2 ^ 32
  omega

/-- A grid point's block at a row and a column that hold a slot's output. -/
theorem outAt_at (t : Fin 216) (r : Fin 256) (q : Fin 16) (j : Fin 128) :
    ((outAt m hg c t : FVec Ideal S4352x128 .f32) (ix2 ⟨17 * r.val + q.val, by omega⟩ j) : EReal)
      = out (m (c, Proc.devRef .tc main_arg0)) (m (c, Proc.devRef .tc main_arg1)) (m (c, Proc.devRef .tc main_arg2)) (m (c, Proc.devRef .tc main_arg3))
        (m (c, Proc.devRef .tc main_arg4)) (m (c, Proc.devRef .tc main_arg5)) (m (c, Proc.devRef .tc main_arg6)) (m (c, Proc.devRef .tc main_arg7)) (m (c, Proc.devRef .tc main_arg8))
        (m (c, Proc.devRef .tc main_arg9)) (m (c, Proc.devRef .tc main_arg10)) (m (c, Proc.devRef .tc main_arg11)) ⟨256 * t.val + r.val, by omega⟩ ⟨128 * q.val + j.val, by omega⟩ := by
  obtain rfl : c = 0 := Subsingleton.elim _ _
  have hA : (m (0, Proc.devRef .tc main_arg0) : S216.Idx → BitVec 32) = TA m := rfl
  have hB : (m (0, Proc.devRef .tc main_arg1) : S216.Idx → BitVec 32) = TB m := rfl
  have hN : (m (0, Proc.devRef .tc main_arg2) : S216.Idx → BitVec 32) = TN m := rfl
  have hS : (m (0, Proc.devRef .tc main_arg3) : S55296.Idx → BitVec 32) = TS m := rfl
  have ht : (⟨(256 * t.val + r.val) / 256, by omega⟩ : Fin 216) = t := Fin.ext (by show (256 * t.val + r.val) / 256 = t.val; omega)
  have hw : ∀ T : S216.Idx → BitVec 32, tword T t.val = T (ix1 t) := by
    intro T
    unfold tword
    congr 1
    funext a
    apply Fin.ext
    match a with
    | ⟨0, _⟩ => exact Nat.mod_eq_of_lt t.isLt
  unfold outAt outB out
  dsimp only
  rw [ht, hA, hB, hN, hS]
  have hp : pos (TN m) t.val ↔ 0 < (TN m (ix1 t)).toInt := by unfold pos; rw [hw]
  by_cases h : 0 < (TN m (ix1 t)).toInt
  · rw [if_pos h, if_pos (hp.mpr h)]
    refine (blk_at _ r q j).trans ?_
    have wA := (hw (TA m)).trans (num_word _ (hg.ea (ix1 t)))
    have wB := (hw (TB m)).trans (num_word _ (hg.eb (ix1 t)))
    unfold outY
    rw [wA, wB]
    exact tile_at _ _ _ _ _ _ _ _ _ _ _ _ _ _ _ _ r _ _ (fun k => row_at m 0 (TS m) t r hg.src k)
      (fun k i => (iblk0 m hg 0 t k _).trans ((v6_at m 0 k).1 i)) (fun k e => (iblk0 m hg 0 t k _).trans ((v6_at m 0 k).2 e))
      (fun i => (iblk1 m hg 0 t _).trans ((v10_at m 0).1 i)) (fun e => (iblk1 m hg 0 t _).trans ((v10_at m 0).2 e))
      (fun k f => (iblk2 m hg 0 t _ wA k _).trans (v1_at m 0 _ k f).1) (fun k f => (iblk2 m hg 0 t _ wA k _).trans (v1_at m 0 _ k f).2)
      (fun f d => (iblk3 m hg 0 t _ wA f d).trans (v2_at m 0 _))
      (fun k f => (iblk4 m hg 0 t _ wB k _).trans (v1_at m 0 _ k f).1) (fun k f => (iblk4 m hg 0 t _ wB k _).trans (v1_at m 0 _ k f).2)
      (fun f d => (iblk5 m hg 0 t _ wB f d).trans (v2_at m 0 _))
  · rw [if_neg h, if_neg (fun h' => h (hp.mp h'))]
    exact zero_at _

end Cert.KernelIdeal.Hand
-- ==== Proof.Out.lean ====
/-
  Hand-written, untrusted. The kernel's whole result at an index, and the two programs' results compared.
-/
module

public import proofs.«01_k».proof.Proof.Block

@[expose] public section

noncomputable section

namespace Cert.KernelIdeal.Hand

open Cert.KernelIdeal Cert.KernelIdeal.Gen Idealize.ShloMosaic Idealize.ShloMosaic.TcCoe Idealize.ShloMosaic.StableHlo Cert.Spec

variable (m : (ℓ : Loc nD τ sig) → Buf (Elt Ideal) ℓ) (hg : Good m) (c : Dev nD)

/-- The output array: every grid point's block in its place. -/
def gath : FVec Ideal S940032x128 .f32 := fun i =>
  (outAt m hg c (⟨(i 0).val / 4352, by have h : (i 0).val < 940032 := (i 0).isLt; show _ < 216; omega⟩ : Fin grid0.N) : FVec Ideal S4352x128 .f32)
    (ix2 ⟨(i 0).val % 4352, Nat.mod_lt _ (by decide)⟩ (i 1))

theorem index6 : ∀ t : Fin grid0.N, cc0_transform_7 (grid0.coords t) = ![t.val, 0] := by decide +kernel

theorem flush6 (t : Fin grid0.N) : (win0 (adm m hg) 6).flush t = true := by
  have h : ∀ t : Fin grid0.N, (t.val + 1 = grid0.N || decide (∃ h : t.val + 1 < grid0.N, cc0_transform_7 (grid0.coords ⟨t.val + 1, h⟩) ≠ cc0_transform_7 (grid0.coords t))) = true := by
    intro t
    have ht := t.isLt
    by_cases e : t.val + 1 = grid0.N
    · simp [e]
    · have e' : t.val + 1 < grid0.N := by omega
      rw [Bool.or_eq_true]
      right
      apply decide_eq_true
      refine ⟨e', fun hh => ?_⟩
      rw [index6, index6] at hh
      have := congrFun hh 0
      change t.val + 1 = t.val at this
      omega
  exact h t

theorem emb6 (t : Fin grid0.N) (y : S4352x128.Idx) (a : Fin 2) :
    ((((win0 (adm m hg) 6).blk t).view.emb y : S940032x128.Idx) a).val = (![4352 * t.val, 0] : Fin 2 → ℕ) a + (y a).val := by
  have e := index6 t
  fin_cases a
  · show cc0_transform_7 (grid0.coords t) 0 * 4352 + 1 * (y 0).val = 4352 * t.val + (y 0).val
    rw [e]; show t.val * 4352 + 1 * (y 0).val = _; omega
  · show cc0_transform_7 (grid0.coords t) 1 * 128 + 1 * (y 1).val = 0 + (y 1).val
    rw [e]; show 0 * 128 + 1 * (y 1).val = _; omega

theorem arr6 : (dats m hg 0 c).arrAt (6 : Fin 7) grid0.N = gath m hg c := by
  refine Pipeline.Dat.arrAt_eq_of_emb (dats m hg 0 c) (6 : Fin 7) (gath m hg c) (fun t _ y => ?_) (fun i => ?_)
  · show (outAt m hg c t : FVec Ideal S4352x128 .f32) y = gath m hg c (((win0 (adm m hg) 6).blk t).view.emb y)
    have y0 : ((y : S4352x128.Idx) 0).val < 4352 := ((y : S4352x128.Idx) 0).isLt
    have e0 := emb6 m hg t y 0
    have e1 := emb6 m hg t y 1
    change _ = 4352 * t.val + ((y : S4352x128.Idx) 0).val at e0
    change _ = 0 + ((y : S4352x128.Idx) 1).val at e1
    generalize (((win0 (adm m hg) 6).blk t).view.emb y : S940032x128.Idx) = z at e0 e1 ⊢
    unfold gath
    have et : (⟨(z 0).val / 4352, by have h : (z 0).val < 940032 := (z 0).isLt; show _ < 216; omega⟩ : Fin grid0.N) = t := Fin.ext (by show (z 0).val / 4352 = t.val; omega)
    rw [et]
    refine congrArg _ ?_
    funext a
    apply Fin.ext
    fin_cases a
    · show _ = (z 0).val % 4352
      rw [e0]
      show ((y : S4352x128.Idx) 0).val = _
      omega
    · show _ = (z 1).val
      rw [e1]
      show ((y : S4352x128.Idx) 1).val = _
      omega
  · have i0 : ((i : S940032x128.Idx) 0).val < 940032 := ((i : S940032x128.Idx) 0).isLt
    have hN : ((i : S940032x128.Idx) 0).val / 4352 < grid0.N := by show _ < 216; omega
    refine ⟨⟨((i : S940032x128.Idx) 0).val / 4352, hN⟩, flush6 m hg _, ?_⟩
    have e : (i : S940032x128.Idx) = ((win0 (adm m hg) 6).blk ⟨((i : S940032x128.Idx) 0).val / 4352, hN⟩).view.emb (ix2 ⟨((i : S940032x128.Idx) 0).val % 4352, Nat.mod_lt _ (by decide)⟩ (i 1) : S4352x128.Idx) := by
      funext a
      apply Fin.ext
      refine Eq.trans ?_ (emb6 m hg _ _ a).symm
      fin_cases a
      · show ((i : S940032x128.Idx) 0).val = 4352 * (((i : S940032x128.Idx) 0).val / 4352) + ((i : S940032x128.Idx) 0).val % 4352
        omega
      · show ((i : S940032x128.Idx) 1).val = 0 + ((i : S940032x128.Idx) 1).val
        omega
    exact Eq.mpr (congrArg (fun z => z ∈ ((win0 (adm m hg) 6).blk ⟨((i : S940032x128.Idx) 0).val / 4352, hN⟩).view.set) e) (View.emb_mem_set _ _)

theorem tail_v18 (W : Valuation τ sig (Elt Ideal)) : (after hostOps1 W (Proc.devRef .tc main_v18) : FVec Ideal S55296x2048 .f32)
    = shapeCast S55296x2048 (extractStridedSlice S55296x16x128 ![0, 0, 0] (shapeCast S55296x17x128 (W (Proc.devRef .tc main_v15) : FVec Ideal S940032x128 .f32) shapeCasts_S940032x128_S55296x17x128) slices_S55296x17x128_S55296x16x128_0_0_0) shapeCasts_S55296x16x128_S55296x2048 := by
  rfl

/-- The kernel's result. -/
theorem kernel_out (s : Fin 55296) (d : Fin 2048) :
    ((Vend m hg c main_v18 : FVec Ideal S55296x2048 .f32) (ix2 s d) : EReal)
      = out (m (c, Proc.devRef .tc main_arg0)) (m (c, Proc.devRef .tc main_arg1)) (m (c, Proc.devRef .tc main_arg2)) (m (c, Proc.devRef .tc main_arg3))
        (m (c, Proc.devRef .tc main_arg4)) (m (c, Proc.devRef .tc main_arg5)) (m (c, Proc.devRef .tc main_arg6)) (m (c, Proc.devRef .tc main_arg7)) (m (c, Proc.devRef .tc main_arg8))
        (m (c, Proc.devRef .tc main_arg9)) (m (c, Proc.devRef .tc main_arg10)) (m (c, Proc.devRef .tc main_arg11)) s d := by
  have key : ∀ x : FVec Ideal S940032x128 .f32, shapeCast S55296x2048 (extractStridedSlice S55296x16x128 ![0, 0, 0] (shapeCast S55296x17x128 x shapeCasts_S940032x128_S55296x17x128) slices_S55296x17x128_S55296x16x128_0_0_0) shapeCasts_S55296x16x128_S55296x2048 (ix2 s d)
      = x (ix2 ⟨17 * s.val + d.val / 128, by omega⟩ ⟨d.val % 128, by omega⟩) := by
    intro x
    pointwise
    exact congrArg (fun a => x (ix2 a ⟨d.val % 128, by omega⟩)) (Fin.ext (by show s.val * 17 + d.val / 128 = 17 * s.val + d.val / 128; omega))
  have hv : (Pipeline.withArrays (Pipeline.pin (pcfgs (F := Ideal)) (fun _ => adm m hg) 0).spec c (V0 m c) fun w => (dats m hg 0 c).arrAt w (Pipeline.pin (pcfgs (F := Ideal)) (fun _ => adm m hg) 0).N) (Proc.devRef .tc main_v15)
      = gath m hg c :=
    (Pipeline.Dat.withArrays_arrAt (dats m hg 0 c) sharedIn0 (V0 m c) (fun _ => rfl) (6 : Fin 7)).trans (arr6 m hg c)
  refine (congrFun (tail_v18 _) _).trans ((key _).trans ((congrFun hv _).trans ?_))
  have hq : d.val / 128 < 16 := by omega
  have e := outAt_at m hg c ⟨s.val / 256, by omega⟩ ⟨s.val % 256, by omega⟩ ⟨d.val / 128, hq⟩ ⟨d.val % 128, by omega⟩
  have es : (⟨256 * (s.val / 256) + s.val % 256, by omega⟩ : Fin 55296) = s := Fin.ext (Nat.div_add_mod _ _)
  have ed : (⟨128 * (d.val / 128) + d.val % 128, by omega⟩ : Fin 2048) = d := Fin.ext (Nat.div_add_mod _ _)
  refine Eq.trans ?_ (e.trans ?_)
  · unfold gath
    have et : ∀ p, (⟨(17 * s.val + d.val / 128) / 4352, p⟩ : Fin grid0.N) = (⟨s.val / 256, by omega⟩ : Fin 216) := fun p => Fin.ext (by show (17 * s.val + d.val / 128) / 4352 = s.val / 256; omega)
    have er : ∀ p, (⟨(17 * s.val + d.val / 128) % 4352, p⟩ : Fin 4352) = ⟨17 * (s.val % 256) + d.val / 128, by omega⟩ := fun p => Fin.ext (by show (17 * s.val + d.val / 128) % 4352 = 17 * (s.val % 256) + d.val / 128; omega)
    exact congrArg₂ (fun (a : Fin grid0.N) (b : Fin 4352) => (outAt m hg c a : FVec Ideal S4352x128 .f32) (ix2 b ⟨d.val % 128, by omega⟩)) (et _) (er _)
  · show out _ _ _ _ _ _ _ _ _ _ _ _ (⟨256 * (s.val / 256) + s.val % 256, _⟩ : Fin 55296) (⟨128 * (d.val / 128) + d.val % 128, _⟩ : Fin 2048) = _
    rw [es, ed]

end Cert.KernelIdeal.Hand
end
-- ==== Proof.RefValue.lean ====
/-
  Hand-written, untrusted. The reference's result, index by index.
-/
module

public import proofs.«01_k».proof.Proof.Spec
public import proofs.«01_k».proof.Proof.Gen.ReferenceIdeal.Run
public import Idealize.ShloMosaic.Lib.Pointwise

@[expose] public section

noncomputable section

namespace Cert.ReferenceIdeal.Hand

open Cert.ReferenceIdeal Cert.ReferenceIdeal.Gen Cert.ReferenceIdeal.Value Idealize.ShloMosaic Idealize.ShloMosaic.TcCoe Idealize.ShloMosaic.StableHlo
open Cert.Spec

variable (V : Valuation τ sig (Elt Ideal))

/-- A table of tiles read at a slot. -/
theorem rep_at (T : IVec S216 32) (s : Fin 55296) :
    (shapeCast S55296 (broadcastInDim S216x256 ![0] bcast_S216_S216x256_0 T) shapeCasts_S216x256_S55296) (ix1 s) = T (ix1 ⟨s.val / 256, by omega⟩) := by
  pointwise

theorem soft4_at (x : FVec Ideal S55296x4 .f32) (s : Fin 55296) (i : Fin 4) :
    Host.exp (subf x (broadcastInDim S55296x4 ![0, 1] bcast_S55296x1_S55296x4_0_1 (broadcastInDim S55296x1 ![0] bcast_S55296_S55296x1_0 (maximumf (broadcastInDim S55296 ![] bcast_S_S55296 (constant S_ .f32 0xFF800000#32)) (Host.reduce FloatOps.maximumf x (constant S_ .f32 0xFF800000#32) reducesTo_S55296x4_S55296_d1 h_S_))))) (ix2 s i)
      = Ideal.exp (x (ix2 s i) - top fun j => x (ix2 s j)) := by
  pointwise [neg_inf]
  unfold top
  rw [max_eq_right bot_le]
theorem div4_at (x : FVec Ideal S55296x4 .f32) (s : Fin 55296) (i : Fin 4) :
    Host.divf x (broadcastInDim S55296x4 ![0, 1] bcast_S55296x1_S55296x4_0_1 (broadcastInDim S55296x1 ![0] bcast_S55296_S55296x1_0 (Host.reduceAdd x (constant S_ .f32 0x00000000#32) reducesTo_S55296x4_S55296_d1 h_S_))) (ix2 s i)
      = Ideal.div (x (ix2 s i)) (∑ j, x (ix2 s j)) := by
  pointwise
theorem soft44_at (x : FVec Ideal S55296x4x4 .f32) (s : Fin 55296) (g i : Fin 4) :
    Host.exp (subf x (broadcastInDim S55296x4x4 ![0, 1, 2] bcast_S55296x4x1_S55296x4x4_0_1_2 (broadcastInDim S55296x4x1 ![0, 1] bcast_S55296x4_S55296x4x1_0_1 (maximumf (broadcastInDim S55296x4 ![] bcast_S_S55296x4 (constant S_ .f32 0xFF800000#32)) (Host.reduce FloatOps.maximumf x (constant S_ .f32 0xFF800000#32) reducesTo_S55296x4x4_S55296x4_d2 h_S_))))) (ix3 s g i)
      = Ideal.exp (x (ix3 s g i) - top fun j => x (ix3 s g j)) := by
  pointwise [neg_inf]
  unfold top
  rw [max_eq_right bot_le]
theorem div44_at (x : FVec Ideal S55296x4x4 .f32) (s : Fin 55296) (e : Fin 16) :
    shapeCast S55296x16 (Host.divf x (broadcastInDim S55296x4x4 ![0, 1, 2] bcast_S55296x4x1_S55296x4x4_0_1_2 (broadcastInDim S55296x4x1 ![0, 1] bcast_S55296x4_S55296x4x1_0_1 (Host.reduceAdd x (constant S_ .f32 0x00000000#32) reducesTo_S55296x4x4_S55296x4_d2 h_S_)))) shapeCasts_S55296x4x4_S55296x16 (ix2 s e)
      = Ideal.div (x (ix3 s (grp e) (plc e))) (∑ j, x (ix3 s (grp e) j)) := by
  pointwise
  rfl

theorem v15_at (x : Fin 55296 → Fin 2048 → EReal) (hx : ∀ s k, res_main_v6 V (ix2 s k) = x s k) (s : Fin 55296) (i : Fin 4) :
    res_main_v15 V (ix2 s i) = lg (x s) (V (Proc.devRef .tc main_arg5)) (V (Proc.devRef .tc main_arg6)) i := by
  have key : ∀ (y : FVec Ideal S55296x2048 .f32) (w : FVec Ideal S2x2048x4 .f32) (b : FVec Ideal S2x4 .f32),
    addf (Host.dotGeneral dot_S55296x2048_S2048x4_S55296x4_1_0_0_1_n_n none y (shapeCast S2048x4 (extractStridedSlice S1x2048x4 ![0, 0, 0] w slices_S2x2048x4_S1x2048x4_0_0_0) shapeCasts_S1x2048x4_S2048x4)) (broadcastInDim S55296x4 ![0, 1] bcast_S1x4_S55296x4_0_1 (broadcastInDim S1x4 ![1] bcast_S4_S1x4_1 (shapeCast S4 (extractStridedSlice S1x4 ![0, 0] b slices_S2x4_S1x4_0_0) shapeCasts_S1x4_S4))) (ix2 s i)
      = (∑ k, y (ix2 s k) * w (ix3 0 k i)) + b (ix2 0 i) := by
    intro y w b
    pointwise [dot_S55296x2048_S2048x4_S55296x4_1_0_0_1_n_n]
  refine (key _ _ _).trans ?_
  unfold lg
  simp only [hx]
theorem v37_at (x : Fin 55296 → Fin 2048 → EReal) (hx : ∀ s k, res_main_v6 V (ix2 s k) = x s k) (s : Fin 55296) (g i : Fin 4) :
    res_main_v37 V (ix3 s g i) = le (x s) (V (Proc.devRef .tc main_arg7)) (V (Proc.devRef .tc main_arg8)) (exq g i) := by
  have key : ∀ (y : FVec Ideal S55296x2048 .f32) (w : FVec Ideal S2x2048x16 .f32) (b : FVec Ideal S2x16 .f32),
    shapeCast S55296x4x4 (addf (Host.dotGeneral dot_S55296x2048_S2048x16_S55296x16_1_0_0_1_n_n none y (shapeCast S2048x16 (extractStridedSlice S1x2048x16 ![0, 0, 0] w slices_S2x2048x16_S1x2048x16_0_0_0) shapeCasts_S1x2048x16_S2048x16)) (broadcastInDim S55296x16 ![0, 1] bcast_S1x16_S55296x16_0_1 (broadcastInDim S1x16 ![1] bcast_S16_S1x16_1 (shapeCast S16 (extractStridedSlice S1x16 ![0, 0] b slices_S2x16_S1x16_0_0) shapeCasts_S1x16_S16)))) shapeCasts_S55296x16_S55296x4x4 (ix3 s g i)
      = (∑ k, y (ix2 s k) * w (ix3 0 k (exq g i))) + b (ix2 0 (exq g i)) := by
    intro y w b
    pointwise [dot_S55296x2048_S2048x16_S55296x16_1_0_0_1_n_n]
    rfl
  refine (key _ _ _).trans ?_
  unfold le
  simp only [hx]
theorem v66_at (x : Fin 55296 → Fin 2048 → EReal) (hx : ∀ s k, res_main_v6 V (ix2 s k) = x s k) (s : Fin 55296) (e : Fin 16) (f : Fin 512) :
    res_main_v66 V (ix3 s e f) = thru (x s) (V (Proc.devRef .tc main_arg9)) e f := by
  have key : ∀ (y : FVec Ideal S55296x2048 .f32) (w : FVec Ideal S2x16x2048x512 .f32),
    Host.dotGeneral dot_S55296x2048_S16x2048x512_S55296x16x512_1_1_0_02_n_n none y (shapeCast S16x2048x512 (extractStridedSlice S1x16x2048x512 ![0, 0, 0, 0] w slices_S2x16x2048x512_S1x16x2048x512_0_0_0_0) shapeCasts_S1x16x2048x512_S16x2048x512) (ix3 s e f)
      = ∑ k, y (ix2 s k) * w (ix4 0 e k f) := by
    intro y w
    pointwise [dot_S55296x2048_S16x2048x512_S55296x16x512_1_1_0_02_n_n]
  refine (key _ _).trans ?_
  unfold thru
  simp only [hx]
theorem v74_at (x : Fin 55296 → Fin 2048 → EReal) (hx : ∀ s k, res_main_v6 V (ix2 s k) = x s k) (s : Fin 55296) (e : Fin 16) (d : Fin 2048) :
    res_main_v74 V (ix3 e s d) = ffn (x s) (V (Proc.devRef .tc main_arg9)) (V (Proc.devRef .tc main_arg10)) (V (Proc.devRef .tc main_arg11)) e d := by
  have key : ∀ (y : FVec Ideal S55296x2048 .f32) (gt : FVec Ideal S55296x16x512 .f32) (w : FVec Ideal S2x16x2048x512 .f32) (v : FVec Ideal S2x16x512x2048 .f32),
    Host.dotGeneral dot_S55296x16x512_S16x512x2048_S16x55296x2048_2_1_0_2_1_0 none (mulf (mulf gt (Host.divf (broadcastInDim S55296x16x512 ![] bcast_S_S55296x16x512 (constant S_ .f32 0x3F800000#32)) (addf (broadcastInDim S55296x16x512 ![] bcast_S_S55296x16x512 (constant S_ .f32 0x3F800000#32)) (Host.exp (Host.negf gt))))) (Host.dotGeneral dot_S55296x2048_S16x2048x512_S55296x16x512_1_1_0_02_n_n none y (shapeCast S16x2048x512 (extractStridedSlice S1x16x2048x512 ![0, 0, 0, 0] w slices_S2x16x2048x512_S1x16x2048x512_0_0_0_0) shapeCasts_S1x16x2048x512_S16x2048x512))) (shapeCast S16x512x2048 (extractStridedSlice S1x16x512x2048 ![0, 0, 0, 0] v slices_S2x16x512x2048_S1x16x512x2048_0_0_0_0) shapeCasts_S1x16x512x2048_S16x512x2048) (ix3 e s d)
      = ∑ f, (gt (ix3 s e f) * Ideal.div 1 (1 + Ideal.exp (-gt (ix3 s e f))) * ∑ k, y (ix2 s k) * w (ix4 0 e k f)) * v (ix4 0 e f d) := by
    intro y gt w v
    pointwise [dot_S55296x2048_S16x2048x512_S55296x16x512_1_1_0_02_n_n, dot_S55296x16x512_S16x512x2048_S16x55296x2048_2_1_0_2_1_0]
  refine (key _ _ _ _).trans ?_
  unfold ffn hid
  simp only [v66_at V x hx, hx]
  rfl

end Cert.ReferenceIdeal.Hand
-- ==== Proof.RefPick.lean ====
/-
  Hand-written, untrusted. The reference's picks read at an index, and the whole result.
-/
module

public import proofs.«01_k».proof.Proof.RefValue

@[expose] public section

noncomputable section

namespace Cert.ReferenceIdeal.Hand

open Cert.ReferenceIdeal Cert.ReferenceIdeal.Gen Cert.ReferenceIdeal.Value Idealize.ShloMosaic Idealize.ShloMosaic.TcCoe Idealize.ShloMosaic.StableHlo
open Cert.Spec

variable (V : Valuation τ sig (Elt Ideal))

section
variable {α : Type}

/-- The rows of a matrix that a list of numbers names. -/
theorem rows_at (x : S49152x2048.Idx → α) (idx : IVec S55296x1 32) (s : Fin 55296) (k : Fin 2048) (h : (idx (ix2 s 0)).toInt.toNat < 49152) :
    Host.gather gather_S49152x2048_S55296x1_S55296x2048_1_0_n_n_0_1_12048 x idx (ix2 s k) = x (ix2 ⟨(idx (ix2 s 0)).toInt.toNat, h⟩ k) := by
  unfold Host.gather
  congr 1
  funext a
  refine Fin.ext ?_
  show GatherDims.start _ _ _ a + GatherDims.batchCoord _ _ a + GatherDims.offCoord _ _ a = _
  rw [GatherDims.batchCoord_eq_zero _ _ _ List.not_mem_nil, Nat.add_zero]
  fin_cases a
  ·
    rw [GatherDims.offCoord_eq_zero _ _ _ (by decide), Nat.add_zero]
    unfold GatherDims.start
    rw [dif_pos (by decide)]
    have e : GatherDims.siIdx gather_S49152x2048_S55296x1_S55296x2048_1_0_n_n_0_1_12048 (ix2 s k) ⟨0, by decide⟩ = ix2 s 0 := by
      funext b
      match b with
      | ⟨0, _⟩ => rfl
      | ⟨1, _⟩ => rfl
    refine (congrArg (fun i => min (idx i).toInt.toNat (49152 - 1)) e).trans ?_
    exact Nat.min_eq_left (by omega)
  ·
    have e : GatherDims.start gather_S49152x2048_S55296x1_S55296x2048_1_0_n_n_0_1_12048 (ix2 s k) idx ⟨1, by decide⟩ = 0 := by
      unfold GatherDims.start
      rw [dif_neg (by decide)]
    refine (congrArg (· + _) e).trans ?_
    rw [Nat.zero_add]
    rfl

theorem pick4_at (x : S55296x4.Idx → α) (idx : IVec S55296x1x1 32) (s : Fin 55296) (h : (idx (ix3 s 0 0)).toInt.toNat < 4) :
    Host.gather gather_S55296x4_S55296x1x1_S55296x1_n_1_0_0_1_2_11 x idx (ix2 s 0) = x (ix2 s ⟨(idx (ix3 s 0 0)).toInt.toNat, h⟩) := by
  unfold Host.gather
  congr 1
  funext a
  refine Fin.ext ?_
  show GatherDims.start _ _ _ a + GatherDims.batchCoord _ _ a + GatherDims.offCoord _ _ a = _
  fin_cases a
  ·
    rw [GatherDims.offCoord_eq_zero _ _ _ (by decide), Nat.add_zero, GatherDims.start_batching _ _ _ _ (by decide), Nat.zero_add]
    rfl
  ·
    rw [GatherDims.offCoord_eq_zero _ _ _ (by decide), Nat.add_zero, GatherDims.batchCoord_eq_zero _ _ _ (by decide), Nat.add_zero]
    unfold GatherDims.start
    rw [dif_pos (by decide)]
    have e : GatherDims.siIdx gather_S55296x4_S55296x1x1_S55296x1_n_1_0_0_1_2_11 (ix2 s 0) ⟨0, by decide⟩ = ix3 s 0 0 := by
      funext b
      match b with
      | ⟨0, _⟩ => rfl
      | ⟨1, _⟩ => rfl
      | ⟨2, _⟩ => rfl
    refine (congrArg (fun i => min (idx i).toInt.toNat (4 - 1)) e).trans ?_
    exact Nat.min_eq_left (by omega)

theorem pick16_at (x : S55296x16.Idx → α) (idx : IVec S55296x1x1 32) (s : Fin 55296) (h : (idx (ix3 s 0 0)).toInt.toNat < 16) :
    Host.gather gather_S55296x16_S55296x1x1_S55296x1_n_1_0_0_1_2_11 x idx (ix2 s 0) = x (ix2 s ⟨(idx (ix3 s 0 0)).toInt.toNat, h⟩) := by
  unfold Host.gather
  congr 1
  funext a
  refine Fin.ext ?_
  show GatherDims.start _ _ _ a + GatherDims.batchCoord _ _ a + GatherDims.offCoord _ _ a = _
  fin_cases a
  ·
    rw [GatherDims.offCoord_eq_zero _ _ _ (by decide), Nat.add_zero, GatherDims.start_batching _ _ _ _ (by decide), Nat.zero_add]
    rfl
  ·
    rw [GatherDims.offCoord_eq_zero _ _ _ (by decide), Nat.add_zero, GatherDims.batchCoord_eq_zero _ _ _ (by decide), Nat.add_zero]
    unfold GatherDims.start
    rw [dif_pos (by decide)]
    have e : GatherDims.siIdx gather_S55296x16_S55296x1x1_S55296x1_n_1_0_0_1_2_11 (ix2 s 0) ⟨0, by decide⟩ = ix3 s 0 0 := by
      funext b
      match b with
      | ⟨0, _⟩ => rfl
      | ⟨1, _⟩ => rfl
      | ⟨2, _⟩ => rfl
    refine (congrArg (fun i => min (idx i).toInt.toNat (16 - 1)) e).trans ?_
    exact Nat.min_eq_left (by omega)
end

/-- The words that name an expert. -/
theorem small (w : BitVec 32) (h : w.toNat < 16) : ∃ n : Fin 16, w = BitVec.ofNat 32 n.val :=
  ⟨⟨w.toNat, h⟩, (BitVec.ofNat_toNat _ w ▸ (BitVec.setWidth_eq w).symm : w = BitVec.ofNat 32 w.toNat)⟩

theorem sel_pos {α : Type} (w : BitVec 32) (x y : α) : Scalar.select (IntOp.cmpi .sgt w 0#32) x y = if 0 < w.toInt then x else y := by
  show (if BitVec.ofBool ((0#32).slt w) = 1#1 then x else y) = _
  have e : (0#32).slt w = decide (0 < w.toInt) := rfl
  rw [e]
  by_cases h : 0 < w.toInt
  · rw [decide_eq_true h, if_pos h]; rfl
  · rw [decide_eq_false h, if_neg h]; rfl
theorem sel_eq {α : Type} (w : BitVec 32) (h : w.toNat < 16) (l : Fin 16) (x y : α) :
    Scalar.select (IntOp.cmpi .eq w (BitVec.ofNat 32 l.val)) x y = if l = num 16 w then x else y := by
  obtain ⟨n, rfl⟩ := small w h
  have e : ∀ n l : Fin 16, IntOp.cmpi .eq (BitVec.ofNat 32 n.val) (BitVec.ofNat 32 l.val) = if l = num 16 (BitVec.ofNat 32 n.val) then 1#1 else 0#1 := by
    clear h n l; decide
  rw [e]
  split <;> rfl

/-- The floored quotient of a number below 16. -/
theorem quo_at (v : IVec S55296 32) (s : Fin 55296) (h : (v (ix1 s)).toNat < 16) :
    select (andi (cmpi .ne (signi v) (broadcastInDim S55296 ![] bcast_S_S55296 (signi (id (constantI S_ 32 4#32))))) (cmpi .ne (Host.remsi v (broadcastInDim S55296 ![] bcast_S_S55296 (id (constantI S_ 32 4#32)))) (broadcastInDim S55296 ![] bcast_S_S55296 (constantI S_ 32 0#32)))) (subi (Host.divsi v (broadcastInDim S55296 ![] bcast_S_S55296 (id (constantI S_ 32 4#32)))) (broadcastInDim S55296 ![] bcast_S_S55296 (constantI S_ 32 1#32))) (Host.divsi v (broadcastInDim S55296 ![] bcast_S_S55296 (id (constantI S_ 32 4#32)))) (ix1 s)
      = BitVec.ofNat 32 ((v (ix1 s)).toNat / 4) := by
  pointwise [id]
  generalize v (ix1 s) = w at h ⊢
  obtain ⟨n, rfl⟩ := small w h
  clear h
  revert n
  decide

/-- The place of an expert in its group, and the number of that expert in the group of the first. -/
theorem rem_at (q v : IVec S55296 32) (s : Fin 55296) (h : (v (ix1 s)).toNat < 16) :
    (addi (muli q (broadcastInDim S55296 ![] bcast_S_S55296 (constantI S_ 32 4#32))) (select (andi (cmpi .ne (cmpi .slt (Host.remsi v (broadcastInDim S55296 ![] bcast_S_S55296 (select (cmpi .eq (id (constantI S_ 32 4#32)) (constantI S_ 32 0#32)) (constantI S_ 32 1#32) (id (constantI S_ 32 4#32))))) (broadcastInDim S55296 ![] bcast_S_S55296 (constantI S_ 32 0#32))) (broadcastInDim S55296 ![] bcast_S_S55296 (cmpi .slt (select (cmpi .eq (id (constantI S_ 32 4#32)) (constantI S_ 32 0#32)) (constantI S_ 32 1#32) (id (constantI S_ 32 4#32))) (constantI S_ 32 0#32)))) (cmpi .ne (Host.remsi v (broadcastInDim S55296 ![] bcast_S_S55296 (select (cmpi .eq (id (constantI S_ 32 4#32)) (constantI S_ 32 0#32)) (constantI S_ 32 1#32) (id (constantI S_ 32 4#32))))) (broadcastInDim S55296 ![] bcast_S_S55296 (constantI S_ 32 0#32)))) (addi (Host.remsi v (broadcastInDim S55296 ![] bcast_S_S55296 (select (cmpi .eq (id (constantI S_ 32 4#32)) (constantI S_ 32 0#32)) (constantI S_ 32 1#32) (id (constantI S_ 32 4#32))))) (broadcastInDim S55296 ![] bcast_S_S55296 (select (cmpi .eq (id (constantI S_ 32 4#32)) (constantI S_ 32 0#32)) (constantI S_ 32 1#32) (id (constantI S_ 32 4#32))))) (Host.remsi v (broadcastInDim S55296 ![] bcast_S_S55296 (select (cmpi .eq (id (constantI S_ 32 4#32)) (constantI S_ 32 0#32)) (constantI S_ 32 1#32) (id (constantI S_ 32 4#32))))))) (ix1 s)
      = q (ix1 s) * 4#32 + BitVec.ofNat 32 ((v (ix1 s)).toNat % 4) := by
  pointwise [id]
  generalize v (ix1 s) = w at h ⊢
  obtain ⟨n, rfl⟩ := small w h
  clear h
  refine congrArg (IntOp.addi (IntOp.muli (q (ix1 s)) 4#32)) ?_
  revert n
  decide

/-- A non-negative number is not wrapped. -/
theorem wrap_at (n : BitVec 32) (v : IVec S55296x1 32) (s : Fin 55296) (h : (v (ix2 s 0)).toNat < 16) :
    (shapeCast S55296x1x1 (select (cmpi .slt v (broadcastInDim S55296x1 ![] bcast_S_S55296x1 (constantI S_ 32 0#32))) (addi v (broadcastInDim S55296x1 ![] bcast_S_S55296x1 (constantI S_ 32 n))) v) shapeCasts_S55296x1_S55296x1x1) (ix3 s 0 0)
      = v (ix2 s 0) := by
  pointwise
  generalize v (ix2 s 0) = w at h ⊢
  obtain ⟨m, rfl⟩ := small w h
  have e : IntOp.cmpi CmpIPredicate.slt (BitVec.ofNat 32 m.val) 0#32 = 0#1 := by
    clear h
    revert m
    decide
  rw [e]
  rfl

theorem last_at (n : IVec S55296 32) (a b : IVec S55296 32) (wa wb : FVec Ideal S55296x1 .f32) (F : FVec Ideal S16x55296x2048 .f32) (s : Fin 55296) (d : Fin 2048) (ha : (a (ix1 s)).toNat < 16) (hb : (b (ix1 s)).toNat < 16) :
    select (broadcastInDim S55296x2048 ![0, 1] bcast_S55296x1_S55296x2048_0_1 (cmpi .sgt (broadcastInDim S55296x1 ![0] bcast_S55296_S55296x1_0 n) (broadcastInDim S55296x1 ![] bcast_S_S55296x1 (constantI S_ 32 0#32)))) (Host.reduceAdd (addf (mulf (broadcastInDim S16x55296x2048 ![0, 1, 2] bcast_S16x55296x1_S16x55296x2048_0_1_2 (select (cmpi .eq (broadcastInDim S16x55296x1 ![0, 1, 2] bcast_S1x55296x1_S16x55296x1_0_1_2 (broadcastInDim S1x55296x1 ![1, 2] bcast_S55296x1_S1x55296x1_1_2 (broadcastInDim S55296x1 ![0] bcast_S55296_S55296x1_0 a))) (broadcastInDim S16x55296x1 ![0, 1, 2] bcast_S16x1x1_S16x55296x1_0_1_2 (broadcastInDim S16x1x1 ![0] bcast_S16_S16x1x1_0 (iotaInDim S16 32 0)))) (broadcastInDim S16x55296x1 ![1, 2] bcast_S55296x1_S16x55296x1_1_2 wa) (broadcastInDim S16x55296x1 ![] bcast_S_S16x55296x1 (id (constant S_ .f32 0x00000000#32))))) F) (mulf (broadcastInDim S16x55296x2048 ![0, 1, 2] bcast_S16x55296x1_S16x55296x2048_0_1_2 (select (cmpi .eq (broadcastInDim S16x55296x1 ![0, 1, 2] bcast_S1x55296x1_S16x55296x1_0_1_2 (broadcastInDim S1x55296x1 ![1, 2] bcast_S55296x1_S1x55296x1_1_2 (broadcastInDim S55296x1 ![0] bcast_S55296_S55296x1_0 b))) (broadcastInDim S16x55296x1 ![0, 1, 2] bcast_S16x1x1_S16x55296x1_0_1_2 (broadcastInDim S16x1x1 ![0] bcast_S16_S16x1x1_0 (iotaInDim S16 32 0)))) (broadcastInDim S16x55296x1 ![1, 2] bcast_S55296x1_S16x55296x1_1_2 wb) (broadcastInDim S16x55296x1 ![] bcast_S_S16x55296x1 (id (constant S_ .f32 0x00000000#32))))) F)) (constant S_ .f32 0x00000000#32) reducesTo_S16x55296x2048_S55296x2048_d0 h_S_) (broadcastInDim S55296x2048 ![] bcast_S_S55296x2048 (id (constant S_ .f32 0x00000000#32))) (ix2 s d)
      = if 0 < (n (ix1 s)).toInt then wa (ix2 s 0) * F (ix3 (num 16 (a (ix1 s))) s d) + wb (ix2 s 0) * F (ix3 (num 16 (b (ix1 s))) s d) else 0 := by
  pointwise [id]
  rw [sel_pos]
  simp only [sel_eq _ (ha), sel_eq _ (hb)]
  rw [Finset.sum_add_distrib, sum_one, sum_one]

end Cert.ReferenceIdeal.Hand
-- ==== Proof.RefOut.lean ====
/-
  Hand-written, untrusted. The reference's result at a slot and a column.
-/
module

public import proofs.«01_k».proof.Proof.RefPick

@[expose] public section

noncomputable section

namespace Cert.ReferenceIdeal.Hand

open Cert.ReferenceIdeal Cert.ReferenceIdeal.Gen Cert.ReferenceIdeal.Value Idealize.ShloMosaic Idealize.ShloMosaic.TcCoe Idealize.ShloMosaic.StableHlo
open Cert.Spec

variable (V : Valuation τ sig (Elt Ideal))

theorem num_val (n : ℕ) [NeZero n] (w : BitVec 32) (h : w.toNat < n) : num n w = ⟨w.toNat, h⟩ := Fin.ext (Nat.mod_eq_of_lt h)
theorem toInt_val (w : BitVec 32) (h : w.toNat < 2147483648) : w.toInt.toNat = w.toNat := by
  rw [BitVec.toInt_eq_toNat_of_lt (by omega), Int.toNat_natCast]

/-- The tile of a slot. -/
abbrev til (s : Fin 55296) : Fin 216 := ⟨s.val / 256, by omega⟩
/-- The experts of a slot's tile. -/
abbrev eA (s : Fin 55296) : BitVec 32 := (V (Proc.devRef .tc main_arg0) : IVec S216 32) (ix1 (til s))
abbrev eB (s : Fin 55296) : BitVec 32 := (V (Proc.devRef .tc main_arg1) : IVec S216 32) (ix1 (til s))
/-- A slot's token. -/
abbrev tok (s : Fin 55296) (k : Fin 2048) : EReal :=
  (V (Proc.devRef .tc main_arg4) : FVec Ideal S49152x2048 .f32) (ix2 (num 49152 ((V (Proc.devRef .tc main_arg3) : IVec S55296 32) (ix1 s))) k)

theorem v6_at (hs : ∀ s, ((V (Proc.devRef .tc main_arg3) : IVec S55296 32) (ix1 s)).toNat < 49152) (s : Fin 55296) (k : Fin 2048) :
    res_main_v6 V (ix2 s k) = tok V s k := by
  have e : ∀ v : IVec S55296 32, broadcastInDim S55296x1 ![0] bcast_S55296_S55296x1_0 v (ix2 s 0) = v (ix1 s) := by
    intro v; pointwise
  have h := hs s
  have h2 := toInt_val _ (lt_trans h (by decide))
  refine (rows_at _ _ s k (by rw [e, h2]; exact h)).trans ?_
  refine congrArg (fun r => (V (Proc.devRef .tc main_arg4) : FVec Ideal S49152x2048 .f32) (ix2 r k)) ?_
  rw [num_val _ _ h]
  refine Fin.ext ?_
  show (BitVec.toInt _).toNat = _
  rw [e, h2]

theorem v1_at (s : Fin 55296) : res_main_v1 V (ix1 s) = eA V s := rep_at _ s
theorem v3_at (s : Fin 55296) : res_main_v3 V (ix1 s) = eB V s := rep_at _ s

theorem v7_at (s : Fin 55296) (h : (eA V s).toNat < 16) : res_main_v7 V (ix1 s) = BitVec.ofNat 32 ((eA V s).toNat / 4) := by
  refine (quo_at (res_main_v1 V) s ?_).trans ?_
  · rw [v1_at]; exact h
  · rw [v1_at]
theorem v27_at (s : Fin 55296) (h : (eA V s).toNat < 16) : res_main_v27 V (ix2 s 0) = BitVec.ofNat 32 ((eA V s).toNat / 4) := by
  have key : ∀ v : IVec S55296 32, broadcastInDim S55296x1 ![0] bcast_S55296_S55296x1_0 v (ix2 s 0) = v (ix1 s) := by
    intro v; pointwise
  exact (key _).trans (v7_at V s h)
theorem v50_at (s : Fin 55296) : res_main_v50 V (ix2 s 0) = eA V s := by
  have key : ∀ v : IVec S55296 32, broadcastInDim S55296x1 ![0] bcast_S55296_S55296x1_0 v (ix2 s 0) = v (ix1 s) := by
    intro v; pointwise
  exact (key _).trans (v1_at V s)
theorem v56_at (s : Fin 55296) (h : (eA V s).toNat < 16) (h' : (eB V s).toNat < 16) :
    res_main_v56 V (ix2 s 0) = BitVec.ofNat 32 ((eA V s).toNat / 4 * 4 + (eB V s).toNat % 4) := by
  have key : ∀ v : IVec S55296 32, broadcastInDim S55296x1 ![0] bcast_S55296_S55296x1_0 v (ix2 s 0) = v (ix1 s) := by
    intro v; pointwise
  refine (key _).trans ((rem_at (res_main_v7 V) (res_main_v3 V) s ?_).trans ?_)
  · rw [v3_at]; exact h'
  · rw [v3_at, v7_at V s h]
    generalize eA V s = a at h ⊢
    generalize eB V s = b at h' ⊢
    obtain ⟨n, rfl⟩ := small a h
    obtain ⟨k, rfl⟩ := small b h'
    clear h h' key
    revert n k
    decide

theorem ofNat_lt (n : ℕ) (k : ℕ) (h : n < k) (hk : k ≤ 16) : (BitVec.ofNat 32 n).toNat = n := by
  rw [BitVec.toNat_ofNat]; exact Nat.mod_eq_of_lt (by omega)

/-- A pick by a number that is not negative. -/
theorem pick4_of (x : FVec Ideal S55296x4 .f32) (v : IVec S55296x1 32) (s : Fin 55296) (r : Fin 4) (h : v (ix2 s 0) = BitVec.ofNat 32 r.val) :
    Host.gather gather_S55296x4_S55296x1x1_S55296x1_n_1_0_0_1_2_11 x (shapeCast S55296x1x1 (select (cmpi .slt v (broadcastInDim S55296x1 ![] bcast_S_S55296x1 (constantI S_ 32 0#32))) (addi v (broadcastInDim S55296x1 ![] bcast_S_S55296x1 (constantI S_ 32 4#32))) v) shapeCasts_S55296x1_S55296x1x1) (ix2 s 0) = x (ix2 s r) := by
  have hr := r.isLt
  have hw := (wrap_at 4#32 v s (by rw [h, ofNat_lt _ 4 hr (by decide)]; omega)).trans h
  generalize shapeCast S55296x1x1 _ _ = idx at hw ⊢
  have e : (idx (ix3 s 0 0)).toInt.toNat = r.val := by
    rw [hw, toInt_val _ (by rw [ofNat_lt _ 4 hr (by decide)]; omega), ofNat_lt _ 4 hr (by decide)]
  refine (pick4_at x idx s (by rw [e]; exact hr)).trans ?_
  exact congrArg (fun r => x (ix2 s r)) (Fin.ext e)
theorem pick16_of (x : FVec Ideal S55296x16 .f32) (v : IVec S55296x1 32) (s : Fin 55296) (r : Fin 16) (h : v (ix2 s 0) = BitVec.ofNat 32 r.val) :
    Host.gather gather_S55296x16_S55296x1x1_S55296x1_n_1_0_0_1_2_11 x (shapeCast S55296x1x1 (select (cmpi .slt v (broadcastInDim S55296x1 ![] bcast_S_S55296x1 (constantI S_ 32 0#32))) (addi v (broadcastInDim S55296x1 ![] bcast_S_S55296x1 (constantI S_ 32 16#32))) v) shapeCasts_S55296x1_S55296x1x1) (ix2 s 0) = x (ix2 s r) := by
  have hr := r.isLt
  have hw := (wrap_at 16#32 v s (by rw [h, ofNat_lt _ 16 hr (by decide)]; omega)).trans h
  generalize shapeCast S55296x1x1 _ _ = idx at hw ⊢
  have e : (idx (ix3 s 0 0)).toInt.toNat = r.val := by
    rw [hw, toInt_val _ (by rw [ofNat_lt _ 16 hr (by decide)]; omega), ofNat_lt _ 16 hr (by decide)]
  refine (pick16_at x idx s (by rw [e]; exact hr)).trans ?_
  exact congrArg (fun r => x (ix2 s r)) (Fin.ext e)

/-- The probability of the group of the tile's first expert. -/
theorem v28_at (hs : ∀ s, ((V (Proc.devRef .tc main_arg3) : IVec S55296 32) (ix1 s)).toNat < 49152) (s : Fin 55296) (h : (eA V s).toNat < 16) :
    res_main_v28 V (ix2 s 0) = soft (lg (tok V s) (V (Proc.devRef .tc main_arg5)) (V (Proc.devRef .tc main_arg6))) (grp (num 16 (eA V s))) := by
  have ht : ∀ i, res_main_v22 V (ix2 s i) = Ideal.exp (lg (tok V s) (V (Proc.devRef .tc main_arg5)) (V (Proc.devRef .tc main_arg6)) i - top (lg (tok V s) (V (Proc.devRef .tc main_arg5)) (V (Proc.devRef .tc main_arg6)))) := by
    intro i
    refine (soft4_at (res_main_v15 V) s i).trans ?_
    simp only [v15_at V (tok V) (v6_at V hs)]
  refine (pick4_of _ (res_main_v27 V) s (grp (num 16 (eA V s))) ?_).trans ?_
  · rw [v27_at V s h, num_val _ _ h]; rfl
  refine (div4_at (res_main_v22 V) s _).trans ?_
  simp only [ht]
  rfl

/-- The experts' probabilities, each group its own. -/
theorem v49_at (hs : ∀ s, ((V (Proc.devRef .tc main_arg3) : IVec S55296 32) (ix1 s)).toNat < 49152) (s : Fin 55296) (e : Fin 16) :
    res_main_v49 V (ix2 s e) = prob (tok V s) (V (Proc.devRef .tc main_arg7)) (V (Proc.devRef .tc main_arg8)) (grp e) (plc e) := by
  have ht : ∀ g i, res_main_v44 V (ix3 s g i) = Ideal.exp (le (tok V s) (V (Proc.devRef .tc main_arg7)) (V (Proc.devRef .tc main_arg8)) (exq g i) - top (fun j => le (tok V s) (V (Proc.devRef .tc main_arg7)) (V (Proc.devRef .tc main_arg8)) (exq g j))) := by
    intro g i
    refine (soft44_at (res_main_v37 V) s g i).trans ?_
    simp only [v37_at V (tok V) (v6_at V hs)]
  refine (div44_at (res_main_v44 V) s e).trans ?_
  simp only [ht]
  rfl

theorem v51_at (hs : ∀ s, ((V (Proc.devRef .tc main_arg3) : IVec S55296 32) (ix1 s)).toNat < 49152) (s : Fin 55296) (h : (eA V s).toNat < 16) :
    res_main_v51 V (ix2 s 0) = prob (tok V s) (V (Proc.devRef .tc main_arg7)) (V (Proc.devRef .tc main_arg8)) (grp (num 16 (eA V s))) (plc (num 16 (eA V s))) := by
  refine (pick16_of (res_main_v49 V) (res_main_v50 V) s (num 16 (eA V s)) ?_).trans (v49_at V hs s _)
  rw [v50_at, num_val _ _ h]
  exact (BitVec.ofNat_toNat _ _ ▸ (BitVec.setWidth_eq _).symm : eA V s = BitVec.ofNat 32 (eA V s).toNat)

theorem v57_at (hs : ∀ s, ((V (Proc.devRef .tc main_arg3) : IVec S55296 32) (ix1 s)).toNat < 49152) (s : Fin 55296) (h : (eA V s).toNat < 16) (h' : (eB V s).toNat < 16) :
    res_main_v57 V (ix2 s 0) = prob (tok V s) (V (Proc.devRef .tc main_arg7)) (V (Proc.devRef .tc main_arg8)) (grp (num 16 (eA V s))) (plc (num 16 (eB V s))) := by
  have hq : (eA V s).toNat / 4 * 4 + (eB V s).toNat % 4 < 16 := by omega
  refine (pick16_of (res_main_v49 V) (res_main_v56 V) s ⟨_, hq⟩ (v56_at V s h h')).trans ?_
  refine (v49_at V hs s _).trans ?_
  congr 1
  · refine Fin.ext ?_
    rw [num_val _ _ h]
    show ((eA V s).toNat / 4 * 4 + (eB V s).toNat % 4) / 4 = (eA V s).toNat / 4
    omega
  · refine Fin.ext ?_
    rw [num_val _ _ h']
    show ((eA V s).toNat / 4 * 4 + (eB V s).toNat % 4) % 4 = (eB V s).toNat % 4
    omega

/-- The reference computes the formula. -/
theorem ref_out (hs : ∀ s, ((V (Proc.devRef .tc main_arg3) : IVec S55296 32) (ix1 s)).toNat < 49152)
    (ha : ∀ t, ((V (Proc.devRef .tc main_arg0) : IVec S216 32) (ix1 t)).toNat < 16) (hb : ∀ t, ((V (Proc.devRef .tc main_arg1) : IVec S216 32) (ix1 t)).toNat < 16)
    (s : Fin 55296) (d : Fin 2048) :
    (val2 V (Proc.devRef .tc main_v98) : FVec Ideal S55296x2048 .f32) (ix2 s d)
      = out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) s d := by
  rw [val2_main_v98]
  have h := ha (til s)
  have h' := hb (til s)
  refine (last_at _ (res_main_v1 V) (res_main_v3 V) _ _ (res_main_v74 V) s d (by rw [v1_at]; exact h) (by rw [v3_at]; exact h')).trans ?_
  rw [v1_at, v3_at]
  have hn : (shapeCast S55296 (broadcastInDim S216x256 ![0] bcast_S216_S216x256_0 (V (Proc.devRef .tc main_arg2) : IVec S216 32)) shapeCasts_S216x256_S55296) (ix1 s) = (V (Proc.devRef .tc main_arg2) : IVec S216 32) (ix1 (til s)) := rep_at _ s
  unfold out
  refine if_congr (iff_of_eq (congrArg (fun w : BitVec 32 => 0 < w.toInt) hn)) ?_ rfl
  have key : ∀ (p a b : FVec Ideal S55296x1 .f32), mulf p (Host.divf a (addf a b)) (ix2 s 0) = p (ix2 s 0) * Ideal.div (a (ix2 s 0)) (a (ix2 s 0) + b (ix2 s 0)) := by
    intro p a b; pointwise
  have key' : ∀ (p a b : FVec Ideal S55296x1 .f32), mulf p (Host.divf b (addf a b)) (ix2 s 0) = p (ix2 s 0) * Ideal.div (b (ix2 s 0)) (a (ix2 s 0) + b (ix2 s 0)) := by
    intro p a b; pointwise
  rw [v74_at V (tok V) (v6_at V hs), v74_at V (tok V) (v6_at V hs)]
  rw [key, key', v28_at V hs s h, v51_at V hs s h, v57_at V hs s h h']
  rfl

end Cert.ReferenceIdeal.Hand
-- ==== Proof.Compare.lean ====
/-
  Hand-written, untrusted. The kernel's result is the reference's, over the extended reals.
-/
module

public import proofs.«01_k».proof.Proof.Out
public import proofs.«01_k».proof.Proof.RefOut
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Defs

@[expose] public section

noncomputable section

namespace Cert.Proof

open Idealize.ShloMosaic Idealize.SL.Sem Cert.Spec

/-- Equal arguments, equal results. -/
theorem out_congr (s : Fin 55296) (d : Fin 2048) {x0 y0 : (⟨1, ![216]⟩ : Shape).Idx → BitVec 32} {x1 y1 : (⟨1, ![216]⟩ : Shape).Idx → BitVec 32} {x2 y2 : (⟨1, ![216]⟩ : Shape).Idx → BitVec 32} {x3 y3 : (⟨1, ![55296]⟩ : Shape).Idx → BitVec 32} {x4 y4 : (⟨2, ![49152, 2048]⟩ : Shape).Idx → EReal} {x5 y5 : (⟨3, ![2, 2048, 4]⟩ : Shape).Idx → EReal} {x6 y6 : (⟨2, ![2, 4]⟩ : Shape).Idx → EReal} {x7 y7 : (⟨3, ![2, 2048, 16]⟩ : Shape).Idx → EReal} {x8 y8 : (⟨2, ![2, 16]⟩ : Shape).Idx → EReal} {x9 y9 : (⟨4, ![2, 16, 2048, 512]⟩ : Shape).Idx → EReal} {x10 y10 : (⟨4, ![2, 16, 2048, 512]⟩ : Shape).Idx → EReal} {x11 y11 : (⟨4, ![2, 16, 512, 2048]⟩ : Shape).Idx → EReal}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) :
    out x0 x1 x2 x3 x4 x5 x6 x7 x8 x9 x10 x11 s d = out y0 y1 y2 y3 y4 y5 y6 y7 y8 y9 y10 y11 s d := by
  subst h0 h1 h2 h3 h4 h5 h6 h7 h8 h9 h10 h11
  rfl

/-- From launches that agree on the arguments, the two programs end with the same array. -/
theorem algebraic : Cert.algebraic_KernelIdeal_ReferenceIdeal := by
  intro m g m' g' hpre hargs
  have hg := Cert.KernelIdeal.Hand.good_of m (hpre 0)
  refine ⟨fun c => Cert.KernelIdeal.Hand.Vend m hg c Cert.KernelIdeal.main_v18, ?_, ?_⟩
  · exact (θ_run (Cert.KernelIdeal.defs (F := Ideal)) _ _).mono (fun r h c => ⟨h.2 c, h.1.1 c⟩)
      (Cert.KernelIdeal.Hand.run_args (F := Ideal) m hg g)
  · refine (θ_run (Cert.ReferenceIdeal.defs (F := Ideal)) _ _).mono (fun r h c => ⟨(h c).1.trans ?_, (h c).2⟩)
      (Cert.ReferenceIdeal.Value.run (F := Ideal) m' g')
    refine (Cert.ReferenceIdeal.Value.val2_main_v98 (Idealize.ShloMosaic.StableHlo.launchContents m' c)).symm.trans ?_
    obtain rfl : c = 0 := Subsingleton.elim _ _
    obtain ⟨a0, a1, a2, a3, a4, a5, a6, a7, a8, a9, a10, a11⟩ := hargs 0
    have key : ∀ (s : Fin 55296) (d : Fin 2048), (Cert.ReferenceIdeal.Value.val2 (Idealize.ShloMosaic.StableHlo.launchContents m' 0) (Proc.devRef .tc Cert.ReferenceIdeal.main_v98) : FVec Ideal Cert.ReferenceIdeal.S55296x2048 .f32) (ix2 s d)
        = (Cert.KernelIdeal.Hand.Vend m hg 0 Cert.KernelIdeal.main_v18 : FVec Ideal Cert.KernelIdeal.S55296x2048 .f32) (ix2 s d) := by
      intro s d
      refine (Cert.ReferenceIdeal.Hand.ref_out _ ?_ ?_ ?_ s d).trans (Eq.trans ?_ (Cert.KernelIdeal.Hand.kernel_out m hg 0 s d).symm)
      · exact fun s => lt_of_eq_of_lt (congrArg BitVec.toNat (congrFun a3 (ix1 s))) (hg.src (ix1 s))
      · exact fun t => lt_of_eq_of_lt (congrArg BitVec.toNat (congrFun a0 (ix1 t))) (hg.ea (ix1 t))
      · exact fun t => lt_of_eq_of_lt (congrArg BitVec.toNat (congrFun a1 (ix1 t))) (hg.eb (ix1 t))
      · exact out_congr s d a0 a1 a2 a3 a4 a5 a6 a7 a8 a9 a10 a11
    funext i
    have e : i = ix2 (i 0) (i 1) := by funext a; fin_cases a <;> rfl
    rw [e]
    exact key _ _

end Cert.Proof
end
-- ==== Proof.PreFrame.lean ====
/-
  Hand-written, untrusted. The input projection's runs: as printed, over the extended reals, and the reference's.
-/
module

public import proofs.«01_k».proof.Defs
public import proofs.«01_k».proof.Proof.Gen.Pre
public import proofs.«01_k».proof.Proof.Gen.PreIdeal.Value
public import proofs.«01_k».proof.Proof.Gen.PreRefIdeal.Run

@[expose] public section

noncomputable section

namespace Cert.Proof

open Idealize.ShloMosaic Idealize.SL.Sem

set_option maxHeartbeats 1000000 in
theorem pre_body_eq : @Cert.Pre.cc0__pre_body Bits _ _ = @Cert.PreIdeal.cc0__pre_body Bits _ _ := rfl
set_option maxHeartbeats 1000000 in
theorem pre_defs₀_eq : @Cert.Pre.defs₀ Bits _ _ = @Cert.PreIdeal.defs₀ Bits _ _ := by
  refine congrArg Defs.onTc (funext fun l => funext fun x => ?_)
  match l, x with
  | 0, (t, s) =>
    exact congrFun (congrFun (congrFun (congrFun (congrFun (congrFun (congrFun (congrFun (congrFun (congrFun (congrFun (congrFun (congrFun (congrFun (congrFun (congrFun (congrFun (congrFun (congrFun pre_body_eq _) _) _) _) _) _) _) _) _) _) _) _) _) _) _) _) _) _) _
theorem pre_defs_eq : @Cert.Pre.defs Bits _ _ = @Cert.PreIdeal.defs Bits _ _ :=
  congrArg (Pipeline.defs (@Cert.Pre.pcfgs Bits _)) pre_defs₀_eq
set_option maxHeartbeats 1000000 in
theorem pre_main_eq : @Cert.Pre.main Bits _ _ = @Cert.PreIdeal.main Bits _ _ := rfl

/-- The call as printed: its run is the other reading's, over the hardware's formats. -/
theorem frame_pre : Cert.quiescent_Pre := by
  intro m ρ _
  rw [pre_defs_eq, pre_main_eq]
  exact Cert.PreIdeal.Gen.frame (F := Bits) m ρ

/-- The call over the extended reals. -/
theorem frame_pre_ideal : Cert.quiescent_PreIdeal := fun m ρ _ => Cert.PreIdeal.Gen.frame (F := Ideal) m ρ

/-- Its reference over the extended reals. -/
theorem frame_pre_reference : Cert.quiescent_PreRefIdeal := fun m ρ _ =>
  (θ_run (Cert.PreRefIdeal.defs (F := Ideal)) _ _).mono
    (fun r h => ⟨fun c => (h c).2.2.2.2, Idealize.ShloMosaic.sem_eq_zero_of_no_sems (by decide) r.2⟩)
    (Cert.PreRefIdeal.Value.run (F := Ideal) m ρ)

theorem preserves_pre : Cert.preserves_Pre_PreIdeal := trivial

end Cert.Proof
end
-- ==== Proof.PreSpec.lean ====
/-
  Hand-written, untrusted. What the input projection's call computes for one token, as formulas of extended reals.
-/
module

public import Idealize.ShloMosaic.Lib.Pointwise.Tactic
public import Idealize.ShloMosaic.Lib.Pointwise.Reduce

@[expose] public section

noncomputable section

namespace Cert.PreSpec

open Idealize.ShloMosaic

/-- The sequence a token belongs to: the prompt, or one of the samples. -/
def seqOf (s : Fin 49152) : Fin 8 := if s.val < 16384 then 0 else ⟨1 + (s.val - 16384) / 8192, by omega⟩
/-- A token's row of the residual stream. -/
def row (xp : (⟨3, ![1, 16384, 2048]⟩ : Shape).Idx → EReal) (xs : (⟨3, ![4, 8192, 2048]⟩ : Shape).Idx → EReal)
    (s : Fin 49152) (k : Fin 2048) : EReal :=
  if h : s.val < 16384 then xp (ix3 0 ⟨s.val, h⟩ k) else xs (ix3 ⟨(s.val - 16384) / 8192, by omega⟩ ⟨(s.val - 16384) % 8192, by omega⟩ k)

/-- A row normed by its mean square, -/
def nrm (x : Fin 2048 → EReal) (k : Fin 2048) : EReal :=
  x k * Ideal.rsqrt (Ideal.div (∑ j, x j * x j) (Ideal.ofBits .f32 0x45000000#32) + Ideal.ofBits .f32 0x358637BD#32)
/-- and with the learned weight, the sequence's scale and its shift. -/
def ada (x g sc sh : Fin 2048 → EReal) (k : Fin 2048) : EReal := nrm x k * g k * (1 + sc k) + sh k

/-- A column of the modulation's first part, the shift, -/
def shc (k : Fin 2048) : Fin 12288 := ⟨k.val, by omega⟩
/-- and of its second, the scale. -/
def scc (k : Fin 2048) : Fin 12288 := ⟨2048 + k.val, by omega⟩

/-- Column `j` of a token's projection. -/
def proj (xp : (⟨3, ![1, 16384, 2048]⟩ : Shape).Idx → EReal) (xs : (⟨3, ![4, 8192, 2048]⟩ : Shape).Idx → EReal)
    (md : (⟨3, ![2, 8, 12288]⟩ : Shape).Idx → EReal) (g : (⟨2, ![2, 2048]⟩ : Shape).Idx → EReal)
    (w : (⟨3, ![2, 2048, 4096]⟩ : Shape).Idx → EReal) (s : Fin 49152) (j : Fin 4096) : EReal :=
  ∑ k, ada (row xp xs s) (fun k => g (ix2 0 k)) (fun k => md (ix3 0 (seqOf s) (scc k))) (fun k => md (ix3 0 (seqOf s) (shc k))) k * w (ix3 0 k j)

section
variable (z : Fin 4096 → EReal)
/-- The gated linear unit, -/
def glu (d : Fin 512) : EReal := z ⟨d.val, by omega⟩ * Ideal.div 1 (1 + Ideal.exp (-z ⟨512 + d.val, by omega⟩))
/-- the scaled query, -/
def qry (d : Fin 1024) : EReal := z ⟨1024 + d.val, by omega⟩ * Ideal.ofBits .f32 0x3E0293EE#32
/-- the key and the value, -/
def kvs (d : Fin 512) : EReal := z ⟨2048 + d.val, by omega⟩
/-- and the convolution's gated input beside its output gate. -/
def cnv (d : Fin 1024) : EReal :=
  if h : d.val < 512 then z ⟨3584 + d.val, by omega⟩ * z ⟨2560 + d.val, by omega⟩ else z ⟨3072 + (d.val - 512), by omega⟩
end

end Cert.PreSpec
end
-- ==== Proof.PreBody.lean ====
/-
  Hand-written, untrusted. What the input projection's kernel leaves in its output blocks, index by index, from its input blocks.
-/
module

public import proofs.«01_k».proof.Proof.PreSpec
public import proofs.«01_k».proof.Proof.Gen.PreIdeal.Value
public import Idealize.ShloMosaic.Lib.Pointwise
public import Idealize.ShloMosaic.Lib.Pipeline.ValueKit

@[expose] public section

noncomputable section

namespace Cert.PreIdeal.Hand

open Cert.PreIdeal Cert.PreIdeal.Gen Idealize.ShloMosaic Idealize.ShloMosaic.TcCoe
open Cert.PreSpec

theorem cmp_tile : ∀ i : Fin 192, Scalar.cmpi CmpIPredicate.slt (BitVec.ofNat 32 i.val) 64#32 = if i.val < 64 then 1#1 else 0#1 := by
  decide +kernel

section
variable (i : grid0.Coords) (x0 x1 : FVec Ideal S256x2048 .f32) (x2 : FVec Ideal S1x1x1x12288 .f32) (x3 : FVec Ideal S1x1x2048 .f32)
  (x4 : FVec Ideal S1x2048x4096 .bf16) (r : Fin 256)

/-- The rows of a tile. -/
def rowB (k : Fin 2048) : EReal := if (i 0).val < 64 then x0 (ix2 r k) else x1 (ix2 r k)
/-- A tile's projection. -/
def zB (j : Fin 4096) : EReal :=
  ∑ k, ada (rowB i x0 x1 r) (fun k => x3 (ix3 0 0 k)) (fun k => x2 (ix4 0 0 0 (scc k))) (fun k => x2 (ix4 0 0 0 (shc k))) k * x4 (ix3 0 k j)

theorem pay7_at (v6 : FVec Ideal S1x1x2048 .f32) (v8 v10 : FVec Ideal S1x1x1x2048 .f32) (k : Fin 2048) :
    (k0_pay7 (F := Ideal) i x0 x1 v6 v8 v10 (ix2 r k) : EReal)
      = ada (rowB i x0 x1 r) (fun k => v6 (ix3 0 0 k)) (fun k => v8 (ix4 0 0 0 k)) (fun k => v10 (ix4 0 0 0 k)) k := by
  have e : ∀ k, rowB i x0 x1 r k = Scalar.select (Scalar.cmpi CmpIPredicate.slt (BitVec.ofNat 32 (i 0).val) 64#32) x0 x1 (ix2 r k) := by
    intro k
    unfold rowB
    have hc : Scalar.cmpi CmpIPredicate.slt (BitVec.ofNat 32 (i 0).val) 64#32 = if (i 0).val < 64 then 1#1 else 0#1 := cmp_tile (i 0)
    rw [hc]
    split <;> rfl
  unfold ada nrm
  simp only [e]
  unfold k0_pay7
  generalize Scalar.cmpi CmpIPredicate.slt (BitVec.ofNat 32 (i 0).val) 64#32 = b
  pointwise

theorem pay10_at (k : Fin 2048) : (k0_pay10 (F := Ideal) i x0 x1 x2 x3 x4 (ix2 r k) : EReal)
      = ada (rowB i x0 x1 r) (fun k => x3 (ix3 0 0 k)) (fun k => x2 (ix4 0 0 0 (scc k))) (fun k => x2 (ix4 0 0 0 (shc k))) k := by
  unfold k0_pay10
  simp only [View.ld_unit]
  refine (pay7_at _ _ _ _ _ _ _ _).trans ?_
  unfold ada nrm rowB
  pointwise
  rfl
end

section
variable (h : FVec Ideal S256x2048 .bf16) (r : Fin 256)

theorem pay2_at (w : FVec Ideal S1x2048x1024 .bf16) (d : Fin 1024) :
    k0_pay2 h w (ix2 r d) = (∑ k, h (ix2 r k) * w (ix3 0 k d) : EReal) * Ideal.ofBits .f32 0x3E0293EE#32 := by
  unfold k0_pay2
  pointwise [dot_S256x2048_S2048x1024_S256x1024_1_0_0_1_n_n]
theorem pay3_at (w : FVec Ideal S1x2048x512 .bf16) (d : Fin 512) :
    k0_pay3 h w (ix2 r d) = (∑ k, h (ix2 r k) * w (ix3 0 k d) : EReal) := by
  unfold k0_pay3
  pointwise [dot_S256x2048_S2048x512_S256x512_1_0_0_1_n_n]
theorem pay5_at (w : FVec Ideal S1x2048x1536 .bf16) (d : Fin 512) :
    k0_pay5 h w (ix2 r d) = (∑ k, h (ix2 r k) * w (ix3 0 k ⟨1024 + d.val, by omega⟩) : EReal) * (∑ k, h (ix2 r k) * w (ix3 0 k ⟨d.val, by omega⟩)) := by
  unfold k0_pay5 k0_pay4
  pointwise [dot_S256x2048_S2048x1536_S256x1536_1_0_0_1_n_n]
theorem pay6_at (w : FVec Ideal S1x2048x1536 .bf16) (d : Fin 512) :
    k0_pay6 h w (ix2 r d) = (∑ k, h (ix2 r k) * w (ix3 0 k ⟨512 + d.val, by omega⟩) : EReal) := by
  unfold k0_pay6 k0_pay4
  pointwise [dot_S256x2048_S2048x1536_S256x1536_1_0_0_1_n_n]
theorem pay1_at (a : FVec Ideal S256x1024 .f32) (b : FVec Ideal S256x512 .f32) (d : Fin 512) :
    k0_pay1 a b (ix2 r d) = (b (ix2 r d) : EReal) * Ideal.div 1 (1 + Ideal.exp (-a (ix2 r ⟨512 + d.val, by omega⟩))) := by
  unfold k0_pay1
  pointwise
  rfl
end

section
variable (i : grid0.Coords) (x0 x1 : FVec Ideal S256x2048 .f32) (x2 : FVec Ideal S1x1x1x12288 .f32) (x3 : FVec Ideal S1x1x2048 .f32)
  (x4 : FVec Ideal S1x2048x4096 .bf16) (r : Fin 256)

theorem pay8_at (w : FVec Ideal S1x2048x1024 .bf16) (v6 : FVec Ideal S1x1x2048 .f32) (v8 v10 : FVec Ideal S1x1x1x2048 .f32) (d : Fin 1024) :
    (k0_pay8 (F := Ideal) i x0 x1 v6 v8 v10 w (ix2 r d) : EReal) = ∑ k, (k0_pay7 (F := Ideal) i x0 x1 v6 v8 v10 (ix2 r k) : EReal) * w (ix3 0 k d) := by
  unfold k0_pay8
  pointwise [dot_S256x2048_S2048x1024_S256x1024_1_0_0_1_n_n]
theorem pay9_at (w : FVec Ideal S1x2048x1024 .bf16) (v6 : FVec Ideal S1x1x2048 .f32) (v8 v10 : FVec Ideal S1x1x1x2048 .f32) (d : Fin 512) :
    (k0_pay9 (F := Ideal) i x0 x1 v6 v8 v10 w (ix2 r d) : EReal) = k0_pay8 (F := Ideal) i x0 x1 v6 v8 v10 w (ix2 r ⟨d.val, by omega⟩) := by
  unfold k0_pay9
  pointwise

theorem sumB (w : Fin 2048 → EReal) (j : Fin 4096) (hw : ∀ k, w k = x4 (ix3 0 k j)) :
    (∑ k, (k0_pay10 (F := Ideal) i x0 x1 x2 x3 x4 (ix2 r k) : EReal) * w k) = zB i x0 x1 x2 x3 x4 r j := by
  unfold zB
  refine Finset.sum_congr rfl fun k _ => ?_
  rw [hw, pay10_at]

theorem ld4 (k : Fin 2048) (d : Fin 1024) : (View.ld (Val := Elt Ideal) (e' := .bf16) x4 r0_4 (ix3 0 k d) : EReal) = x4 (ix3 0 k ⟨0 + d.val, by omega⟩) := by
  show x4 (r0_4.emb (ix3 0 k d)) = _
  refine congrArg x4 ?_
  funext a; apply Fin.ext
  fin_cases a
  · rfl
  · show 0 + 1 * k.val = k.val; omega
  · show 0 + 1 * d.val = 0 + d.val; omega
theorem ld6 (k : Fin 2048) (d : Fin 1024) : (View.ld (Val := Elt Ideal) (e' := .bf16) x4 r0_6 (ix3 0 k d) : EReal) = x4 (ix3 0 k ⟨1024 + d.val, by omega⟩) := by
  show x4 (r0_6.emb (ix3 0 k d)) = _
  refine congrArg x4 ?_
  funext a; apply Fin.ext
  fin_cases a
  · rfl
  · show 0 + 1 * k.val = k.val; omega
  · show 1024 + 1 * d.val = 1024 + d.val; omega
theorem ld8 (k : Fin 2048) (d : Fin 512) : (View.ld (Val := Elt Ideal) (e' := .bf16) x4 r0_8 (ix3 0 k d) : EReal) = x4 (ix3 0 k ⟨2048 + d.val, by omega⟩) := by
  show x4 (r0_8.emb (ix3 0 k d)) = _
  refine congrArg x4 ?_
  funext a; apply Fin.ext
  fin_cases a
  · rfl
  · show 0 + 1 * k.val = k.val; omega
  · show 2048 + 1 * d.val = 2048 + d.val; omega
theorem ld9 (k : Fin 2048) (d : Fin 1536) : (View.ld (Val := Elt Ideal) (e' := .bf16) x4 r0_9 (ix3 0 k d) : EReal) = x4 (ix3 0 k ⟨2560 + d.val, by omega⟩) := by
  show x4 (r0_9.emb (ix3 0 k d)) = _
  refine congrArg x4 ?_
  funext a; apply Fin.ext
  fin_cases a
  · rfl
  · show 0 + 1 * k.val = k.val; omega
  · show 2560 + 1 * d.val = 2560 + d.val; omega

theorem out5_at (d : Fin 512) : (out0_5 (F := Ideal) i x0 x1 x2 x3 x4 (ix2 r d) : EReal) = glu (zB i x0 x1 x2 x3 x4 r) d := by
  unfold out0_5 glu
  rw [View.canon_unit_zero (by funext a; fin_cases a <;> rfl), pay1_at, pay9_at, pay8_at, pay8_at]
  rw [show ∀ a b c d : EReal, a = b → c = d → a * Ideal.div 1 (1 + Ideal.exp (-c)) = b * Ideal.div 1 (1 + Ideal.exp (-d)) from fun _ _ _ _ h h' => by rw [h, h']]
  · exact sumB i x0 x1 x2 x3 x4 r _ _ fun k => (ld4 x4 k _).trans (congrArg (fun j => (x4 (ix3 0 k j) : EReal)) (Fin.ext (by first | rfl | exact Nat.zero_add _ | (show _ + (_ + _) = _ + _; omega))))
  · exact sumB i x0 x1 x2 x3 x4 r _ _ fun k => (ld4 x4 k _).trans (congrArg (fun j => (x4 (ix3 0 k j) : EReal)) (Fin.ext (by first | rfl | exact Nat.zero_add _ | (show _ + (_ + _) = _ + _; omega))))
theorem out6_at (d : Fin 1024) : (out0_6 (F := Ideal) i x0 x1 x2 x3 x4 (ix2 r d) : EReal) = qry (zB i x0 x1 x2 x3 x4 r) d := by
  unfold out0_6 qry
  rw [View.canon_unit_zero (by funext a; fin_cases a <;> rfl), pay2_at]
  exact congrArg (· * _) (sumB i x0 x1 x2 x3 x4 r _ _ fun k => (ld6 x4 k _).trans (congrArg (fun j => (x4 (ix3 0 k j) : EReal)) (Fin.ext (by first | rfl | exact Nat.zero_add _ | (show _ + (_ + _) = _ + _; omega)))))
theorem out7_at (d : Fin 512) : (out0_7 (F := Ideal) i x0 x1 x2 x3 x4 (ix2 r d) : EReal) = kvs (zB i x0 x1 x2 x3 x4 r) d := by
  unfold out0_7 kvs
  rw [View.canon_unit_zero (by funext a; fin_cases a <;> rfl), pay3_at]
  exact sumB i x0 x1 x2 x3 x4 r _ _ fun k => (ld8 x4 k _).trans (congrArg (fun j => (x4 (ix3 0 k j) : EReal)) (Fin.ext (by first | rfl | exact Nat.zero_add _ | (show _ + (_ + _) = _ + _; omega))))

/-- The two halves of the last block. -/
theorem out8_lo (d : Fin 512) : (out0_8 (F := Ideal) i x0 x1 x2 x3 x4 (ix2 r ⟨d.val, by omega⟩) : EReal)
    = zB i x0 x1 x2 x3 x4 r ⟨3584 + d.val, by omega⟩ * zB i x0 x1 x2 x3 x4 r ⟨2560 + d.val, by omega⟩ := by
  have e : (ix2 r ⟨d.val, by omega⟩ : S256x1024.Idx) = r0_10.emb (ix2 r d : S256x512.Idx) := by
    funext a; apply Fin.ext
    fin_cases a
    · show r.val = 0 + 1 * r.val; omega
    · show d.val = 0 + 1 * d.val; omega
  have hn : (ix2 r ⟨d.val, by omega⟩ : S256x1024.Idx) ∉ r0_11.set := by
    intro hm
    obtain ⟨x, hx⟩ := r0_11.exists_idx_of_mem hm
    have h1 := congrArg Fin.val (congrFun hx 1)
    change 512 + 1 * (x 1).val = d.val at h1
    omega
  unfold out0_8
  refine Eq.trans (View.canon_cons_of_not_mem _ _ (by exact hn)) ?_
  rw [e, View.canon_cons_emb, pay5_at]
  refine congrArg₂ (· * ·) (sumB i x0 x1 x2 x3 x4 r _ _ fun k => ?_) (sumB i x0 x1 x2 x3 x4 r _ _ fun k => ?_)
  · exact (ld9 x4 k _).trans (congrArg (fun j => (x4 (ix3 0 k j) : EReal)) (Fin.ext (by first | rfl | exact Nat.zero_add _ | (show _ + (_ + _) = _ + _; omega))))
  · exact (ld9 x4 k _).trans (congrArg (fun j => (x4 (ix3 0 k j) : EReal)) (Fin.ext (by first | rfl | exact Nat.zero_add _ | (show _ + (_ + _) = _ + _; omega))))
theorem out8_hi (d : Fin 512) : (out0_8 (F := Ideal) i x0 x1 x2 x3 x4 (ix2 r ⟨512 + d.val, by omega⟩) : EReal)
    = zB i x0 x1 x2 x3 x4 r ⟨3072 + d.val, by omega⟩ := by
  have e : (ix2 r ⟨512 + d.val, by omega⟩ : S256x1024.Idx) = r0_11.emb (ix2 r d : S256x512.Idx) := by
    funext a; apply Fin.ext
    fin_cases a
    · show r.val = 0 + 1 * r.val; omega
    · show 512 + d.val = 512 + 1 * d.val; omega
  unfold out0_8
  rw [e, View.canon_cons_emb, pay6_at]
  exact sumB i x0 x1 x2 x3 x4 r _ _ fun k => (ld9 x4 k _).trans (congrArg (fun j => (x4 (ix3 0 k j) : EReal)) (Fin.ext (by first | rfl | exact Nat.zero_add _ | (show _ + (_ + _) = _ + _; omega))))
theorem out8_at (d : Fin 1024) : (out0_8 (F := Ideal) i x0 x1 x2 x3 x4 (ix2 r d) : EReal) = cnv (zB i x0 x1 x2 x3 x4 r) d := by
  unfold cnv
  by_cases hd : d.val < 512
  · rw [dif_pos hd]
    exact out8_lo i x0 x1 x2 x3 x4 r ⟨d.val, hd⟩
  · rw [dif_neg hd]
    have e : d = ⟨512 + (d.val - 512), by omega⟩ := Fin.ext (by show d.val = 512 + (d.val - 512); omega)
    exact (congrArg (fun d => (out0_8 (F := Ideal) i x0 x1 x2 x3 x4 (ix2 r d) : EReal)) e).trans (out8_hi i x0 x1 x2 x3 x4 r ⟨d.val - 512, by omega⟩)
end

end Cert.PreIdeal.Hand
end
-- ==== Proof.PreBlock.lean ====
/-
  Hand-written, untrusted. What the input projection's windows read, and its result arrays.
-/
module

public import proofs.«01_k».proof.Proof.PreBody

@[expose] public section

noncomputable section

namespace Cert.PreIdeal.Hand

open Cert.PreIdeal Cert.PreIdeal.Gen Idealize.ShloMosaic Idealize.ShloMosaic.TcCoe Idealize.ShloMosaic.StableHlo
open Cert.PreSpec

variable (m : (ℓ : Loc nD τ sig) → Buf (Elt Ideal) ℓ) (c : Dev nD)

/-- The arguments, as arrays. -/
abbrev A0 : FVec Ideal S1x16384x2048 .f32 := m (c, Proc.devRef .tc main_arg0)
abbrev A1 : FVec Ideal S4x8192x2048 .f32 := m (c, Proc.devRef .tc main_arg1)
abbrev A2 : FVec Ideal S2x8x12288 .f32 := m (c, Proc.devRef .tc main_arg2)
abbrev A3 : FVec Ideal S2x2048 .f32 := m (c, Proc.devRef .tc main_arg3)
abbrev A4 : FVec Ideal S2x2048x4096 .f32 := m (c, Proc.devRef .tc main_arg4)

theorem V_v0 : (V m c main_v0 : FVec Ideal S16384x2048 .f32) = shapeCast S16384x2048 (A0 m c) shapeCasts_S1x16384x2048_S16384x2048 := by
  rfl
theorem V_v1 : (V m c main_v1 : FVec Ideal S32768x2048 .f32) = shapeCast S32768x2048 (A1 m c) shapeCasts_S4x8192x2048_S32768x2048 := by
  rfl
theorem V_v2 : (V m c main_v2 : FVec Ideal S2x8x1x12288 .f32) = shapeCast S2x8x1x12288 (A2 m c) shapeCasts_S2x8x12288_S2x8x1x12288 := by
  rfl
theorem V_v3 : (V m c main_v3 : FVec Ideal S2x1x2048 .f32) = shapeCast S2x1x2048 (A3 m c) shapeCasts_S2x2048_S2x1x2048 := by
  rfl
theorem V_v4 : (V m c main_v4 : FVec Ideal S2x2048x4096 .bf16) = truncf (F := Ideal) .bf16 (A4 m c) bitsLt_bf16_f32 := by
  rfl

/-- The one grid coordinate of a point. -/
theorem coord_val : ∀ t : Fin grid0.N, ((grid0.coords t) 0).val = t.val := by decide +kernel
theorem idx0 : ∀ t : Fin grid0.N, cc0_transform_0 (grid0.coords t) = ![min t.val 63, 0] := by decide +kernel
theorem idx1 : ∀ t : Fin grid0.N, cc0_transform_1 (grid0.coords t) = ![t.val - 64, 0] := by decide +kernel
theorem idx2 : ∀ t : Fin grid0.N, cc0_transform_2 (grid0.coords t) = ![0, if t.val < 64 then 0 else 1 + (t.val - 64) / 32, 0, 0] := by decide +kernel

/-- Slot `r` of tile `t`. -/
def tok (t : Fin grid0.N) (r : Fin 256) : Fin 49152 := ⟨256 * t.val + r.val, by have h : t.val < 192 := t.isLt; omega⟩

theorem iblk0 (t : Fin grid0.N) (r : Fin 256) (k : Fin 2048) :
    (iblk m c 0 t : FVec Ideal S256x2048 .f32) (ix2 r k) = (V m c main_v0 : FVec Ideal S16384x2048 .f32) (ix2 ⟨256 * min t.val 63 + r.val, by omega⟩ k) := by
  have e := idx0 t
  show (V m c main_v0 : FVec Ideal S16384x2048 .f32) ((win0_0.blk t).view.emb (ix2 r k)) = _
  refine congrArg _ ?_
  funext a; apply Fin.ext
  fin_cases a
  · show cc0_transform_0 (grid0.coords t) 0 * 256 + 1 * r.val = 256 * min t.val 63 + r.val
    rw [e]; show min t.val 63 * 256 + 1 * r.val = _; omega
  · show cc0_transform_0 (grid0.coords t) 1 * 2048 + 1 * k.val = k.val
    rw [e]; show 0 * 2048 + 1 * k.val = _; omega
theorem iblk1 (t : Fin grid0.N) (r : Fin 256) (k : Fin 2048) :
    (iblk m c 1 t : FVec Ideal S256x2048 .f32) (ix2 r k) = (V m c main_v1 : FVec Ideal S32768x2048 .f32) (ix2 ⟨256 * (t.val - 64) + r.val, by have h : t.val < 192 := t.isLt; omega⟩ k) := by
  have e := idx1 t
  show (V m c main_v1 : FVec Ideal S32768x2048 .f32) ((win0_1.blk t).view.emb (ix2 r k)) = _
  refine congrArg _ ?_
  funext a; apply Fin.ext
  fin_cases a
  · show cc0_transform_1 (grid0.coords t) 0 * 256 + 1 * r.val = 256 * (t.val - 64) + r.val
    rw [e]; show (t.val - 64) * 256 + 1 * r.val = _; omega
  · show cc0_transform_1 (grid0.coords t) 1 * 2048 + 1 * k.val = k.val
    rw [e]; show 0 * 2048 + 1 * k.val = _; omega
theorem iblk2 (t : Fin grid0.N) (k : Fin 12288) :
    (iblk m c 2 t : FVec Ideal S1x1x1x12288 .f32) (ix4 0 0 0 k) = (V m c main_v2 : FVec Ideal S2x8x1x12288 .f32) (ix4 0 (seqOf (tok t 0)) 0 k) := by
  have e := idx2 t
  show (V m c main_v2 : FVec Ideal S2x8x1x12288 .f32) ((win0_2.blk t).view.emb (ix4 0 0 0 k)) = _
  refine congrArg _ ?_
  funext a; apply Fin.ext
  fin_cases a
  · show cc0_transform_2 (grid0.coords t) 0 * 1 + 1 * 0 = 0
    rw [e]; rfl
  · show cc0_transform_2 (grid0.coords t) 1 * 1 + 1 * 0 = (seqOf (tok t 0)).val
    rw [e]
    show (if t.val < 64 then 0 else 1 + (t.val - 64) / 32) * 1 + 1 * 0 = _
    unfold seqOf tok
    by_cases h : t.val < 64
    · rw [if_pos h, if_pos (show 256 * t.val + (0 : Fin 256).val < 16384 by show 256 * t.val + 0 < _; omega)]; rfl
    · rw [if_neg h, if_neg (show ¬ 256 * t.val + (0 : Fin 256).val < 16384 by show ¬ 256 * t.val + 0 < _; omega)]
      show _ = 1 + (256 * t.val + 0 - 16384) / 8192
      omega
  · show cc0_transform_2 (grid0.coords t) 2 * 1 + 1 * 0 = 0
    rw [e]; rfl
  · show cc0_transform_2 (grid0.coords t) 3 * 12288 + 1 * k.val = k.val
    rw [e]; show 0 * 12288 + 1 * k.val = _; omega
theorem iblk3 (t : Fin grid0.N) (k : Fin 2048) :
    (iblk m c 3 t : FVec Ideal S1x1x2048 .f32) (ix3 0 0 k) = (V m c main_v3 : FVec Ideal S2x1x2048 .f32) (ix3 0 0 k) := by
  show (V m c main_v3 : FVec Ideal S2x1x2048 .f32) ((win0_3.blk t).view.emb (ix3 0 0 k)) = _
  refine congrArg _ ?_
  funext a; apply Fin.ext
  fin_cases a
  · rfl
  · rfl
  · show 0 * 2048 + 1 * k.val = k.val; omega
theorem iblk4 (t : Fin grid0.N) (k : Fin 2048) (j : Fin 4096) :
    (iblk m c 4 t : FVec Ideal S1x2048x4096 .bf16) (ix3 0 k j) = (V m c main_v4 : FVec Ideal S2x2048x4096 .bf16) (ix3 0 k j) := by
  show (V m c main_v4 : FVec Ideal S2x2048x4096 .bf16) ((win0_4.blk t).view.emb (ix3 0 k j)) = _
  refine congrArg _ ?_
  funext a; apply Fin.ext
  fin_cases a
  · rfl
  · show 0 * 2048 + 1 * k.val = k.val; omega
  · show 0 * 4096 + 1 * j.val = j.val; omega

/-- A tile's rows are its tokens'. -/
theorem row_at (t : Fin grid0.N) (r : Fin 256) (k : Fin 2048) :
    rowB (grid0.coords t) (iblk m c 0 t) (iblk m c 1 t) r k = row (A0 m c) (A1 m c) (tok t r) k := by
  have k0 : ∀ (x : FVec Ideal S1x16384x2048 .f32) (s : Fin 16384), shapeCast S16384x2048 x shapeCasts_S1x16384x2048_S16384x2048 (ix2 s k) = x (ix3 0 s k) := by
    intro x s
    pointwise
  have k1 : ∀ (x : FVec Ideal S4x8192x2048 .f32) (s : Fin 32768), shapeCast S32768x2048 x shapeCasts_S4x8192x2048_S32768x2048 (ix2 s k) = x (ix3 ⟨s.val / 8192, by omega⟩ ⟨s.val % 8192, by omega⟩ k) := by
    intro x s
    pointwise
  have hr := r.isLt
  unfold rowB row
  rw [coord_val]
  by_cases h : t.val < 64
  · rw [if_pos h, dif_pos (show (tok t r).val < 16384 by show 256 * t.val + r.val < _; omega)]
    refine (iblk0 m c t r k).trans ((congrFun (V_v0 m c) _).trans ((k0 _ _).trans (congrArg (fun s => A0 m c (ix3 0 s k)) (Fin.ext ?_))))
    show 256 * min t.val 63 + r.val = 256 * t.val + r.val
    omega
  · rw [if_neg h, dif_neg (show ¬ (tok t r).val < 16384 by show ¬ 256 * t.val + r.val < _; omega)]
    refine (iblk1 m c t r k).trans ((congrFun (V_v1 m c) _).trans ((k1 _ _).trans (congrArg₂ (fun s s' => A1 m c (ix3 s s' k)) (Fin.ext ?_) (Fin.ext ?_))))
    · show (256 * (t.val - 64) + r.val) / 8192 = (256 * t.val + r.val - 16384) / 8192
      omega
    · show (256 * (t.val - 64) + r.val) % 8192 = (256 * t.val + r.val - 16384) % 8192
      omega
theorem mod_at (t : Fin grid0.N) (r : Fin 256) (k : Fin 12288) :
    (iblk m c 2 t : FVec Ideal S1x1x1x12288 .f32) (ix4 0 0 0 k) = A2 m c (ix3 0 (seqOf (tok t r)) k) := by
  have k2 : ∀ (x : FVec Ideal S2x8x12288 .f32) (s : Fin 8), shapeCast S2x8x1x12288 x shapeCasts_S2x8x12288_S2x8x1x12288 (ix4 0 s 0 k) = x (ix3 0 s k) := by
    intro x s
    pointwise
  have hr := r.isLt
  have e : seqOf (tok t 0) = seqOf (tok t r) := by
    unfold seqOf tok
    show (if 256 * t.val + 0 < 16384 then (0 : Fin 8) else ⟨1 + (256 * t.val + 0 - 16384) / 8192, _⟩) = if 256 * t.val + r.val < 16384 then 0 else ⟨1 + (256 * t.val + r.val - 16384) / 8192, _⟩
    by_cases h : t.val < 64
    · rw [if_pos (by omega), if_pos (by omega)]
    · rw [if_neg (by omega), if_neg (by omega)]
      exact Fin.ext (by show 1 + (256 * t.val + 0 - 16384) / 8192 = 1 + (256 * t.val + r.val - 16384) / 8192; omega)
  exact (iblk2 m c t k).trans ((congrFun (V_v2 m c) _).trans ((k2 _ _).trans (congrArg (fun s => A2 m c (ix3 0 s k)) e)))
theorem wt_at (t : Fin grid0.N) (k : Fin 2048) : (iblk m c 3 t : FVec Ideal S1x1x2048 .f32) (ix3 0 0 k) = A3 m c (ix2 0 k) := by
  have k3 : ∀ x : FVec Ideal S2x2048 .f32, shapeCast S2x1x2048 x shapeCasts_S2x2048_S2x1x2048 (ix3 0 0 k) = x (ix2 0 k) := by
    intro x
    pointwise
  exact (iblk3 m c t k).trans ((congrFun (V_v3 m c) _).trans (k3 _))
theorem mat_at (t : Fin grid0.N) (k : Fin 2048) (j : Fin 4096) : (iblk m c 4 t : FVec Ideal S1x2048x4096 .bf16) (ix3 0 k j) = (A4 m c (ix3 0 k j) : EReal) :=
  (iblk4 m c t k j).trans (congrFun (V_v4 m c) _)

/-- A tile's projection is its tokens'. -/
theorem zB_at (t : Fin grid0.N) (r : Fin 256) :
    zB (grid0.coords t) (iblk m c 0 t) (iblk m c 1 t) (iblk m c 2 t) (iblk m c 3 t) (iblk m c 4 t) r
      = proj (A0 m c) (A1 m c) (A2 m c) (A3 m c) (A4 m c) (tok t r) := by
  funext j
  unfold zB proj
  refine Finset.sum_congr rfl fun k _ => congrArg₂ (· * ·) ?_ (mat_at m c t k j)
  have e0 := funext fun k => row_at m c t r k
  have e1 := funext fun k => wt_at m c t k
  have e2 := funext fun k => mod_at m c t r (scc k)
  have e3 := funext fun k => mod_at m c t r (shc k)
  exact congrFun (congr (congr (congr (congrArg ada e0) e1) e2) e3) k

end Cert.PreIdeal.Hand
end
-- ==== Proof.PreOut.lean ====
/-
  Hand-written, untrusted. The input projection's result arrays.
-/
module

public import proofs.«01_k».proof.Proof.PreBlock

@[expose] public section

noncomputable section

namespace Cert.PreIdeal.Hand

open Cert.PreIdeal Cert.PreIdeal.Gen Idealize.ShloMosaic Idealize.ShloMosaic.TcCoe Idealize.ShloMosaic.StableHlo
open Cert.PreSpec

variable (m : (ℓ : Loc nD τ sig) → Buf (Elt Ideal) ℓ) (c : Dev nD)

/-- Result 0, whole. -/
def res5 : FVec Ideal S49152x512 .bf16 := fun i => glu (proj (A0 m c) (A1 m c) (A2 m c) (A3 m c) (A4 m c) (i 0)) (i 1)
theorem idx5 : ∀ t : Fin grid0.N, cc0_transform_5 (grid0.coords t) = ![t.val, 0] := by decide +kernel
theorem emb5 (t : Fin grid0.N) (r : Fin 256) (d : Fin 512) : ((win0_5.blk t).view.emb (ix2 r d : S256x512.Idx) : S49152x512.Idx) = ix2 (tok t r) d := by
  have e := idx5 t
  funext a; apply Fin.ext
  fin_cases a
  · show cc0_transform_5 (grid0.coords t) 0 * 256 + 1 * r.val = 256 * t.val + r.val
    rw [e]; show t.val * 256 + 1 * r.val = _; omega
  · show cc0_transform_5 (grid0.coords t) 1 * 512 + 1 * d.val = d.val
    rw [e]; show 0 * 512 + 1 * d.val = _; omega
theorem arr5 : (dats m 0 c).arrAt (5 : Fin 9) grid0.N = res5 m c := by
  refine Pipeline.Dat.arrAt_eq_of_emb (dats m 0 c) (5 : Fin 9) (res5 m c) (fun t _ y => ?_) (fun i => ?_)
  · have key : ∀ (r : Fin 256) (d : Fin 512), (out0_5 (grid0.coords t) (iblk m c 0 t) (iblk m c 1 t) (iblk m c 2 t) (iblk m c 3 t) (iblk m c 4 t) : FVec Ideal S256x512 .bf16) (ix2 r d) = res5 m c (ix2 (tok t r) d) := fun r d =>
      (out5_at _ _ _ _ _ _ r d).trans (congrArg (fun z => glu z d) (zB_at m c t r))
    refine (congrFun (Value.flushed5 m c t) y).trans ?_
    generalize out0_5 (grid0.coords t) (iblk m c 0 t) (iblk m c 1 t) (iblk m c 2 t) (iblk m c 3 t) (iblk m c 4 t) = o at key ⊢
    generalize res5 m c = g at key ⊢
    have ey : (y : S256x512.Idx) = ix2 (y 0) (y 1) := by funext a; fin_cases a <;> rfl
    show o y = g ((win0_5.blk t).view.emb y)
    exact (congrArg o ey).trans ((key _ _).trans (congrArg g ((emb5 t _ _).symm.trans (congrArg (fun y => (win0_5.blk t).view.emb y) ey.symm))))
  · have i0 : ((i : S49152x512.Idx) 0).val < 49152 := ((i : S49152x512.Idx) 0).isLt
    have hN : ((i : S49152x512.Idx) 0).val / 256 < grid0.N := by show _ < 192; omega
    refine ⟨⟨((i : S49152x512.Idx) 0).val / 256, hN⟩, flush0_5 _, ?_⟩
    have e : (i : S49152x512.Idx) = (win0_5.blk ⟨((i : S49152x512.Idx) 0).val / 256, hN⟩).view.emb (ix2 ⟨((i : S49152x512.Idx) 0).val % 256, Nat.mod_lt _ (by decide)⟩ (i 1) : S256x512.Idx) := by
      refine Eq.trans ?_ (emb5 _ _ _).symm
      funext a; apply Fin.ext
      fin_cases a
      · show ((i : S49152x512.Idx) 0).val = 256 * (((i : S49152x512.Idx) 0).val / 256) + ((i : S49152x512.Idx) 0).val % 256
        omega
      · rfl
    exact Eq.mpr (congrArg (fun z => z ∈ (win0_5.blk ⟨((i : S49152x512.Idx) 0).val / 256, hN⟩).view.set) e) (View.emb_mem_set _ _)

/-- Result 1, whole. -/
def res6 : FVec Ideal S49152x1024 .bf16 := fun i => qry (proj (A0 m c) (A1 m c) (A2 m c) (A3 m c) (A4 m c) (i 0)) (i 1)
theorem idx6 : ∀ t : Fin grid0.N, cc0_transform_6 (grid0.coords t) = ![t.val, 0] := by decide +kernel
theorem emb6 (t : Fin grid0.N) (r : Fin 256) (d : Fin 1024) : ((win0_6.blk t).view.emb (ix2 r d : S256x1024.Idx) : S49152x1024.Idx) = ix2 (tok t r) d := by
  have e := idx6 t
  funext a; apply Fin.ext
  fin_cases a
  · show cc0_transform_6 (grid0.coords t) 0 * 256 + 1 * r.val = 256 * t.val + r.val
    rw [e]; show t.val * 256 + 1 * r.val = _; omega
  · show cc0_transform_6 (grid0.coords t) 1 * 1024 + 1 * d.val = d.val
    rw [e]; show 0 * 1024 + 1 * d.val = _; omega
theorem arr6 : (dats m 0 c).arrAt (6 : Fin 9) grid0.N = res6 m c := by
  refine Pipeline.Dat.arrAt_eq_of_emb (dats m 0 c) (6 : Fin 9) (res6 m c) (fun t _ y => ?_) (fun i => ?_)
  · have key : ∀ (r : Fin 256) (d : Fin 1024), (out0_6 (grid0.coords t) (iblk m c 0 t) (iblk m c 1 t) (iblk m c 2 t) (iblk m c 3 t) (iblk m c 4 t) : FVec Ideal S256x1024 .bf16) (ix2 r d) = res6 m c (ix2 (tok t r) d) := fun r d =>
      (out6_at _ _ _ _ _ _ r d).trans (congrArg (fun z => qry z d) (zB_at m c t r))
    refine (congrFun (Value.flushed6 m c t) y).trans ?_
    generalize out0_6 (grid0.coords t) (iblk m c 0 t) (iblk m c 1 t) (iblk m c 2 t) (iblk m c 3 t) (iblk m c 4 t) = o at key ⊢
    generalize res6 m c = g at key ⊢
    have ey : (y : S256x1024.Idx) = ix2 (y 0) (y 1) := by funext a; fin_cases a <;> rfl
    show o y = g ((win0_6.blk t).view.emb y)
    exact (congrArg o ey).trans ((key _ _).trans (congrArg g ((emb6 t _ _).symm.trans (congrArg (fun y => (win0_6.blk t).view.emb y) ey.symm))))
  · have i0 : ((i : S49152x1024.Idx) 0).val < 49152 := ((i : S49152x1024.Idx) 0).isLt
    have hN : ((i : S49152x1024.Idx) 0).val / 256 < grid0.N := by show _ < 192; omega
    refine ⟨⟨((i : S49152x1024.Idx) 0).val / 256, hN⟩, flush0_6 _, ?_⟩
    have e : (i : S49152x1024.Idx) = (win0_6.blk ⟨((i : S49152x1024.Idx) 0).val / 256, hN⟩).view.emb (ix2 ⟨((i : S49152x1024.Idx) 0).val % 256, Nat.mod_lt _ (by decide)⟩ (i 1) : S256x1024.Idx) := by
      refine Eq.trans ?_ (emb6 _ _ _).symm
      funext a; apply Fin.ext
      fin_cases a
      · show ((i : S49152x1024.Idx) 0).val = 256 * (((i : S49152x1024.Idx) 0).val / 256) + ((i : S49152x1024.Idx) 0).val % 256
        omega
      · rfl
    exact Eq.mpr (congrArg (fun z => z ∈ (win0_6.blk ⟨((i : S49152x1024.Idx) 0).val / 256, hN⟩).view.set) e) (View.emb_mem_set _ _)

/-- Result 2, whole. -/
def res7 : FVec Ideal S49152x512 .bf16 := fun i => kvs (proj (A0 m c) (A1 m c) (A2 m c) (A3 m c) (A4 m c) (i 0)) (i 1)
theorem idx7 : ∀ t : Fin grid0.N, cc0_transform_7 (grid0.coords t) = ![t.val, 0] := by decide +kernel
theorem emb7 (t : Fin grid0.N) (r : Fin 256) (d : Fin 512) : ((win0_7.blk t).view.emb (ix2 r d : S256x512.Idx) : S49152x512.Idx) = ix2 (tok t r) d := by
  have e := idx7 t
  funext a; apply Fin.ext
  fin_cases a
  · show cc0_transform_7 (grid0.coords t) 0 * 256 + 1 * r.val = 256 * t.val + r.val
    rw [e]; show t.val * 256 + 1 * r.val = _; omega
  · show cc0_transform_7 (grid0.coords t) 1 * 512 + 1 * d.val = d.val
    rw [e]; show 0 * 512 + 1 * d.val = _; omega
theorem arr7 : (dats m 0 c).arrAt (7 : Fin 9) grid0.N = res7 m c := by
  refine Pipeline.Dat.arrAt_eq_of_emb (dats m 0 c) (7 : Fin 9) (res7 m c) (fun t _ y => ?_) (fun i => ?_)
  · have key : ∀ (r : Fin 256) (d : Fin 512), (out0_7 (grid0.coords t) (iblk m c 0 t) (iblk m c 1 t) (iblk m c 2 t) (iblk m c 3 t) (iblk m c 4 t) : FVec Ideal S256x512 .bf16) (ix2 r d) = res7 m c (ix2 (tok t r) d) := fun r d =>
      (out7_at _ _ _ _ _ _ r d).trans (congrArg (fun z => kvs z d) (zB_at m c t r))
    refine (congrFun (Value.flushed7 m c t) y).trans ?_
    generalize out0_7 (grid0.coords t) (iblk m c 0 t) (iblk m c 1 t) (iblk m c 2 t) (iblk m c 3 t) (iblk m c 4 t) = o at key ⊢
    generalize res7 m c = g at key ⊢
    have ey : (y : S256x512.Idx) = ix2 (y 0) (y 1) := by funext a; fin_cases a <;> rfl
    show o y = g ((win0_7.blk t).view.emb y)
    exact (congrArg o ey).trans ((key _ _).trans (congrArg g ((emb7 t _ _).symm.trans (congrArg (fun y => (win0_7.blk t).view.emb y) ey.symm))))
  · have i0 : ((i : S49152x512.Idx) 0).val < 49152 := ((i : S49152x512.Idx) 0).isLt
    have hN : ((i : S49152x512.Idx) 0).val / 256 < grid0.N := by show _ < 192; omega
    refine ⟨⟨((i : S49152x512.Idx) 0).val / 256, hN⟩, flush0_7 _, ?_⟩
    have e : (i : S49152x512.Idx) = (win0_7.blk ⟨((i : S49152x512.Idx) 0).val / 256, hN⟩).view.emb (ix2 ⟨((i : S49152x512.Idx) 0).val % 256, Nat.mod_lt _ (by decide)⟩ (i 1) : S256x512.Idx) := by
      refine Eq.trans ?_ (emb7 _ _ _).symm
      funext a; apply Fin.ext
      fin_cases a
      · show ((i : S49152x512.Idx) 0).val = 256 * (((i : S49152x512.Idx) 0).val / 256) + ((i : S49152x512.Idx) 0).val % 256
        omega
      · rfl
    exact Eq.mpr (congrArg (fun z => z ∈ (win0_7.blk ⟨((i : S49152x512.Idx) 0).val / 256, hN⟩).view.set) e) (View.emb_mem_set _ _)

/-- Result 3, whole. -/
def res8 : FVec Ideal S49152x1024 .bf16 := fun i => cnv (proj (A0 m c) (A1 m c) (A2 m c) (A3 m c) (A4 m c) (i 0)) (i 1)
theorem idx8 : ∀ t : Fin grid0.N, cc0_transform_8 (grid0.coords t) = ![t.val, 0] := by decide +kernel
theorem emb8 (t : Fin grid0.N) (r : Fin 256) (d : Fin 1024) : ((win0_8.blk t).view.emb (ix2 r d : S256x1024.Idx) : S49152x1024.Idx) = ix2 (tok t r) d := by
  have e := idx8 t
  funext a; apply Fin.ext
  fin_cases a
  · show cc0_transform_8 (grid0.coords t) 0 * 256 + 1 * r.val = 256 * t.val + r.val
    rw [e]; show t.val * 256 + 1 * r.val = _; omega
  · show cc0_transform_8 (grid0.coords t) 1 * 1024 + 1 * d.val = d.val
    rw [e]; show 0 * 1024 + 1 * d.val = _; omega
theorem arr8 : (dats m 0 c).arrAt (8 : Fin 9) grid0.N = res8 m c := by
  refine Pipeline.Dat.arrAt_eq_of_emb (dats m 0 c) (8 : Fin 9) (res8 m c) (fun t _ y => ?_) (fun i => ?_)
  · have key : ∀ (r : Fin 256) (d : Fin 1024), (out0_8 (grid0.coords t) (iblk m c 0 t) (iblk m c 1 t) (iblk m c 2 t) (iblk m c 3 t) (iblk m c 4 t) : FVec Ideal S256x1024 .bf16) (ix2 r d) = res8 m c (ix2 (tok t r) d) := fun r d =>
      (out8_at _ _ _ _ _ _ r d).trans (congrArg (fun z => cnv z d) (zB_at m c t r))
    refine (congrFun (Value.flushed8 m c t) y).trans ?_
    generalize out0_8 (grid0.coords t) (iblk m c 0 t) (iblk m c 1 t) (iblk m c 2 t) (iblk m c 3 t) (iblk m c 4 t) = o at key ⊢
    generalize res8 m c = g at key ⊢
    have ey : (y : S256x1024.Idx) = ix2 (y 0) (y 1) := by funext a; fin_cases a <;> rfl
    show o y = g ((win0_8.blk t).view.emb y)
    exact (congrArg o ey).trans ((key _ _).trans (congrArg g ((emb8 t _ _).symm.trans (congrArg (fun y => (win0_8.blk t).view.emb y) ey.symm))))
  · have i0 : ((i : S49152x1024.Idx) 0).val < 49152 := ((i : S49152x1024.Idx) 0).isLt
    have hN : ((i : S49152x1024.Idx) 0).val / 256 < grid0.N := by show _ < 192; omega
    refine ⟨⟨((i : S49152x1024.Idx) 0).val / 256, hN⟩, flush0_8 _, ?_⟩
    have e : (i : S49152x1024.Idx) = (win0_8.blk ⟨((i : S49152x1024.Idx) 0).val / 256, hN⟩).view.emb (ix2 ⟨((i : S49152x1024.Idx) 0).val % 256, Nat.mod_lt _ (by decide)⟩ (i 1) : S256x1024.Idx) := by
      refine Eq.trans ?_ (emb8 _ _ _).symm
      funext a; apply Fin.ext
      fin_cases a
      · show ((i : S49152x1024.Idx) 0).val = 256 * (((i : S49152x1024.Idx) 0).val / 256) + ((i : S49152x1024.Idx) 0).val % 256
        omega
      · rfl
    exact Eq.mpr (congrArg (fun z => z ∈ (win0_8.blk ⟨((i : S49152x1024.Idx) 0).val / 256, hN⟩).view.set) e) (View.emb_mem_set _ _)

end Cert.PreIdeal.Hand
end
-- ==== Proof.PreRef.lean ====
/-
  Hand-written, untrusted. The results of the input projection's reference, index by index.
-/
module

public import proofs.«01_k».proof.Proof.PreSpec
public import proofs.«01_k».proof.Proof.Gen.PreRefIdeal.Run
public import Idealize.ShloMosaic.Lib.Pointwise

@[expose] public section

noncomputable section

namespace Cert.PreRefIdeal.Hand

open Cert.PreRefIdeal Cert.PreRefIdeal.Gen Cert.PreRefIdeal.Value Idealize.ShloMosaic Idealize.ShloMosaic.TcCoe Idealize.ShloMosaic.StableHlo
open Cert.PreSpec

section
variable (xp : FVec Ideal S1x16384x2048 .f32) (xs : FVec Ideal S4x8192x2048 .f32) (md : FVec Ideal S2x8x12288 .f32)
  (g : FVec Ideal S2x2048 .f32) (w : FVec Ideal S2x2048x4096 .f32)

/-- The tokens, the prompt's before the samples'. -/
def xAll : FVec Ideal S49152x2048 .f32 :=
  concatenate S49152x2048 0 [⟨S16384x2048, (shapeCast _ xp shapeCasts_S1x16384x2048_S16384x2048)⟩, ⟨S32768x2048, (shapeCast _ xs shapeCasts_S4x8192x2048_S32768x2048)⟩] concatenates_S16384x2048_S32768x2048_S49152x2048_d0
/-- The modulation of each token. -/
def mAll : FVec Ideal S49152x12288 .f32 :=
  concatenate S49152x12288 0 [⟨S16384x12288, (broadcastInDim S16384x12288 ![0, 1] bcast_S1x12288_S16384x12288_0_1 (shapeCast _ (extractStridedSlice S1x1x12288 ![0, 0, 0] md slices_S2x8x12288_S1x1x12288_0_0_0) shapeCasts_S1x1x12288_S1x12288))⟩, ⟨S32768x12288, (shapeCast _ (broadcastInDim S4x8192x12288 ![0, 2] bcast_S4x12288_S4x8192x12288_0_2 (shapeCast _ (extractStridedSlice S1x4x12288 ![0, 1, 0] md slices_S2x8x12288_S1x4x12288_0_1_0) shapeCasts_S1x4x12288_S4x12288)) shapeCasts_S4x8192x12288_S32768x12288)⟩] concatenates_S16384x12288_S32768x12288_S49152x12288_d0
/-- The normed rows, modulated. -/
def hAll (x : FVec Ideal S49152x2048 .f32) (mm : FVec Ideal S49152x12288 .f32) : FVec Ideal S49152x2048 .f32 :=
  addf (mulf (mulf (mulf x (broadcastInDim S49152x2048 ![0, 1] bcast_S49152x1_S49152x2048_0_1 (Host.rsqrt (addf (Host.divf (broadcastInDim S49152x1 ![0] bcast_S49152_S49152x1_0 (Host.reduceAdd (mulf x x) (constant (F := Ideal) S_ .f32 0x00000000#32) reducesTo_S49152x2048_S49152_d1 h_S_)) (broadcastInDim S49152x1 ![] bcast_S_S49152x1 (constant (F := Ideal) S_ .f32 0x45000000#32))) (broadcastInDim S49152x1 ![] bcast_S_S49152x1 (constant (F := Ideal) S_ .f32 0x358637BD#32)))))) (broadcastInDim S49152x2048 ![0, 1] bcast_S1x2048_S49152x2048_0_1 (broadcastInDim S1x2048 ![1] bcast_S2048_S1x2048_1 (shapeCast _ (extractStridedSlice S1x2048 ![0, 0] g slices_S2x2048_S1x2048_0_0) shapeCasts_S1x2048_S2048)))) (addf (broadcastInDim S49152x2048 ![] bcast_S_S49152x2048 (constant (F := Ideal) S_ .f32 0x3F800000#32)) (extractStridedSlice S49152x2048 ![0, 2048] mm slices_S49152x12288_S49152x2048_0_2048))) (extractStridedSlice S49152x2048 ![0, 0] mm slices_S49152x12288_S49152x2048_0_0)
/-- The projection. -/
def zOf (h : FVec Ideal S49152x2048 .f32) : FVec Ideal S49152x4096 .f32 :=
  Host.dotGeneral dot_S49152x2048_S2048x4096_S49152x4096_1_0_0_1_n_n none h (shapeCast _ (extractStridedSlice S1x2048x4096 ![0, 0, 0] w slices_S2x2048x4096_S1x2048x4096_0_0_0) shapeCasts_S1x2048x4096_S2048x4096)
def zAll : FVec Ideal S49152x4096 .f32 := zOf w (hAll g (xAll xp xs) (mAll md))

theorem xAll_at (s : Fin 49152) (k : Fin 2048) : xAll xp xs (ix2 s k) = row xp xs s k := by
  unfold xAll row
  pointwise
theorem mAll_at (s : Fin 49152) (k : Fin 12288) : mAll md (ix2 s k) = md (ix3 0 (seqOf s) k) := by
  unfold mAll seqOf
  pointwise
  split <;> rfl
theorem hAll_at (x : FVec Ideal S49152x2048 .f32) (mm : FVec Ideal S49152x12288 .f32) (s : Fin 49152) (k : Fin 2048) :
    hAll g x mm (ix2 s k) = ada (fun k => x (ix2 s k)) (fun k => g (ix2 0 k)) (fun k => mm (ix2 s (scc k))) (fun k => mm (ix2 s (shc k))) k := by
  unfold hAll ada nrm
  pointwise
  rfl
theorem zOf_at (h : FVec Ideal S49152x2048 .f32) (s : Fin 49152) (j : Fin 4096) : zOf w h (ix2 s j) = ∑ k, h (ix2 s k) * w (ix3 0 k j) := by
  unfold zOf
  pointwise [dot_S49152x2048_S2048x4096_S49152x4096_1_0_0_1_n_n]
theorem zAll_at (s : Fin 49152) (j : Fin 4096) : zAll xp xs md g w (ix2 s j) = proj xp xs md g w s j := by
  unfold zAll proj
  refine (zOf_at _ _ s j).trans (Finset.sum_congr rfl fun k _ => ?_)
  rw [hAll_at]
  simp only [xAll_at, mAll_at]
end

section
variable (z : FVec Ideal S49152x4096 .f32) (s : Fin 49152)

theorem glu_at (d : Fin 512) :
    truncf (F := Ideal) .bf16 (mulf (extractStridedSlice S49152x512 ![0, 0] z slices_S49152x4096_S49152x512_0_0) (Host.divf (broadcastInDim S49152x512 ![] bcast_S_S49152x512 (constant (F := Ideal) S_ .f32 0x3F800000#32)) (addf (broadcastInDim S49152x512 ![] bcast_S_S49152x512 (constant (F := Ideal) S_ .f32 0x3F800000#32)) (Host.exp (Host.negf (extractStridedSlice S49152x512 ![0, 512] z slices_S49152x4096_S49152x512_0_512)))))) bitsLt_bf16_f32 (ix2 s d)
      = glu (fun j => z (ix2 s j)) d := by
  unfold glu
  pointwise
theorem qry_at (d : Fin 1024) :
    truncf (F := Ideal) .bf16 (mulf (extractStridedSlice S49152x1024 ![0, 1024] z slices_S49152x4096_S49152x1024_0_1024) (broadcastInDim S49152x1024 ![] bcast_S_S49152x1024 (constant (F := Ideal) S_ .f32 0x3E0293EE#32))) bitsLt_bf16_f32 (ix2 s d)
      = qry (fun j => z (ix2 s j)) d := by
  unfold qry
  pointwise
theorem kvs_at (d : Fin 512) :
    truncf (F := Ideal) .bf16 (extractStridedSlice S49152x512 ![0, 2048] z slices_S49152x4096_S49152x512_0_2048) bitsLt_bf16_f32 (ix2 s d)
      = kvs (fun j => z (ix2 s j)) d := by
  unfold kvs
  pointwise
theorem cnv_at (d : Fin 1024) :
    truncf (F := Ideal) .bf16 (concatenate S49152x1024 1 [⟨S49152x512, (mulf (extractStridedSlice S49152x512 ![0, 3584] z slices_S49152x4096_S49152x512_0_3584) (extractStridedSlice S49152x512 ![0, 2560] z slices_S49152x4096_S49152x512_0_2560))⟩, ⟨S49152x512, (extractStridedSlice S49152x512 ![0, 3072] z slices_S49152x4096_S49152x512_0_3072)⟩] concatenates_S49152x512_S49152x512_S49152x1024_d1) bitsLt_bf16_f32 (ix2 s d)
      = cnv (fun j => z (ix2 s j)) d := by
  unfold cnv
  pointwise
end

end Cert.PreRefIdeal.Hand
end
-- ==== Proof.PreCompare.lean ====
/-
  Hand-written, untrusted. The input projection's results are its reference's, over the extended reals.
-/
module

public import proofs.«01_k».proof.Proof.PreOut
public import proofs.«01_k».proof.Proof.PreRef
public import proofs.«01_k».proof.Proof.PreFrame

@[expose] public section

noncomputable section

namespace Cert.Proof

open Idealize.ShloMosaic Idealize.SL.Sem Cert.PreSpec

/-- Equal arguments, equal projections. -/
theorem proj_congr (s : Fin 49152) {a0 b0 : (⟨3, ![1, 16384, 2048]⟩ : Shape).Idx → EReal} {a1 b1 : (⟨3, ![4, 8192, 2048]⟩ : Shape).Idx → EReal}
    {a2 b2 : (⟨3, ![2, 8, 12288]⟩ : Shape).Idx → EReal} {a3 b3 : (⟨2, ![2, 2048]⟩ : Shape).Idx → EReal} {a4 b4 : (⟨3, ![2, 2048, 4096]⟩ : Shape).Idx → EReal}
    (h0 : a0 = b0) (h1 : a1 = b1) (h2 : a2 = b2) (h3 : a3 = b3) (h4 : a4 = b4) : proj a0 a1 a2 a3 a4 s = proj b0 b1 b2 b3 b4 s := by
  subst h0 h1 h2 h3 h4
  rfl

section
variable (m : (ℓ : Loc Cert.PreIdeal.nD Cert.PreIdeal.τ Cert.PreIdeal.sig) → Buf (Elt Ideal) ℓ)
  (m' : (ℓ : Loc Cert.PreRefIdeal.nD Cert.PreRefIdeal.τ Cert.PreRefIdeal.sig) → Buf (Elt Ideal) ℓ)
  (c : Dev Cert.PreIdeal.nD)

/-- The reference's projection, of the arguments it is launched with. -/
def refZ : FVec Ideal Cert.PreRefIdeal.S49152x4096 .f32 :=
  Cert.PreRefIdeal.Hand.zAll (m' ((c.tc : Thread Cert.PreRefIdeal.nD Cert.PreRefIdeal.τ).loc Cert.PreRefIdeal.main_arg0))
    (m' ((c.tc : Thread Cert.PreRefIdeal.nD Cert.PreRefIdeal.τ).loc Cert.PreRefIdeal.main_arg1))
    (m' ((c.tc : Thread Cert.PreRefIdeal.nD Cert.PreRefIdeal.τ).loc Cert.PreRefIdeal.main_arg2))
    (m' ((c.tc : Thread Cert.PreRefIdeal.nD Cert.PreRefIdeal.τ).loc Cert.PreRefIdeal.main_arg3))
    (m' ((c.tc : Thread Cert.PreRefIdeal.nD Cert.PreRefIdeal.τ).loc Cert.PreRefIdeal.main_arg4))

/-- The kernel's projection of a token, of the arguments it is launched with. -/
def kerZ (s : Fin 49152) : Fin 4096 → EReal :=
  proj (Cert.PreIdeal.Hand.A0 m c) (Cert.PreIdeal.Hand.A1 m c) (Cert.PreIdeal.Hand.A2 m c) (Cert.PreIdeal.Hand.A3 m c) (Cert.PreIdeal.Hand.A4 m c) s
end

/-- From launches that agree on the arguments, the two programs end with the same four arrays. -/
theorem algebraic_pre : Cert.algebraic_PreIdeal_PreRefIdeal := by
  intro m g m' g' _ hargs
  refine ⟨fun c => Cert.PreIdeal.Hand.res5 m c, fun c => Cert.PreIdeal.Hand.res6 m c, fun c => Cert.PreIdeal.Hand.res7 m c, fun c => Cert.PreIdeal.Hand.res8 m c, ?_, ?_⟩
  · exact (θ_run (Cert.PreIdeal.defs (F := Ideal)) _ _).mono
      (fun r h c => ⟨(h c).1.trans (Cert.PreIdeal.Hand.arr5 m c), (h c).2.1.trans (Cert.PreIdeal.Hand.arr6 m c), (h c).2.2.1.trans (Cert.PreIdeal.Hand.arr7 m c),
        (h c).2.2.2.1.trans (Cert.PreIdeal.Hand.arr8 m c), (h c).2.2.2.2⟩)
      (Cert.PreIdeal.Value.run_blocks (F := Ideal) m g)
  · have z : ∀ (c : Dev Cert.PreIdeal.nD) (s : Fin 49152), (fun j => (refZ m' c (ix2 s j) : EReal)) = kerZ m c s := by
      intro c s
      obtain ⟨a0, a1, a2, a3, a4⟩ := hargs c
      exact (funext fun j => Cert.PreRefIdeal.Hand.zAll_at _ _ _ _ _ s j).trans (proj_congr s a0 a1 a2 a3 a4)
    refine (θ_run (Cert.PreRefIdeal.defs (F := Ideal)) _ _).mono (fun r h c => ⟨(h c).1.trans ?_, (h c).2.1.trans ?_, (h c).2.2.1.trans ?_, (h c).2.2.2.1.trans ?_, (h c).2.2.2.2⟩)
      (Cert.PreRefIdeal.Value.run (F := Ideal) m' g')
    · funext i
      have e : i = ix2 (i 0) (i 1) := by funext a; fin_cases a <;> rfl
      rw [e]
      exact (Cert.PreRefIdeal.Hand.glu_at (refZ m' c) _ _).trans (congrArg (fun z => glu z (i 1)) (z c (i 0)))
    · funext i
      have e : i = ix2 (i 0) (i 1) := by funext a; fin_cases a <;> rfl
      rw [e]
      exact (Cert.PreRefIdeal.Hand.qry_at (refZ m' c) _ _).trans (congrArg (fun z => qry z (i 1)) (z c (i 0)))
    · funext i
      have e : i = ix2 (i 0) (i 1) := by funext a; fin_cases a <;> rfl
      rw [e]
      exact (Cert.PreRefIdeal.Hand.kvs_at (refZ m' c) _ _).trans (congrArg (fun z => kvs z (i 1)) (z c (i 0)))
    · funext i
      have e : i = ix2 (i 0) (i 1) := by funext a; fin_cases a <;> rfl
      rw [e]
      exact (Cert.PreRefIdeal.Hand.cnv_at (refZ m' c) _ _).trans (congrArg (fun z => cnv z (i 1)) (z c (i 0)))

end Cert.Proof
end
-- ==== Proof.lean ====
/- The certificate: the runs of the kernel's two readings, the run of the reference, the named constant, and the equality of their results. -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.ReferenceIdeal.Run
public import proofs.«01_k».proof.Proof.Gen.Pre_in_range
public import proofs.«01_k».proof.Proof.Frame
public import proofs.«01_k».proof.Proof.KernelFrame
public import proofs.«01_k».proof.Proof.Compare
public import proofs.«01_k».proof.Proof.Gen.Pre
public import proofs.«01_k».proof.Proof.Gen.PreIdeal.Value
public import proofs.«01_k».proof.Proof.Gen.PreRefIdeal.Run
public import proofs.«01_k».proof.Proof.PreFrame
public import proofs.«01_k».proof.Proof.PreCompare

@[expose] public section

noncomputable section

namespace Cert.Proof

open Idealize.ShloMosaic Idealize.SL.Sem

/-- The kernel over the extended reals. -/
theorem frame_ideal : Cert.quiescent_KernelIdeal := fun m ρ h =>
  (θ_run (Cert.KernelIdeal.defs (F := Ideal)) _ _).mono (fun _ h => h.1)
    (Cert.KernelIdeal.Hand.run_args (F := Ideal) m (Cert.KernelIdeal.Hand.good_of m (h 0)) ρ)

/-- The reference over the extended reals. -/
theorem frame_reference : Cert.quiescent_ReferenceIdeal := fun m ρ _ =>
  (θ_run (Cert.ReferenceIdeal.defs (F := Ideal)) _ _).mono
    (fun r h => ⟨fun c => (h c).2, Idealize.ShloMosaic.sem_eq_zero_of_no_sems (by decide) r.2⟩)
    (Cert.ReferenceIdeal.Value.run (F := Ideal) m ρ)

/-- The one named constant: the mask, which is minus infinity. -/
theorem preserves : Cert.preserves_Kernel_KernelIdeal :=
  IdealRules.named_const.statement Cert.KernelIdeal.κ "mask" .f32 0xF149F2CA#32 ⊥ rfl

theorem claim : Cert.Claim :=
  ⟨Cert.Kernel.Gen.facts, Cert.KernelIdeal.Gen.facts, Cert.ReferenceIdeal.Gen.facts, Cert.Pre.Gen.facts, Cert.PreIdeal.Gen.facts,
    Cert.PreRefIdeal.Gen.facts, Cert.Pre_in_range.Gen.facts,
    frame_kernel, frame_ideal, frame_reference, frame_pre, frame_pre_ideal, frame_pre_reference,
    preserves, algebraic, preserves_pre, algebraic_pre⟩

end Cert.Proof
end
